-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_real_rows_pre_finite [hKernelIdeal : Cert.KernelIdeal.Facts] [hReferenceIdeal : Cert.ReferenceIdeal.Facts] [hPre_finite : Cert.Pre_finite.Facts] [hOn_real_rows : Cert.On_real_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 8448, 512]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.KernelIdeal.nD Cert.KernelIdeal.τ).loc Cert.KernelIdeal.main_v56) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 8448, 512]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.ReferenceIdeal.nD Cert.ReferenceIdeal.τ).loc Cert.ReferenceIdeal.main_v33) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_on_real_rows2 [hKernel2Ideal : Cert.Kernel2Ideal.Facts] [hReference2Ideal : Cert.Reference2Ideal.Facts] [hOn_real_rows2 : Cert.On_real_rows2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨3, ![2, 8448, 1024]⟩ : Shape).Idx, (Cert.On_real_rows2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) i = 1#1 → r.2.mem ((c.tc : Thread Cert.Kernel2Ideal.nD Cert.Kernel2Ideal.τ).loc Cert.Kernel2Ideal.main_v15) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨3, ![2, 8448, 1024]⟩ : Shape).Idx, (Cert.On_real_rows2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) i = 1#1 → r.2.mem ((c.tc : Thread Cert.Reference2Ideal.nD Cert.Reference2Ideal.τ).loc Cert.Reference2Ideal.main_v62) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hOn_real_rows : Cert.On_real_rows.Facts) (hOn_real_rows2 : Cert.On_real_rows2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_on_real_rows_pre_finite (hKernelIdeal := hKernelIdeal) (hReferenceIdeal := hReferenceIdeal) (hPre_finite := hPre_finite) (hOn_real_rows := hOn_real_rows)
    ∧ preserves_Kernel2_Kernel2Ideal
    ∧ algebraic_Kernel2Ideal_Reference2Ideal_on_real_rows2 (hKernel2Ideal := hKernel2Ideal) (hReference2Ideal := hReference2Ideal) (hOn_real_rows2 := hOn_real_rows2)
-- ==== On_real_rows.lean ====
abbrev S2x8208x8x64 : Shape := ⟨4, ![2, 8208, 8, 64]⟩
abbrev S2x8208x8 : Shape := ⟨3, ![2, 8208, 8]⟩
abbrev S2x8448x512 : Shape := ⟨3, ![2, 8448, 512]⟩
abbrev S_ : Shape := ⟨0, ![]⟩

class Facts : Prop where
  bcast_S_S2x8448x512 : S_.BroadcastsInDim S2x8448x512 (![] : Fin 0 → Fin S2x8448x512.rank)

variable [Facts]

def fn {F : FTy → Type} [FloatOps F] (main_arg0 : FVec F S2x8208x8x64 .f32) (main_arg1 : FVec F S2x8208x8x64 .f32) (main_arg2 : FVec F S2x8208x8x64 .f32) (main_arg3 : FVec F S2x8208x8 .f32) : IVec S2x8448x512 1 :=
  let main_v0 : IVec S2x8448x512 32 := iotaInDim S2x8448x512 32 1
  let main_c : IVec S_ 32 := constantI S_ 32 8208#32
  let main_v1 : IVec S2x8448x512 32 := broadcastInDim S2x8448x512 ![] bcast_S_S2x8448x512 main_c
  let main_v2 : IVec S2x8448x512 1 := cmpi .slt main_v0 main_v1
  main_v2
-- ==== On_real_rows2.lean ====
abbrev S2x8208x1024 : Shape := ⟨3, ![2, 8208, 1024]⟩
abbrev S2x8208x512 : Shape := ⟨3, ![2, 8208, 512]⟩
abbrev S4x1024x1024 : Shape := ⟨3, ![4, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S2x8448x1024 : Shape := ⟨3, ![2, 8448, 1024]⟩
abbrev S_ : Shape := ⟨0, ![]⟩

class Facts : Prop where
  bcast_S_S2x8448x1024 : S_.BroadcastsInDim S2x8448x1024 (![] : Fin 0 → Fin S2x8448x1024.rank)

variable [Facts]

def fn {F : FTy → Type} [FloatOps F] (main_arg0 : FVec F S2x8208x1024 .f32) (main_arg1 : FVec F S2x8208x512 .f32) (main_arg2 : FVec F S2x8208x512 .f32) (main_arg3 : FVec F S4x1024x1024 .f32) (main_arg4 : FVec F S4x1024 .f32) (main_arg5 : FVec F S4x1024 .f32) (main_arg6 : FVec F S4x1024 .f32) (main_arg7 : FVec F S4x1024x2816 .f32) (main_arg8 : FVec F S4x1024x2816 .f32) (main_arg9 : FVec F S4x2816x1024 .f32) : IVec S2x8448x1024 1 :=
  let main_v0 : IVec S2x8448x1024 32 := iotaInDim S2x8448x1024 32 1
  let main_c : IVec S_ 32 := constantI S_ 32 8208#32
  let main_v1 : IVec S2x8448x1024 32 := broadcastInDim S2x8448x1024 ![] bcast_S_S2x8448x1024 main_c
  let main_v2 : IVec S2x8448x1024 1 := cmpi .slt main_v0 main_v1
  main_v2
-- ==== Pre_finite.lean ====
abbrev S2x8208x8x64 : Shape := ⟨4, ![2, 8208, 8, 64]⟩
abbrev S2x8208x8 : Shape := ⟨3, ![2, 8208, 8]⟩
abbrev S_ : Shape := ⟨0, ![]⟩

class Facts : Prop where
  bcast_S_S2x8208x8x64 : S_.BroadcastsInDim S2x8208x8x64 (![] : Fin 0 → Fin S2x8208x8x64.rank)
  reducesTo_S2x8208x8x64_S_d0_1_2_3 : S2x8208x8x64.ReducesTo [0, 1, 2, 3] S_
  h_S_ : 0 < S_.numel
  bcast_S_S2x8208x8 : S_.BroadcastsInDim S2x8208x8 (![] : Fin 0 → Fin S2x8208x8.rank)
  reducesTo_S2x8208x8_S_d0_1_2 : S2x8208x8.ReducesTo [0, 1, 2] S_

variable [Facts]

def fn {F : FTy → Type} [FloatOps F] (main_arg0 : FVec F S2x8208x8x64 .f32) (main_arg1 : FVec F S2x8208x8x64 .f32) (main_arg2 : FVec F S2x8208x8x64 .f32) (main_arg3 : FVec F S2x8208x8 .f32) : IVec S_ 1 :=
  let main_v0 : FVec F S2x8208x8x64 .f32 := Host.absf main_arg0
  let main_cst : FVec F S_ .f32 := constant S_ .f32 0x7F800000#32
  let main_v1 : FVec F S2x8208x8x64 .f32 := broadcastInDim S2x8208x8x64 ![] bcast_S_S2x8208x8x64 main_cst
  let main_v2 : IVec S2x8208x8x64 1 := cmpf .olt main_v0 main_v1
  let main_c : IVec S_ 1 := constantI S_ 1 1#1
  let main_v3 : IVec S_ 1 := (fun x v => Host.reduce IntOp.andi x v reducesTo_S2x8208x8x64_S_d0_1_2_3 h_S_) main_v2 main_c
  let main_v4 : FVec F S2x8208x8x64 .f32 := Host.absf main_arg1
  let main_cst_0 : FVec F S_ .f32 := constant S_ .f32 0x7F800000#32
  let main_v5 : FVec F S2x8208x8x64 .f32 := broadcastInDim S2x8208x8x64 ![] bcast_S_S2x8208x8x64 main_cst_0
  let main_v6 : IVec S2x8208x8x64 1 := cmpf .olt main_v4 main_v5
  let main_c_1 : IVec S_ 1 := constantI S_ 1 1#1
  let main_v7 : IVec S_ 1 := (fun x v => Host.reduce IntOp.andi x v reducesTo_S2x8208x8x64_S_d0_1_2_3 h_S_) main_v6 main_c_1
  let main_v8 : IVec S_ 1 := andi main_v3 main_v7
  let main_v9 : FVec F S2x8208x8 .f32 := Host.absf main_arg3
  let main_cst_2 : FVec F S_ .f32 := constant S_ .f32 0x7F800000#32
  let main_v10 : FVec F S2x8208x8 .f32 := broadcastInDim S2x8208x8 ![] bcast_S_S2x8208x8 main_cst_2
  let main_v11 : IVec S2x8208x8 1 := cmpf .olt main_v9 main_v10
  let main_c_3 : IVec S_ 1 := constantI S_ 1 1#1
  let main_v12 : IVec S_ 1 := (fun x v => Host.reduce IntOp.andi x v reducesTo_S2x8208x8_S_d0_1_2 h_S_) main_v11 main_c_3
  let main_v13 : IVec S_ 1 := andi main_v8 main_v12
  main_v13
-- ==== Kernel.lean ====
abbrev S2x8208x8x64 : Shape := ⟨4, ![2, 8208, 8, 64]⟩
abbrev S2x8208x8 : Shape := ⟨3, ![2, 8208, 8]⟩
abbrev S_ : Shape := ⟨0, ![]⟩
abbrev S2x8448x8x64 : Shape := ⟨4, ![2, 8448, 8, 64]⟩
abbrev S2x8448x8 : Shape := ⟨3, ![2, 8448, 8]⟩
abbrev S2x8448x8x1 : Shape := ⟨4, ![2, 8448, 8, 1]⟩
abbrev S2x8448x8x3 : Shape := ⟨4, ![2, 8448, 8, 3]⟩
abbrev S2x8448x8x6 : Shape := ⟨4, ![2, 8448, 8, 6]⟩
abbrev S1x1x8x1 : Shape := ⟨4, ![1, 1, 8, 1]⟩
abbrev S2x8448x8x128 : Shape := ⟨4, ![2, 8448, 8, 128]⟩
abbrev S2x8x8448x128 : Shape := ⟨4, ![2, 8, 8448, 128]⟩
abbrev S2x8x128x8448 : Shape := ⟨4, ![2, 8, 128, 8448]⟩
abbrev S2x8448x512 : Shape := ⟨3, ![2, 8448, 512]⟩
abbrev S1x2x768x128 : Shape := ⟨4, ![1, 2, 768, 128]⟩
abbrev S1x2x8448x128 : Shape := ⟨4, ![1, 2, 8448, 128]⟩
abbrev S1x2x128x8448 : Shape := ⟨4, ![1, 2, 128, 8448]⟩
abbrev S1x768x128 : Shape := ⟨3, ![1, 768, 128]⟩
abbrev S2x768x768 : Shape := ⟨3, ![2, 768, 768]⟩
abbrev S2x1x768 : Shape := ⟨3, ![2, 1, 768]⟩
abbrev S2x128x768 : Shape := ⟨3, ![2, 128, 768]⟩
abbrev S1x1x768x128 : Shape := ⟨4, ![1, 1, 768, 128]⟩
abbrev S768x128 : Shape := ⟨2, ![768, 128]⟩
abbrev S768x768 : Shape := ⟨2, ![768, 768]⟩
abbrev S1x768x768 : Shape := ⟨3, ![1, 768, 768]⟩
abbrev S1x1x768 : Shape := ⟨3, ![1, 1, 768]⟩
abbrev S1x768 : Shape := ⟨2, ![1, 768]⟩
abbrev S768 : Shape := ⟨1, ![768]⟩
abbrev S1x128x768 : Shape := ⟨3, ![1, 128, 768]⟩
abbrev S128x768 : Shape := ⟨2, ![128, 768]⟩
abbrev S1x1x128x768 : Shape := ⟨4, ![1, 1, 128, 768]⟩
abbrev S1x256x256 : Shape := ⟨3, ![1, 256, 256]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x128x256 : Shape := ⟨3, ![1, 128, 256]⟩
abbrev S128x256 : Shape := ⟨2, ![128, 256]⟩
abbrev S1x1x128x256 : Shape := ⟨4, ![1, 1, 128, 256]⟩
abbrev S1x512x256 : Shape := ⟨3, ![1, 512, 256]⟩
abbrev S512x256 : Shape := ⟨2, ![512, 256]⟩
abbrev S1x1x128x512 : Shape := ⟨4, ![1, 1, 128, 512]⟩
abbrev S128x512 : Shape := ⟨2, ![128, 512]⟩
abbrev S1x768x256 : Shape := ⟨3, ![1, 768, 256]⟩
abbrev S768x256 : Shape := ⟨2, ![768, 256]⟩

abbrev nBuf : Space → Nat
  | .hbm => 150
  | .vmem => 12
  | .smem => 0
  | _ => 0

abbrev hbmTy0_0 (i : Nat) : BufTy := match i % 128 with
  | 0 => ⟨S2x8208x8x64, .f32⟩
  | 1 => ⟨S2x8208x8x64, .f32⟩
  | 2 => ⟨S2x8208x8x64, .f32⟩
  | 3 => ⟨S2x8208x8, .f32⟩
  | 4 => ⟨S_, .i32⟩
  | 5 => ⟨S_, .f32⟩
  | 6 => ⟨S2x8448x8x64, .f32⟩
  | 7 => ⟨S_, .i32⟩
  | 8 => ⟨S_, .f32⟩
  | 9 => ⟨S2x8448x8x64, .f32⟩
  | 10 => ⟨S_, .i32⟩
  | 11 => ⟨S_, .f32⟩
  | 12 => ⟨S2x8448x8x64, .f32⟩
  | 13 => ⟨S_, .i32⟩
  | 14 => ⟨S_, .f32⟩
  | 15 => ⟨S2x8448x8, .f32⟩
  | 16 => ⟨S2x8448x8, .bf16⟩
  | 17 => ⟨S2x8448x8, .f32⟩
  | 18 => ⟨S2x8448x8, .f32⟩
  | 19 => ⟨S2x8448x8, .bf16⟩
  | 20 => ⟨S2x8448x8, .f32⟩
  | 21 => ⟨S2x8448x8, .f32⟩
  | 22 => ⟨S2x8448x8, .bf16⟩
  | 23 => ⟨S2x8448x8, .f32⟩
  | 24 => ⟨S2x8448x8, .f32⟩
  | 25 => ⟨S2x8448x8, .f32⟩
  | 26 => ⟨S2x8448x8x1, .f32⟩
  | 27 => ⟨S2x8448x8x1, .f32⟩
  | 28 => ⟨S2x8448x8x1, .f32⟩
  | 29 => ⟨S2x8448x8x3, .f32⟩
  | 30 => ⟨S_, .f32⟩
  | 31 => ⟨S2x8448x8x3, .f32⟩
  | 32 => ⟨S_, .f32⟩
  | 33 => ⟨S2x8448x8x64, .f32⟩
  | 34 => ⟨S2x8448x8x64, .f32⟩
  | 35 => ⟨S2x8448x8x6, .f32⟩
  | 36 => ⟨S_, .i32⟩
  | 37 => ⟨S_, .f32⟩
  | 38 => ⟨S2x8448x8x64, .f32⟩
  | 39 => ⟨S1x1x8x1, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S1x1x8x1, .i32⟩
  | 47 => ⟨S1x1x8x1, .i32⟩
  | 48 => ⟨S_, .i32⟩
  | 49 => ⟨S1x1x8x1, .i32⟩
  | 50 => ⟨S1x1x8x1, .i1⟩
  | 51 => ⟨S_, .i32⟩
  | 52 => ⟨S1x1x8x1, .i32⟩
  | 53 => ⟨S1x1x8x1, .i1⟩
  | 54 => ⟨S_, .i32⟩
  | 55 => ⟨S_, .i1⟩
  | 56 => ⟨S1x1x8x1, .i1⟩
  | 57 => ⟨S1x1x8x1, .i1⟩
  | 58 => ⟨S1x1x8x1, .i1⟩
  | 59 => ⟨S1x1x8x1, .i32⟩
  | 60 => ⟨S1x1x8x1, .i32⟩
  | 61 => ⟨S1x1x8x1, .i32⟩
  | 62 => ⟨S_, .i32⟩
  | 63 => ⟨S1x1x8x1, .i32⟩
  | 64 => ⟨S1x1x8x1, .i1⟩
  | 65 => ⟨S2x8448x8x64, .i1⟩
  | 66 => ⟨S2x8448x8x64, .f32⟩
  | 67 => ⟨S2x8448x8x64, .i1⟩
  | 68 => ⟨S2x8448x8x64, .f32⟩
  | 69 => ⟨S2x8448x8x128, .f32⟩
  | 70 => ⟨S2x8x8448x128, .f32⟩
  | 71 => ⟨S2x8x8448x128, .bf16⟩
  | 72 => ⟨S2x8448x8x3, .f32⟩
  | 73 => ⟨S2x8448x8x6, .f32⟩
  | 74 => ⟨S_, .i32⟩
  | 75 => ⟨S_, .f32⟩
  | 76 => ⟨S2x8448x8x64, .f32⟩
  | 77 => ⟨S1x1x8x1, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S1x1x8x1, .i32⟩
  | 85 => ⟨S1x1x8x1, .i32⟩
  | 86 => ⟨S_, .i32⟩
  | 87 => ⟨S1x1x8x1, .i32⟩
  | 88 => ⟨S1x1x8x1, .i1⟩
  | 89 => ⟨S_, .i32⟩
  | 90 => ⟨S1x1x8x1, .i32⟩
  | 91 => ⟨S1x1x8x1, .i1⟩
  | 92 => ⟨S_, .i32⟩
  | 93 => ⟨S_, .i1⟩
  | 94 => ⟨S1x1x8x1, .i1⟩
  | 95 => ⟨S1x1x8x1, .i1⟩
  | 96 => ⟨S1x1x8x1, .i1⟩
  | 97 => ⟨S1x1x8x1, .i32⟩
  | 98 => ⟨S1x1x8x1, .i32⟩
  | 99 => ⟨S1x1x8x1, .i32⟩
  | 100 => ⟨S_, .i32⟩
  | 101 => ⟨S1x1x8x1, .i32⟩
  | 102 => ⟨S1x1x8x1, .i1⟩
  | 103 => ⟨S2x8448x8x64, .i1⟩
  | 104 => ⟨S2x8448x8x64, .f32⟩
  | 105 => ⟨S2x8448x8x64, .i1⟩
  | 106 => ⟨S2x8448x8x64, .f32⟩
  | 107 => ⟨S2x8448x8x128, .f32⟩
  | 108 => ⟨S2x8x8448x128, .f32⟩
  | 109 => ⟨S2x8x8448x128, .bf16⟩
  | 110 => ⟨S_, .f32⟩
  | 111 => ⟨S2x8448x8x1, .f32⟩
  | 112 => ⟨S_, .i32⟩
  | 113 => ⟨S_, .f32⟩
  | 114 => ⟨S2x8448x8x64, .f32⟩
  | 115 => ⟨S1x1x8x1, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S1x1x8x1, .i32⟩
  | 123 => ⟨S1x1x8x1, .i32⟩
  | 124 => ⟨S_, .i32⟩
  | 125 => ⟨S1x1x8x1, .i32⟩
  | 126 => ⟨S1x1x8x1, .i1⟩
  | 127 => ⟨S_, .i32⟩
  | _ => ⟨S2x8208x8x64, .f32⟩

abbrev hbmTy0_1 (i : Nat) : BufTy := match i % 128 with
  | 0 => ⟨S1x1x8x1, .i32⟩
  | 1 => ⟨S1x1x8x1, .i1⟩
  | 2 => ⟨S_, .i32⟩
  | 3 => ⟨S_, .i1⟩
  | 4 => ⟨S1x1x8x1, .i1⟩
  | 5 => ⟨S1x1x8x1, .i1⟩
  | 6 => ⟨S1x1x8x1, .i1⟩
  | 7 => ⟨S1x1x8x1, .i32⟩
  | 8 => ⟨S1x1x8x1, .i32⟩
  | 9 => ⟨S1x1x8x1, .i32⟩
  | 10 => ⟨S_, .i32⟩
  | 11 => ⟨S1x1x8x1, .i32⟩
  | 12 => ⟨S1x1x8x1, .i1⟩
  | 13 => ⟨S2x8448x8x64, .i1⟩
  | 14 => ⟨S2x8448x8x64, .f32⟩
  | 15 => ⟨S2x8448x8x64, .i1⟩
  | 16 => ⟨S2x8448x8x64, .f32⟩
  | 17 => ⟨S2x8448x8x128, .f32⟩
  | 18 => ⟨S2x8x8448x128, .f32⟩
  | 19 => ⟨S2x8x8448x128, .bf16⟩
  | 20 => ⟨S2x8x128x8448, .bf16⟩
  | 21 => ⟨S2x8448x512, .bf16⟩
  | _ => ⟨S2x8208x8x64, .f32⟩

abbrev hbmTy (i : Nat) : BufTy := match i / 128 with
  | 0 => hbmTy0_0 i
  | 1 => hbmTy0_1 i
  | _ => ⟨S2x8208x8x64, .f32⟩

abbrev bufTy : (tb : Table) → Fin (tcTables nBuf tb) → BufTy
  | .hbm, ⟨i, _⟩ => hbmTy i
  | .local _ .vmem, ⟨0, _⟩ => ⟨S1x2x768x128, .bf16⟩
  | .local _ .vmem, ⟨1, _⟩ => ⟨S1x2x768x128, .bf16⟩
  | .local _ .vmem, ⟨2, _⟩ => ⟨S1x2x8448x128, .bf16⟩
  | .local _ .vmem, ⟨3, _⟩ => ⟨S1x2x8448x128, .bf16⟩
  | .local _ .vmem, ⟨4, _⟩ => ⟨S1x2x128x8448, .bf16⟩
  | .local _ .vmem, ⟨5, _⟩ => ⟨S1x2x128x8448, .bf16⟩
  | .local _ .vmem, ⟨6, _⟩ => ⟨S1x768x128, .bf16⟩
  | .local _ .vmem, ⟨7, _⟩ => ⟨S1x768x128, .bf16⟩
  | .local _ .vmem, ⟨8, _⟩ => ⟨S2x768x768, .f32⟩
  | .local _ .vmem, ⟨9, _⟩ => ⟨S2x768x768, .f32⟩
  | .local _ .vmem, ⟨10, _⟩ => ⟨S2x1x768, .f32⟩
  | .local _ .vmem, ⟨11, _⟩ => ⟨S2x128x768, .f32⟩
  | _, _ => ⟨S2x8208x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_call4_v0 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_call5_v0 : Ref sig .tc := ⟨.hbm, 41, rfl⟩
abbrev main_call5_c : Ref sig .tc := ⟨.hbm, 42, rfl⟩
abbrev main_call5_v1 : Ref sig .tc := ⟨.hbm, 43, rfl⟩
abbrev main_call5_c_0 : Ref sig .tc := ⟨.hbm, 44, rfl⟩
abbrev main_call5_v2 : Ref sig .tc := ⟨.hbm, 45, rfl⟩
abbrev main_call5_v3 : Ref sig .tc := ⟨.hbm, 46, rfl⟩
abbrev main_call5_v4 : Ref sig .tc := ⟨.hbm, 47, rfl⟩
abbrev main_call5_c_1 : Ref sig .tc := ⟨.hbm, 48, rfl⟩
abbrev main_call5_v5 : Ref sig .tc := ⟨.hbm, 49, rfl⟩
abbrev main_call5_v6 : Ref sig .tc := ⟨.hbm, 50, rfl⟩
abbrev main_call5_c_2 : Ref sig .tc := ⟨.hbm, 51, rfl⟩
abbrev main_call5_v7 : Ref sig .tc := ⟨.hbm, 52, rfl⟩
abbrev main_call5_v8 : Ref sig .tc := ⟨.hbm, 53, rfl⟩
abbrev main_call5_c_3 : Ref sig .tc := ⟨.hbm, 54, rfl⟩
abbrev main_call5_v9 : Ref sig .tc := ⟨.hbm, 55, rfl⟩
abbrev main_call5_v10 : Ref sig .tc := ⟨.hbm, 56, rfl⟩
abbrev main_call5_v11 : Ref sig .tc := ⟨.hbm, 57, rfl⟩
abbrev main_call5_v12 : Ref sig .tc := ⟨.hbm, 58, rfl⟩
abbrev main_call5_v13 : Ref sig .tc := ⟨.hbm, 59, rfl⟩
abbrev main_call5_v14 : Ref sig .tc := ⟨.hbm, 60, rfl⟩
abbrev main_v24 : Ref sig .tc := ⟨.hbm, 61, rfl⟩
abbrev main_c_6 : Ref sig .tc := ⟨.hbm, 62, rfl⟩
abbrev main_v25 : Ref sig .tc := ⟨.hbm, 63, rfl⟩
abbrev main_v26 : Ref sig .tc := ⟨.hbm, 64, rfl⟩
abbrev main_call6_v0 : Ref sig .tc := ⟨.hbm, 65, rfl⟩
abbrev main_v27 : Ref sig .tc := ⟨.hbm, 66, rfl⟩
abbrev main_call7_v0 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_c_7 : Ref sig .tc := ⟨.hbm, 74, rfl⟩
abbrev main_call8_v0 : Ref sig .tc := ⟨.hbm, 75, rfl⟩
abbrev main_v34 : Ref sig .tc := ⟨.hbm, 76, rfl⟩
abbrev main_v35 : Ref sig .tc := ⟨.hbm, 77, rfl⟩
abbrev main_c_8 : Ref sig .tc := ⟨.hbm, 78, rfl⟩
abbrev main_call9_v0 : Ref sig .tc := ⟨.hbm, 79, rfl⟩
abbrev main_call9_c : Ref sig .tc := ⟨.hbm, 80, rfl⟩
abbrev main_call9_v1 : Ref sig .tc := ⟨.hbm, 81, rfl⟩
abbrev main_call9_c_0 : Ref sig .tc := ⟨.hbm, 82, rfl⟩
abbrev main_call9_v2 : Ref sig .tc := ⟨.hbm, 83, rfl⟩
abbrev main_call9_v3 : Ref sig .tc := ⟨.hbm, 84, rfl⟩
abbrev main_call9_v4 : Ref sig .tc := ⟨.hbm, 85, rfl⟩
abbrev main_call9_c_1 : Ref sig .tc := ⟨.hbm, 86, rfl⟩
abbrev main_call9_v5 : Ref sig .tc := ⟨.hbm, 87, rfl⟩
abbrev main_call9_v6 : Ref sig .tc := ⟨.hbm, 88, rfl⟩
abbrev main_call9_c_2 : Ref sig .tc := ⟨.hbm, 89, rfl⟩
abbrev main_call9_v7 : Ref sig .tc := ⟨.hbm, 90, rfl⟩
abbrev main_call9_v8 : Ref sig .tc := ⟨.hbm, 91, rfl⟩
abbrev main_call9_c_3 : Ref sig .tc := ⟨.hbm, 92, rfl⟩
abbrev main_call9_v9 : Ref sig .tc := ⟨.hbm, 93, rfl⟩
abbrev main_call9_v10 : Ref sig .tc := ⟨.hbm, 94, rfl⟩
abbrev main_call9_v11 : Ref sig .tc := ⟨.hbm, 95, rfl⟩
abbrev main_call9_v12 : Ref sig .tc := ⟨.hbm, 96, rfl⟩
abbrev main_call9_v13 : Ref sig .tc := ⟨.hbm, 97, rfl⟩
abbrev main_call9_v14 : Ref sig .tc := ⟨.hbm, 98, rfl⟩
abbrev main_v36 : Ref sig .tc := ⟨.hbm, 99, rfl⟩
abbrev main_c_9 : Ref sig .tc := ⟨.hbm, 100, rfl⟩
abbrev main_v37 : Ref sig .tc := ⟨.hbm, 101, rfl⟩
abbrev main_v38 : Ref sig .tc := ⟨.hbm, 102, rfl⟩
abbrev main_call10_v0 : Ref sig .tc := ⟨.hbm, 103, rfl⟩
abbrev main_v39 : Ref sig .tc := ⟨.hbm, 104, rfl⟩
abbrev main_call11_v0 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_cst_10 : Ref sig .tc := ⟨.hbm, 110, rfl⟩
abbrev main_v44 : Ref sig .tc := ⟨.hbm, 111, rfl⟩
abbrev main_c_11 : Ref sig .tc := ⟨.hbm, 112, rfl⟩
abbrev main_call12_v0 : Ref sig .tc := ⟨.hbm, 113, rfl⟩
abbrev main_v45 : Ref sig .tc := ⟨.hbm, 114, rfl⟩
abbrev main_v46 : Ref sig .tc := ⟨.hbm, 115, rfl⟩
abbrev main_c_12 : Ref sig .tc := ⟨.hbm, 116, rfl⟩
abbrev main_call13_v0 : Ref sig .tc := ⟨.hbm, 117, rfl⟩
abbrev main_call13_c : Ref sig .tc := ⟨.hbm, 118, rfl⟩
abbrev main_call13_v1 : Ref sig .tc := ⟨.hbm, 119, rfl⟩
abbrev main_call13_c_0 : Ref sig .tc := ⟨.hbm, 120, rfl⟩
abbrev main_call13_v2 : Ref sig .tc := ⟨.hbm, 121, rfl⟩
abbrev main_call13_v3 : Ref sig .tc := ⟨.hbm, 122, rfl⟩
abbrev main_call13_v4 : Ref sig .tc := ⟨.hbm, 123, rfl⟩
abbrev main_call13_c_1 : Ref sig .tc := ⟨.hbm, 124, rfl⟩
abbrev main_call13_v5 : Ref sig .tc := ⟨.hbm, 125, rfl⟩
abbrev main_call13_v6 : Ref sig .tc := ⟨.hbm, 126, rfl⟩
abbrev main_call13_c_2 : Ref sig .tc := ⟨.hbm, 127, rfl⟩
abbrev main_call13_v7 : Ref sig .tc := ⟨.hbm, 128, rfl⟩
abbrev main_call13_v8 : Ref sig .tc := ⟨.hbm, 129, rfl⟩
abbrev main_call13_c_3 : Ref sig .tc := ⟨.hbm, 130, rfl⟩
abbrev main_call13_v9 : Ref sig .tc := ⟨.hbm, 131, rfl⟩
abbrev main_call13_v10 : Ref sig .tc := ⟨.hbm, 132, rfl⟩
abbrev main_call13_v11 : Ref sig .tc := ⟨.hbm, 133, rfl⟩
abbrev main_call13_v12 : Ref sig .tc := ⟨.hbm, 134, rfl⟩
abbrev main_call13_v13 : Ref sig .tc := ⟨.hbm, 135, rfl⟩
abbrev main_call13_v14 : Ref sig .tc := ⟨.hbm, 136, rfl⟩
abbrev main_v47 : Ref sig .tc := ⟨.hbm, 137, rfl⟩
abbrev main_c_13 : Ref sig .tc := ⟨.hbm, 138, rfl⟩
abbrev main_v48 : Ref sig .tc := ⟨.hbm, 139, rfl⟩
abbrev main_v49 : Ref sig .tc := ⟨.hbm, 140, rfl⟩
abbrev main_call14_v0 : Ref sig .tc := ⟨.hbm, 141, rfl⟩
abbrev main_v50 : Ref sig .tc := ⟨.hbm, 142, rfl⟩
abbrev main_call15_v0 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 11], ![false, false, false]⟩

def k0_mult1 : BitVec 32 :=
  let c0_i32 : BitVec 32 := 0#32
  c0_i32
@[reducible] def k0_t1_loop (i : grid0.Coords) : Scf.Loop 32 :=
  let c0_i32_33 : BitVec 32 := 0#32
  let arg2 : BitVec 32 := BitVec.ofNat 32 (i 2).val
  let c0_i32_27 : BitVec 32 := 0#32
  let v28 : BitVec 1 := Scalar.cmpi .sgt arg2 c0_i32_27
  let v29 : BitVec 32 := Scalar.extui v28
  let c0_i32_28 : BitVec 32 := 0#32
  let v30 : BitVec 1 := Scalar.cmpi .slt arg2 c0_i32_28
  let v31 : BitVec 32 := Scalar.extui v30
  let v32 : BitVec 32 := Scalar.subi v29 v31
  let c2_i32 : BitVec 32 := 2#32
  let c0_i32_29 : BitVec 32 := 0#32
  let v33 : BitVec 1 := Scalar.cmpi .sgt c2_i32 c0_i32_29
  let v34 : BitVec 32 := Scalar.extui v33
  let c0_i32_30 : BitVec 32 := 0#32
  let v35 : BitVec 1 := Scalar.cmpi .slt c2_i32 c0_i32_30
  let v36 : BitVec 32 := Scalar.extui v35
  let v37 : BitVec 32 := Scalar.subi v34 v36
  let v38 : BitVec 1 := Scalar.cmpi .ne v32 v37
  let v39 : BitVec 32 := Scalar.remsi arg2 c2_i32
  let c0_i32_31 : BitVec 32 := 0#32
  let v40 : BitVec 1 := Scalar.cmpi .ne v39 c0_i32_31
  let v41 : BitVec 1 := Scalar.andi v38 v40
  let v27 : BitVec 32 := Scalar.divsi arg2 c2_i32
  let c1_i32 : BitVec 32 := 1#32
  let v42 : BitVec 32 := Scalar.subi v27 c1_i32
  let v43 : BitVec 32 := Scalar.select v41 v42 v27
  let v44 : BitVec 32 := Scalar.subi v43 c0_i32_33
  let c1_i32_34 : BitVec 32 := 1#32
  let v46 : BitVec 32 := Scalar.divsi v44 c1_i32_34
  let v47 : BitVec 32 := Scalar.muli v46 c1_i32_34
  let v48 : BitVec 32 := Scalar.addi c0_i32_33 v47
  let c1_i32_35 : BitVec 32 := 1#32
  ⟨c0_i32_33, v48, c1_i32_35⟩
def k0_mult2 (i : grid0.Coords) (k0_t1 : Fin (k0_t1_loop i).trips) : BitVec 32 :=
  let c2_i32_62 : BitVec 32 := 2#32
  let c0_i32_33 : BitVec 32 := 0#32
  let c1_i32_35 : BitVec 32 := 1#32
  let arg11 : BitVec 32 := Scf.iv c0_i32_33 c1_i32_35 k0_t1
  let v95 : BitVec 32 := Scalar.muli c2_i32_62 arg11
  let c1_i32_63 : BitVec 32 := 1#32
  let v96 : BitVec 32 := Scalar.addi v95 c1_i32_63
  let c768_i32 : BitVec 32 := 768#32
  let v97 : BitVec 32 := Scalar.muli v96 c768_i32
  v97
def k0_off1 (i : grid0.Coords) (k0_t1 : Fin (k0_t1_loop i).trips) (c1_i32_63 : BitVec 32) : Fin 4 → Nat :=
  let c0_64 : Index := 0#32
  let c0_65 : Index := 0#32
  let c2_i32_62 : BitVec 32 := 2#32
  let c0_i32_33 : BitVec 32 := 0#32
  let c1_i32_35 : BitVec 32 := 1#32
  let arg11 : BitVec 32 := Scf.iv c0_i32_33 c1_i32_35 k0_t1
  let v95 : BitVec 32 := Scalar.muli c2_i32_62 arg11
  let v96 : BitVec 32 := Scalar.addi v95 c1_i32_63
  let c768_i32 : BitVec 32 := 768#32
  let v97 : BitVec 32 := Scalar.muli v96 c768_i32
  let v98 : BitVec 32 := v97
  let v99 : Index := Scalar.indexCast v98
  let c0_66 : Index := 0#32
  ![0, 0, v99.toNat, 0]
def k0_off2 (i : grid0.Coords) (k0_t1 : Fin (k0_t1_loop i).trips) (c1_i32_63 : BitVec 32) : Fin 4 → Nat :=
  let c0_75 : Index := 0#32
  let c1_76 : Index := 1#32
  let c2_i32_62 : BitVec 32 := 2#32
  let c0_i32_33 : BitVec 32 := 0#32
  let c1_i32_35 : BitVec 32 := 1#32
  let arg11 : BitVec 32 := Scf.iv c0_i32_33 c1_i32_35 k0_t1
  let v95 : BitVec 32 := Scalar.muli c2_i32_62 arg11
  let v96 : BitVec 32 := Scalar.addi v95 c1_i32_63
  let c768_i32 : BitVec 32 := 768#32
  let v97 : BitVec 32 := Scalar.muli v96 c768_i32
  let v98 : BitVec 32 := v97
  let v108 : Index := Scalar.indexCast v98
  let c0_77 : Index := 0#32
  ![0, 1, v108.toNat, 0]
def k0_mult3 (i : grid0.Coords) (k0_t1 : Fin (k0_t1_loop i).trips) : BitVec 32 :=
  let c2_i32_86 : BitVec 32 := 2#32
  let c0_i32_33 : BitVec 32 := 0#32
  let c1_i32_35 : BitVec 32 := 1#32
  let arg11 : BitVec 32 := Scf.iv c0_i32_33 c1_i32_35 k0_t1
  let v117 : BitVec 32 := Scalar.muli c2_i32_86 arg11
  let c768_i32_87 : BitVec 32 := 768#32
  let v118 : BitVec 32 := Scalar.muli v117 c768_i32_87
  v118
def k0_off3 (i : grid0.Coords) (k0_t1 : Fin (k0_t1_loop i).trips) : Fin 4 → Nat :=
  let c0_98 : Index := 0#32
  let c0_99 : Index := 0#32
  let c0_100 : Index := 0#32
  let c2_i32_86 : BitVec 32 := 2#32
  let c0_i32_33 : BitVec 32 := 0#32
  let c1_i32_35 : BitVec 32 := 1#32
  let arg11 : BitVec 32 := Scf.iv c0_i32_33 c1_i32_35 k0_t1
  let v117 : BitVec 32 := Scalar.muli c2_i32_86 arg11
  let c768_i32_87 : BitVec 32 := 768#32
  let v118 : BitVec 32 := Scalar.muli v117 c768_i32_87
  let v119 : BitVec 32 := v118
  let v136 : Index := Scalar.indexCast v119
  ![0, 0, 0, v136.toNat]
def k0_off4 (i : grid0.Coords) (k0_t1 : Fin (k0_t1_loop i).trips) : Fin 4 → Nat :=
  let c0_118 : Index := 0#32
  let c1_119 : Index := 1#32
  let c0_120 : Index := 0#32
  let c2_i32_86 : BitVec 32 := 2#32
  let c0_i32_33 : BitVec 32 := 0#32
  let c1_i32_35 : BitVec 32 := 1#32
  let arg11 : BitVec 32 := Scf.iv c0_i32_33 c1_i32_35 k0_t1
  let v117 : BitVec 32 := Scalar.muli c2_i32_86 arg11
  let c768_i32_87 : BitVec 32 := 768#32
  let v118 : BitVec 32 := Scalar.muli v117 c768_i32_87
  let v119 : BitVec 32 := v118
  let v164 : Index := Scalar.indexCast v119
  ![0, 1, 0, v164.toNat]
def k0_mult4 (i : grid0.Coords) (k0_t1 : Fin (k0_t1_loop i).trips) : BitVec 32 :=
  let c2_i32_128 : BitVec 32 := 2#32
  let c0_i32_33 : BitVec 32 := 0#32
  let c1_i32_35 : BitVec 32 := 1#32
  let arg11 : BitVec 32 := Scf.iv c0_i32_33 c1_i32_35 k0_t1
  let v176 : BitVec 32 := Scalar.muli c2_i32_128 arg11
  let c2_i32_129 : BitVec 32 := 2#32
  let v177 : BitVec 32 := Scalar.addi v176 c2_i32_129
  let c768_i32_130 : BitVec 32 := 768#32
  let v178 : BitVec 32 := Scalar.muli v177 c768_i32_130
  v178
def k0_mult5 (i : grid0.Coords) (k0_t1 : Fin (k0_t1_loop i).trips) : BitVec 32 :=
  let c2_i32_153 : BitVec 32 := 2#32
  let c0_i32_33 : BitVec 32 := 0#32
  let c1_i32_35 : BitVec 32 := 1#32
  let arg11 : BitVec 32 := Scf.iv c0_i32_33 c1_i32_35 k0_t1
  let v198 : BitVec 32 := Scalar.muli c2_i32_153 arg11
  let c1_i32_154 : BitVec 32 := 1#32
  let v199 : BitVec 32 := Scalar.addi v198 c1_i32_154
  let c768_i32_155 : BitVec 32 := 768#32
  let v200 : BitVec 32 := Scalar.muli v199 c768_i32_155
  v200
def k0_off5 (i : grid0.Coords) (k0_t1 : Fin (k0_t1_loop i).trips) : Fin 4 → Nat :=
  let c0_166 : Index := 0#32
  let c0_167 : Index := 0#32
  let c0_168 : Index := 0#32
  let c2_i32_153 : BitVec 32 := 2#32
  let c0_i32_33 : BitVec 32 := 0#32
  let c1_i32_35 : BitVec 32 := 1#32
  let arg11 : BitVec 32 := Scf.iv c0_i32_33 c1_i32_35 k0_t1
  let v198 : BitVec 32 := Scalar.muli c2_i32_153 arg11
  let c1_i32_154 : BitVec 32 := 1#32
  let v199 : BitVec 32 := Scalar.addi v198 c1_i32_154
  let c768_i32_155 : BitVec 32 := 768#32
  let v200 : BitVec 32 := Scalar.muli v199 c768_i32_155
  let v201 : BitVec 32 := v200
  let v218 : Index := Scalar.indexCast v201
  ![0, 0, 0, v218.toNat]
def k0_off6 (i : grid0.Coords) (k0_t1 : Fin (k0_t1_loop i).trips) : Fin 4 → Nat :=
  let c0_186 : Index := 0#32
  let c1_187 : Index := 1#32
  let c0_188 : Index := 0#32
  let c2_i32_153 : BitVec 32 := 2#32
  let c0_i32_33 : BitVec 32 := 0#32
  let c1_i32_35 : BitVec 32 := 1#32
  let arg11 : BitVec 32 := Scf.iv c0_i32_33 c1_i32_35 k0_t1
  let v198 : BitVec 32 := Scalar.muli c2_i32_153 arg11
  let c1_i32_154 : BitVec 32 := 1#32
  let v199 : BitVec 32 := Scalar.addi v198 c1_i32_154
  let c768_i32_155 : BitVec 32 := 768#32
  let v200 : BitVec 32 := Scalar.muli v199 c768_i32_155
  let v201 : BitVec 32 := v200
  let v246 : Index := Scalar.indexCast v201
  ![0, 1, 0, v246.toNat]
@[reducible] def k0_t2_loop (i : grid0.Coords) : Scf.Loop 32 :=
  let c0_i32_33 : BitVec 32 := 0#32
  let arg2 : BitVec 32 := BitVec.ofNat 32 (i 2).val
  let c0_i32_27 : BitVec 32 := 0#32
  let v28 : BitVec 1 := Scalar.cmpi .sgt arg2 c0_i32_27
  let v29 : BitVec 32 := Scalar.extui v28
  let c0_i32_28 : BitVec 32 := 0#32
  let v30 : BitVec 1 := Scalar.cmpi .slt arg2 c0_i32_28
  let v31 : BitVec 32 := Scalar.extui v30
  let v32 : BitVec 32 := Scalar.subi v29 v31
  let c2_i32 : BitVec 32 := 2#32
  let c0_i32_29 : BitVec 32 := 0#32
  let v33 : BitVec 1 := Scalar.cmpi .sgt c2_i32 c0_i32_29
  let v34 : BitVec 32 := Scalar.extui v33
  let c0_i32_30 : BitVec 32 := 0#32
  let v35 : BitVec 1 := Scalar.cmpi .slt c2_i32 c0_i32_30
  let v36 : BitVec 32 := Scalar.extui v35
  let v37 : BitVec 32 := Scalar.subi v34 v36
  let v38 : BitVec 1 := Scalar.cmpi .ne v32 v37
  let v39 : BitVec 32 := Scalar.remsi arg2 c2_i32
  let c0_i32_31 : BitVec 32 := 0#32
  let v40 : BitVec 1 := Scalar.cmpi .ne v39 c0_i32_31
  let v41 : BitVec 1 := Scalar.andi v38 v40
  let v27 : BitVec 32 := Scalar.divsi arg2 c2_i32
  let c1_i32 : BitVec 32 := 1#32
  let v42 : BitVec 32 := Scalar.subi v27 c1_i32
  let v43 : BitVec 32 := Scalar.select v41 v42 v27
  let v44 : BitVec 32 := Scalar.subi v43 c0_i32_33
  let c1_i32_34 : BitVec 32 := 1#32
  let v46 : BitVec 32 := Scalar.divsi v44 c1_i32_34
  let v47 : BitVec 32 := Scalar.muli v46 c1_i32_34
  let v48 : BitVec 32 := Scalar.addi c0_i32_33 v47
  let v45 : BitVec 32 := Scalar.addi c0_i32_33 v44
  let c1_i32_36 : BitVec 32 := 1#32
  ⟨v48, v45, c1_i32_36⟩
def k0_mult6 (i : grid0.Coords) (k0_t2 : Fin (k0_t2_loop i).trips) : BitVec 32 :=
  let c2_i32_62 : BitVec 32 := 2#32
  let c0_i32_33 : BitVec 32 := 0#32
  let arg2 : BitVec 32 := BitVec.ofNat 32 (i 2).val
  let c0_i32_27 : BitVec 32 := 0#32
  let v28 : BitVec 1 := Scalar.cmpi .sgt arg2 c0_i32_27
  let v29 : BitVec 32 := Scalar.extui v28
  let c0_i32_28 : BitVec 32 := 0#32
  let v30 : BitVec 1 := Scalar.cmpi .slt arg2 c0_i32_28
  let v31 : BitVec 32 := Scalar.extui v30
  let v32 : BitVec 32 := Scalar.subi v29 v31
  let c2_i32 : BitVec 32 := 2#32
  let c0_i32_29 : BitVec 32 := 0#32
  let v33 : BitVec 1 := Scalar.cmpi .sgt c2_i32 c0_i32_29
  let v34 : BitVec 32 := Scalar.extui v33
  let c0_i32_30 : BitVec 32 := 0#32
  let v35 : BitVec 1 := Scalar.cmpi .slt c2_i32 c0_i32_30
  let v36 : BitVec 32 := Scalar.extui v35
  let v37 : BitVec 32 := Scalar.subi v34 v36
  let v38 : BitVec 1 := Scalar.cmpi .ne v32 v37
  let v39 : BitVec 32 := Scalar.remsi arg2 c2_i32
  let c0_i32_31 : BitVec 32 := 0#32
  let v40 : BitVec 1 := Scalar.cmpi .ne v39 c0_i32_31
  let v41 : BitVec 1 := Scalar.andi v38 v40
  let v27 : BitVec 32 := Scalar.divsi arg2 c2_i32
  let c1_i32 : BitVec 32 := 1#32
  let v42 : BitVec 32 := Scalar.subi v27 c1_i32
  let v43 : BitVec 32 := Scalar.select v41 v42 v27
  let v44 : BitVec 32 := Scalar.subi v43 c0_i32_33
  let c1_i32_34 : BitVec 32 := 1#32
  let v46 : BitVec 32 := Scalar.divsi v44 c1_i32_34
  let v47 : BitVec 32 := Scalar.muli v46 c1_i32_34
  let v48 : BitVec 32 := Scalar.addi c0_i32_33 v47
  let c1_i32_36 : BitVec 32 := 1#32
  let arg11 : BitVec 32 := Scf.iv v48 c1_i32_36 k0_t2
  let v95 : BitVec 32 := Scalar.muli c2_i32_62 arg11
  let c1_i32_63 : BitVec 32 := 1#32
  let v96 : BitVec 32 := Scalar.addi v95 c1_i32_63
  let c768_i32 : BitVec 32 := 768#32
  let v97 : BitVec 32 := Scalar.muli v96 c768_i32
  v97
def k0_off7 (i : grid0.Coords) (k0_t2 : Fin (k0_t2_loop i).trips) (c1_i32_63 : BitVec 32) : Fin 4 → Nat :=
  let c0_64 : Index := 0#32
  let c0_65 : Index := 0#32
  let c2_i32_62 : BitVec 32 := 2#32
  let c0_i32_33 : BitVec 32 := 0#32
  let arg2 : BitVec 32 := BitVec.ofNat 32 (i 2).val
  let c0_i32_27 : BitVec 32 := 0#32
  let v28 : BitVec 1 := Scalar.cmpi .sgt arg2 c0_i32_27
  let v29 : BitVec 32 := Scalar.extui v28
  let c0_i32_28 : BitVec 32 := 0#32
  let v30 : BitVec 1 := Scalar.cmpi .slt arg2 c0_i32_28
  let v31 : BitVec 32 := Scalar.extui v30
  let v32 : BitVec 32 := Scalar.subi v29 v31
  let c2_i32 : BitVec 32 := 2#32
  let c0_i32_29 : BitVec 32 := 0#32
  let v33 : BitVec 1 := Scalar.cmpi .sgt c2_i32 c0_i32_29
  let v34 : BitVec 32 := Scalar.extui v33
  let c0_i32_30 : BitVec 32 := 0#32
  let v35 : BitVec 1 := Scalar.cmpi .slt c2_i32 c0_i32_30
  let v36 : BitVec 32 := Scalar.extui v35
  let v37 : BitVec 32 := Scalar.subi v34 v36
  let v38 : BitVec 1 := Scalar.cmpi .ne v32 v37
  let v39 : BitVec 32 := Scalar.remsi arg2 c2_i32
  let c0_i32_31 : BitVec 32 := 0#32
  let v40 : BitVec 1 := Scalar.cmpi .ne v39 c0_i32_31
  let v41 : BitVec 1 := Scalar.andi v38 v40
  let v27 : BitVec 32 := Scalar.divsi arg2 c2_i32
  let c1_i32 : BitVec 32 := 1#32
  let v42 : BitVec 32 := Scalar.subi v27 c1_i32
  let v43 : BitVec 32 := Scalar.select v41 v42 v27
  let v44 : BitVec 32 := Scalar.subi v43 c0_i32_33
  let c1_i32_34 : BitVec 32 := 1#32
  let v46 : BitVec 32 := Scalar.divsi v44 c1_i32_34
  let v47 : BitVec 32 := Scalar.muli v46 c1_i32_34
  let v48 : BitVec 32 := Scalar.addi c0_i32_33 v47
  let c1_i32_36 : BitVec 32 := 1#32
  let arg11 : BitVec 32 := Scf.iv v48 c1_i32_36 k0_t2
  let v95 : BitVec 32 := Scalar.muli c2_i32_62 arg11
  let v96 : BitVec 32 := Scalar.addi v95 c1_i32_63
  let c768_i32 : BitVec 32 := 768#32
  let v97 : BitVec 32 := Scalar.muli v96 c768_i32
  let v98 : BitVec 32 := v97
  let v99 : Index := Scalar.indexCast v98
  let c0_66 : Index := 0#32
  ![0, 0, v99.toNat, 0]
def k0_off8 (i : grid0.Coords) (k0_t2 : Fin (k0_t2_loop i).trips) (c1_i32_63 : BitVec 32) : Fin 4 → Nat :=
  let c0_75 : Index := 0#32
  let c1_76 : Index := 1#32
  let c2_i32_62 : BitVec 32 := 2#32
  let c0_i32_33 : BitVec 32 := 0#32
  let arg2 : BitVec 32 := BitVec.ofNat 32 (i 2).val
  let c0_i32_27 : BitVec 32 := 0#32
  let v28 : BitVec 1 := Scalar.cmpi .sgt arg2 c0_i32_27
  let v29 : BitVec 32 := Scalar.extui v28
  let c0_i32_28 : BitVec 32 := 0#32
  let v30 : BitVec 1 := Scalar.cmpi .slt arg2 c0_i32_28
  let v31 : BitVec 32 := Scalar.extui v30
  let v32 : BitVec 32 := Scalar.subi v29 v31
  let c2_i32 : BitVec 32 := 2#32
  let c0_i32_29 : BitVec 32 := 0#32
  let v33 : BitVec 1 := Scalar.cmpi .sgt c2_i32 c0_i32_29
  let v34 : BitVec 32 := Scalar.extui v33
  let c0_i32_30 : BitVec 32 := 0#32
  let v35 : BitVec 1 := Scalar.cmpi .slt c2_i32 c0_i32_30
  let v36 : BitVec 32 := Scalar.extui v35
  let v37 : BitVec 32 := Scalar.subi v34 v36
  let v38 : BitVec 1 := Scalar.cmpi .ne v32 v37
  let v39 : BitVec 32 := Scalar.remsi arg2 c2_i32
  let c0_i32_31 : BitVec 32 := 0#32
  let v40 : BitVec 1 := Scalar.cmpi .ne v39 c0_i32_31
  let v41 : BitVec 1 := Scalar.andi v38 v40
  let v27 : BitVec 32 := Scalar.divsi arg2 c2_i32
  let c1_i32 : BitVec 32 := 1#32
  let v42 : BitVec 32 := Scalar.subi v27 c1_i32
  let v43 : BitVec 32 := Scalar.select v41 v42 v27
  let v44 : BitVec 32 := Scalar.subi v43 c0_i32_33
  let c1_i32_34 : BitVec 32 := 1#32
  let v46 : BitVec 32 := Scalar.divsi v44 c1_i32_34
  let v47 : BitVec 32 := Scalar.muli v46 c1_i32_34
  let v48 : BitVec 32 := Scalar.addi c0_i32_33 v47
  let c1_i32_36 : BitVec 32 := 1#32
  let arg11 : BitVec 32 := Scf.iv v48 c1_i32_36 k0_t2
  let v95 : BitVec 32 := Scalar.muli c2_i32_62 arg11
  let v96 : BitVec 32 := Scalar.addi v95 c1_i32_63
  let c768_i32 : BitVec 32 := 768#32
  let v97 : BitVec 32 := Scalar.muli v96 c768_i32
  let v98 : BitVec 32 := v97
  let v108 : Index := Scalar.indexCast v98
  let c0_77 : Index := 0#32
  ![0, 1, v108.toNat, 0]
def k0_mult7 (i : grid0.Coords) (k0_t2 : Fin (k0_t2_loop i).trips) : BitVec 32 :=
  let c2_i32_86 : BitVec 32 := 2#32
  let c0_i32_33 : BitVec 32 := 0#32
  let arg2 : BitVec 32 := BitVec.ofNat 32 (i 2).val
  let c0_i32_27 : BitVec 32 := 0#32
  let v28 : BitVec 1 := Scalar.cmpi .sgt arg2 c0_i32_27
  let v29 : BitVec 32 := Scalar.extui v28
  let c0_i32_28 : BitVec 32 := 0#32
  let v30 : BitVec 1 := Scalar.cmpi .slt arg2 c0_i32_28
  let v31 : BitVec 32 := Scalar.extui v30
  let v32 : BitVec 32 := Scalar.subi v29 v31
  let c2_i32 : BitVec 32 := 2#32
  let c0_i32_29 : BitVec 32 := 0#32
  let v33 : BitVec 1 := Scalar.cmpi .sgt c2_i32 c0_i32_29
  let v34 : BitVec 32 := Scalar.extui v33
  let c0_i32_30 : BitVec 32 := 0#32
  let v35 : BitVec 1 := Scalar.cmpi .slt c2_i32 c0_i32_30
  let v36 : BitVec 32 := Scalar.extui v35
  let v37 : BitVec 32 := Scalar.subi v34 v36
  let v38 : BitVec 1 := Scalar.cmpi .ne v32 v37
  let v39 : BitVec 32 := Scalar.remsi arg2 c2_i32
  let c0_i32_31 : BitVec 32 := 0#32
  let v40 : BitVec 1 := Scalar.cmpi .ne v39 c0_i32_31
  let v41 : BitVec 1 := Scalar.andi v38 v40
  let v27 : BitVec 32 := Scalar.divsi arg2 c2_i32
  let c1_i32 : BitVec 32 := 1#32
  let v42 : BitVec 32 := Scalar.subi v27 c1_i32
  let v43 : BitVec 32 := Scalar.select v41 v42 v27
  let v44 : BitVec 32 := Scalar.subi v43 c0_i32_33
  let c1_i32_34 : BitVec 32 := 1#32
  let v46 : BitVec 32 := Scalar.divsi v44 c1_i32_34
  let v47 : BitVec 32 := Scalar.muli v46 c1_i32_34
  let v48 : BitVec 32 := Scalar.addi c0_i32_33 v47
  let c1_i32_36 : BitVec 32 := 1#32
  let arg11 : BitVec 32 := Scf.iv v48 c1_i32_36 k0_t2
  let v117 : BitVec 32 := Scalar.muli c2_i32_86 arg11
  let c768_i32_87 : BitVec 32 := 768#32
  let v118 : BitVec 32 := Scalar.muli v117 c768_i32_87
  v118
def k0_off9 (i : grid0.Coords) (k0_t2 : Fin (k0_t2_loop i).trips) : Fin 4 → Nat :=
  let c0_98 : Index := 0#32
  let c0_99 : Index := 0#32
  let c0_100 : Index := 0#32
  let c2_i32_86 : BitVec 32 := 2#32
  let c0_i32_33 : BitVec 32 := 0#32
  let arg2 : BitVec 32 := BitVec.ofNat 32 (i 2).val
  let c0_i32_27 : BitVec 32 := 0#32
  let v28 : BitVec 1 := Scalar.cmpi .sgt arg2 c0_i32_27
  let v29 : BitVec 32 := Scalar.extui v28
  let c0_i32_28 : BitVec 32 := 0#32
  let v30 : BitVec 1 := Scalar.cmpi .slt arg2 c0_i32_28
  let v31 : BitVec 32 := Scalar.extui v30
  let v32 : BitVec 32 := Scalar.subi v29 v31
  let c2_i32 : BitVec 32 := 2#32
  let c0_i32_29 : BitVec 32 := 0#32
  let v33 : BitVec 1 := Scalar.cmpi .sgt c2_i32 c0_i32_29
  let v34 : BitVec 32 := Scalar.extui v33
  let c0_i32_30 : BitVec 32 := 0#32
  let v35 : BitVec 1 := Scalar.cmpi .slt c2_i32 c0_i32_30
  let v36 : BitVec 32 := Scalar.extui v35
  let v37 : BitVec 32 := Scalar.subi v34 v36
  let v38 : BitVec 1 := Scalar.cmpi .ne v32 v37
  let v39 : BitVec 32 := Scalar.remsi arg2 c2_i32
  let c0_i32_31 : BitVec 32 := 0#32
  let v40 : BitVec 1 := Scalar.cmpi .ne v39 c0_i32_31
  let v41 : BitVec 1 := Scalar.andi v38 v40
  let v27 : BitVec 32 := Scalar.divsi arg2 c2_i32
  let c1_i32 : BitVec 32 := 1#32
  let v42 : BitVec 32 := Scalar.subi v27 c1_i32
  let v43 : BitVec 32 := Scalar.select v41 v42 v27
  let v44 : BitVec 32 := Scalar.subi v43 c0_i32_33
  let c1_i32_34 : BitVec 32 := 1#32
  let v46 : BitVec 32 := Scalar.divsi v44 c1_i32_34
  let v47 : BitVec 32 := Scalar.muli v46 c1_i32_34
  let v48 : BitVec 32 := Scalar.addi c0_i32_33 v47
  let c1_i32_36 : BitVec 32 := 1#32
  let arg11 : BitVec 32 := Scf.iv v48 c1_i32_36 k0_t2
  let v117 : BitVec 32 := Scalar.muli c2_i32_86 arg11
  let c768_i32_87 : BitVec 32 := 768#32
  let v118 : BitVec 32 := Scalar.muli v117 c768_i32_87
  let v119 : BitVec 32 := v118
  let v136 : Index := Scalar.indexCast v119
  ![0, 0, 0, v136.toNat]
def k0_off10 (i : grid0.Coords) (k0_t2 : Fin (k0_t2_loop i).trips) : Fin 4 → Nat :=
  let c0_118 : Index := 0#32
  let c1_119 : Index := 1#32
  let c0_120 : Index := 0#32
  let c2_i32_86 : BitVec 32 := 2#32
  let c0_i32_33 : BitVec 32 := 0#32
  let arg2 : BitVec 32 := BitVec.ofNat 32 (i 2).val
  let c0_i32_27 : BitVec 32 := 0#32
  let v28 : BitVec 1 := Scalar.cmpi .sgt arg2 c0_i32_27
  let v29 : BitVec 32 := Scalar.extui v28
  let c0_i32_28 : BitVec 32 := 0#32
  let v30 : BitVec 1 := Scalar.cmpi .slt arg2 c0_i32_28
  let v31 : BitVec 32 := Scalar.extui v30
  let v32 : BitVec 32 := Scalar.subi v29 v31
  let c2_i32 : BitVec 32 := 2#32
  let c0_i32_29 : BitVec 32 := 0#32
  let v33 : BitVec 1 := Scalar.cmpi .sgt c2_i32 c0_i32_29
  let v34 : BitVec 32 := Scalar.extui v33
  let c0_i32_30 : BitVec 32 := 0#32
  let v35 : BitVec 1 := Scalar.cmpi .slt c2_i32 c0_i32_30
  let v36 : BitVec 32 := Scalar.extui v35
  let v37 : BitVec 32 := Scalar.subi v34 v36
  let v38 : BitVec 1 := Scalar.cmpi .ne v32 v37
  let v39 : BitVec 32 := Scalar.remsi arg2 c2_i32
  let c0_i32_31 : BitVec 32 := 0#32
  let v40 : BitVec 1 := Scalar.cmpi .ne v39 c0_i32_31
  let v41 : BitVec 1 := Scalar.andi v38 v40
  let v27 : BitVec 32 := Scalar.divsi arg2 c2_i32
  let c1_i32 : BitVec 32 := 1#32
  let v42 : BitVec 32 := Scalar.subi v27 c1_i32
  let v43 : BitVec 32 := Scalar.select v41 v42 v27
  let v44 : BitVec 32 := Scalar.subi v43 c0_i32_33
  let c1_i32_34 : BitVec 32 := 1#32
  let v46 : BitVec 32 := Scalar.divsi v44 c1_i32_34
  let v47 : BitVec 32 := Scalar.muli v46 c1_i32_34
  let v48 : BitVec 32 := Scalar.addi c0_i32_33 v47
  let c1_i32_36 : BitVec 32 := 1#32
  let arg11 : BitVec 32 := Scf.iv v48 c1_i32_36 k0_t2
  let v117 : BitVec 32 := Scalar.muli c2_i32_86 arg11
  let c768_i32_87 : BitVec 32 := 768#32
  let v118 : BitVec 32 := Scalar.muli v117 c768_i32_87
  let v119 : BitVec 32 := v118
  let v164 : Index := Scalar.indexCast v119
  ![0, 1, 0, v164.toNat]
def k0_mult8 (i : grid0.Coords) (k0_t2 : Fin (k0_t2_loop i).trips) : BitVec 32 :=
  let c2_i32_128 : BitVec 32 := 2#32
  let c0_i32_33 : BitVec 32 := 0#32
  let arg2 : BitVec 32 := BitVec.ofNat 32 (i 2).val
  let c0_i32_27 : BitVec 32 := 0#32
  let v28 : BitVec 1 := Scalar.cmpi .sgt arg2 c0_i32_27
  let v29 : BitVec 32 := Scalar.extui v28
  let c0_i32_28 : BitVec 32 := 0#32
  let v30 : BitVec 1 := Scalar.cmpi .slt arg2 c0_i32_28
  let v31 : BitVec 32 := Scalar.extui v30
  let v32 : BitVec 32 := Scalar.subi v29 v31
  let c2_i32 : BitVec 32 := 2#32
  let c0_i32_29 : BitVec 32 := 0#32
  let v33 : BitVec 1 := Scalar.cmpi .sgt c2_i32 c0_i32_29
  let v34 : BitVec 32 := Scalar.extui v33
  let c0_i32_30 : BitVec 32 := 0#32
  let v35 : BitVec 1 := Scalar.cmpi .slt c2_i32 c0_i32_30
  let v36 : BitVec 32 := Scalar.extui v35
  let v37 : BitVec 32 := Scalar.subi v34 v36
  let v38 : BitVec 1 := Scalar.cmpi .ne v32 v37
  let v39 : BitVec 32 := Scalar.remsi arg2 c2_i32
  let c0_i32_31 : BitVec 32 := 0#32
  let v40 : BitVec 1 := Scalar.cmpi .ne v39 c0_i32_31
  let v41 : BitVec 1 := Scalar.andi v38 v40
  let v27 : BitVec 32 := Scalar.divsi arg2 c2_i32
  let c1_i32 : BitVec 32 := 1#32
  let v42 : BitVec 32 := Scalar.subi v27 c1_i32
  let v43 : BitVec 32 := Scalar.select v41 v42 v27
  let v44 : BitVec 32 := Scalar.subi v43 c0_i32_33
  let c1_i32_34 : BitVec 32 := 1#32
  let v46 : BitVec 32 := Scalar.divsi v44 c1_i32_34
  let v47 : BitVec 32 := Scalar.muli v46 c1_i32_34
  let v48 : BitVec 32 := Scalar.addi c0_i32_33 v47
  let c1_i32_36 : BitVec 32 := 1#32
  let arg11 : BitVec 32 := Scf.iv v48 c1_i32_36 k0_t2
  let v176 : BitVec 32 := Scalar.muli c2_i32_128 arg11
  let c2_i32_129 : BitVec 32 := 2#32
  let v177 : BitVec 32 := Scalar.addi v176 c2_i32_129
  let c768_i32_130 : BitVec 32 := 768#32
  let v178 : BitVec 32 := Scalar.muli v177 c768_i32_130
  v178
def k0_mult9 (i : grid0.Coords) (k0_t2 : Fin (k0_t2_loop i).trips) : BitVec 32 :=
  let c2_i32_153 : BitVec 32 := 2#32
  let c0_i32_33 : BitVec 32 := 0#32
  let arg2 : BitVec 32 := BitVec.ofNat 32 (i 2).val
  let c0_i32_27 : BitVec 32 := 0#32
  let v28 : BitVec 1 := Scalar.cmpi .sgt arg2 c0_i32_27
  let v29 : BitVec 32 := Scalar.extui v28
  let c0_i32_28 : BitVec 32 := 0#32
  let v30 : BitVec 1 := Scalar.cmpi .slt arg2 c0_i32_28
  let v31 : BitVec 32 := Scalar.extui v30
  let v32 : BitVec 32 := Scalar.subi v29 v31
  let c2_i32 : BitVec 32 := 2#32
  let c0_i32_29 : BitVec 32 := 0#32
  let v33 : BitVec 1 := Scalar.cmpi .sgt c2_i32 c0_i32_29
  let v34 : BitVec 32 := Scalar.extui v33
  let c0_i32_30 : BitVec 32 := 0#32
  let v35 : BitVec 1 := Scalar.cmpi .slt c2_i32 c0_i32_30
  let v36 : BitVec 32 := Scalar.extui v35
  let v37 : BitVec 32 := Scalar.subi v34 v36
  let v38 : BitVec 1 := Scalar.cmpi .ne v32 v37
  let v39 : BitVec 32 := Scalar.remsi arg2 c2_i32
  let c0_i32_31 : BitVec 32 := 0#32
  let v40 : BitVec 1 := Scalar.cmpi .ne v39 c0_i32_31
  let v41 : BitVec 1 := Scalar.andi v38 v40
  let v27 : BitVec 32 := Scalar.divsi arg2 c2_i32
  let c1_i32 : BitVec 32 := 1#32
  let v42 : BitVec 32 := Scalar.subi v27 c1_i32
  let v43 : BitVec 32 := Scalar.select v41 v42 v27
  let v44 : BitVec 32 := Scalar.subi v43 c0_i32_33
  let c1_i32_34 : BitVec 32 := 1#32
  let v46 : BitVec 32 := Scalar.divsi v44 c1_i32_34
  let v47 : BitVec 32 := Scalar.muli v46 c1_i32_34
  let v48 : BitVec 32 := Scalar.addi c0_i32_33 v47
  let c1_i32_36 : BitVec 32 := 1#32
  let arg11 : BitVec 32 := Scf.iv v48 c1_i32_36 k0_t2
  let v198 : BitVec 32 := Scalar.muli c2_i32_153 arg11
  let c1_i32_154 : BitVec 32 := 1#32
  let v199 : BitVec 32 := Scalar.addi v198 c1_i32_154
  let c768_i32_155 : BitVec 32 := 768#32
  let v200 : BitVec 32 := Scalar.muli v199 c768_i32_155
  v200
def k0_off11 (i : grid0.Coords) (k0_t2 : Fin (k0_t2_loop i).trips) : Fin 4 → Nat :=
  let c0_166 : Index := 0#32
  let c0_167 : Index := 0#32
  let c0_168 : Index := 0#32
  let c2_i32_153 : BitVec 32 := 2#32
  let c0_i32_33 : BitVec 32 := 0#32
  let arg2 : BitVec 32 := BitVec.ofNat 32 (i 2).val
  let c0_i32_27 : BitVec 32 := 0#32
  let v28 : BitVec 1 := Scalar.cmpi .sgt arg2 c0_i32_27
  let v29 : BitVec 32 := Scalar.extui v28
  let c0_i32_28 : BitVec 32 := 0#32
  let v30 : BitVec 1 := Scalar.cmpi .slt arg2 c0_i32_28
  let v31 : BitVec 32 := Scalar.extui v30
  let v32 : BitVec 32 := Scalar.subi v29 v31
  let c2_i32 : BitVec 32 := 2#32
  let c0_i32_29 : BitVec 32 := 0#32
  let v33 : BitVec 1 := Scalar.cmpi .sgt c2_i32 c0_i32_29
  let v34 : BitVec 32 := Scalar.extui v33
  let c0_i32_30 : BitVec 32 := 0#32
  let v35 : BitVec 1 := Scalar.cmpi .slt c2_i32 c0_i32_30
  let v36 : BitVec 32 := Scalar.extui v35
  let v37 : BitVec 32 := Scalar.subi v34 v36
  let v38 : BitVec 1 := Scalar.cmpi .ne v32 v37
  let v39 : BitVec 32 := Scalar.remsi arg2 c2_i32
  let c0_i32_31 : BitVec 32 := 0#32
  let v40 : BitVec 1 := Scalar.cmpi .ne v39 c0_i32_31
  let v41 : BitVec 1 := Scalar.andi v38 v40
  let v27 : BitVec 32 := Scalar.divsi arg2 c2_i32
  let c1_i32 : BitVec 32 := 1#32
  let v42 : BitVec 32 := Scalar.subi v27 c1_i32
  let v43 : BitVec 32 := Scalar.select v41 v42 v27
  let v44 : BitVec 32 := Scalar.subi v43 c0_i32_33
  let c1_i32_34 : BitVec 32 := 1#32
  let v46 : BitVec 32 := Scalar.divsi v44 c1_i32_34
  let v47 : BitVec 32 := Scalar.muli v46 c1_i32_34
  let v48 : BitVec 32 := Scalar.addi c0_i32_33 v47
  let c1_i32_36 : BitVec 32 := 1#32
  let arg11 : BitVec 32 := Scf.iv v48 c1_i32_36 k0_t2
  let v198 : BitVec 32 := Scalar.muli c2_i32_153 arg11
  let c1_i32_154 : BitVec 32 := 1#32
  let v199 : BitVec 32 := Scalar.addi v198 c1_i32_154
  let c768_i32_155 : BitVec 32 := 768#32
  let v200 : BitVec 32 := Scalar.muli v199 c768_i32_155
  let v201 : BitVec 32 := v200
  let v218 : Index := Scalar.indexCast v201
  ![0, 0, 0, v218.toNat]
def k0_off12 (i : grid0.Coords) (k0_t2 : Fin (k0_t2_loop i).trips) : Fin 4 → Nat :=
  let c0_186 : Index := 0#32
  let c1_187 : Index := 1#32
  let c0_188 : Index := 0#32
  let c2_i32_153 : BitVec 32 := 2#32
  let c0_i32_33 : BitVec 32 := 0#32
  let arg2 : BitVec 32 := BitVec.ofNat 32 (i 2).val
  let c0_i32_27 : BitVec 32 := 0#32
  let v28 : BitVec 1 := Scalar.cmpi .sgt arg2 c0_i32_27
  let v29 : BitVec 32 := Scalar.extui v28
  let c0_i32_28 : BitVec 32 := 0#32
  let v30 : BitVec 1 := Scalar.cmpi .slt arg2 c0_i32_28
  let v31 : BitVec 32 := Scalar.extui v30
  let v32 : BitVec 32 := Scalar.subi v29 v31
  let c2_i32 : BitVec 32 := 2#32
  let c0_i32_29 : BitVec 32 := 0#32
  let v33 : BitVec 1 := Scalar.cmpi .sgt c2_i32 c0_i32_29
  let v34 : BitVec 32 := Scalar.extui v33
  let c0_i32_30 : BitVec 32 := 0#32
  let v35 : BitVec 1 := Scalar.cmpi .slt c2_i32 c0_i32_30
  let v36 : BitVec 32 := Scalar.extui v35
  let v37 : BitVec 32 := Scalar.subi v34 v36
  let v38 : BitVec 1 := Scalar.cmpi .ne v32 v37
  let v39 : BitVec 32 := Scalar.remsi arg2 c2_i32
  let c0_i32_31 : BitVec 32 := 0#32
  let v40 : BitVec 1 := Scalar.cmpi .ne v39 c0_i32_31
  let v41 : BitVec 1 := Scalar.andi v38 v40
  let v27 : BitVec 32 := Scalar.divsi arg2 c2_i32
  let c1_i32 : BitVec 32 := 1#32
  let v42 : BitVec 32 := Scalar.subi v27 c1_i32
  let v43 : BitVec 32 := Scalar.select v41 v42 v27
  let v44 : BitVec 32 := Scalar.subi v43 c0_i32_33
  let c1_i32_34 : BitVec 32 := 1#32
  let v46 : BitVec 32 := Scalar.divsi v44 c1_i32_34
  let v47 : BitVec 32 := Scalar.muli v46 c1_i32_34
  let v48 : BitVec 32 := Scalar.addi c0_i32_33 v47
  let c1_i32_36 : BitVec 32 := 1#32
  let arg11 : BitVec 32 := Scf.iv v48 c1_i32_36 k0_t2
  let v198 : BitVec 32 := Scalar.muli c2_i32_153 arg11
  let c1_i32_154 : BitVec 32 := 1#32
  let v199 : BitVec 32 := Scalar.addi v198 c1_i32_154
  let c768_i32_155 : BitVec 32 := 768#32
  let v200 : BitVec 32 := Scalar.muli v199 c768_i32_155
  let v201 : BitVec 32 := v200
  let v246 : Index := Scalar.indexCast v201
  ![0, 1, 0, v246.toNat]
def k0_cond1 (i : grid0.Coords) : BitVec 1 :=
  let arg2 : BitVec 32 := BitVec.ofNat 32 (i 2).val
  let c2_i32_37 : BitVec 32 := 2#32
  let c0_i32_38 : BitVec 32 := 0#32
  let v49 : BitVec 1 := Scalar.cmpi .eq c2_i32_37 c0_i32_38
  let c1_i32_39 : BitVec 32 := 1#32
  let v50 : BitVec 32 := Scalar.select v49 c1_i32_39 c2_i32_37
  let v51 : BitVec 32 := Scalar.remsi arg2 v50
  let c0_i32_41 : BitVec 32 := 0#32
  let v53 : BitVec 1 := Scalar.cmpi .slt v51 c0_i32_41
  let c0_i32_42 : BitVec 32 := 0#32
  let v54 : BitVec 1 := Scalar.cmpi .slt v50 c0_i32_42
  let v55 : BitVec 1 := Scalar.xori v53 v54
  let c0_i32_40 : BitVec 32 := 0#32
  let v52 : BitVec 1 := Scalar.cmpi .ne v51 c0_i32_40
  let v56 : BitVec 1 := Scalar.andi v55 v52
  let v57 : BitVec 32 := Scalar.addi v51 v50
  let v58 : BitVec 32 := Scalar.select v56 v57 v51
  let c0_i32_43 : BitVec 32 := 0#32
  let v59 : BitVec 1 := Scalar.cmpi .eq v58 c0_i32_43
  let v60 : BitVec 32 := Scalar.extui v59
  let c0_i32_44 : BitVec 32 := 0#32
  let v61 : BitVec 1 := Scalar.cmpi .ne v60 c0_i32_44
  v61

def k0_mult10 (i : grid0.Coords) : BitVec 32 :=
  let arg2 : BitVec 32 := BitVec.ofNat 32 (i 2).val
  let c768_i32 : BitVec 32 := 768#32
  let v95 : BitVec 32 := Scalar.muli arg2 c768_i32
  v95
def k0_off13 (i : grid0.Coords) : Fin 4 → Nat :=
  let c0_74 : Index := 0#32
  let c0_75 : Index := 0#32
  let c0_76 : Index := 0#32
  let arg2 : BitVec 32 := BitVec.ofNat 32 (i 2).val
  let c768_i32 : BitVec 32 := 768#32
  let v95 : BitVec 32 := Scalar.muli arg2 c768_i32
  let v96 : BitVec 32 := v95
  let v120 : Index := Scalar.indexCast v96
  ![0, 0, 0, v120.toNat]
def k0_off14 (i : grid0.Coords) : Fin 4 → Nat :=
  let c0_94 : Index := 0#32
  let c0_95 : Index := 0#32
  let c0_96 : Index := 0#32
  let arg2 : BitVec 32 := BitVec.ofNat 32 (i 2).val
  let c768_i32 : BitVec 32 := 768#32
  let v95 : BitVec 32 := Scalar.muli arg2 c768_i32
  let v96 : BitVec 32 := v95
  let v155 : Index := Scalar.indexCast v96
  ![0, 0, 0, v155.toNat]
def k0_off15 (i : grid0.Coords) : Fin 4 → Nat :=
  let c0_114 : Index := 0#32
  let c0_115 : Index := 0#32
  let c0_116 : Index := 0#32
  let arg2 : BitVec 32 := BitVec.ofNat 32 (i 2).val
  let c768_i32 : BitVec 32 := 768#32
  let v95 : BitVec 32 := Scalar.muli arg2 c768_i32
  let v96 : BitVec 32 := v95
  let v190 : Index := Scalar.indexCast v96
  ![0, 0, 0, v190.toNat]
def k0_off16 (i : grid0.Coords) : Fin 4 → Nat :=
  let c0_136 : Index := 0#32
  let c1_137 : Index := 1#32
  let c0_138 : Index := 0#32
  let arg2 : BitVec 32 := BitVec.ofNat 32 (i 2).val
  let c768_i32 : BitVec 32 := 768#32
  let v95 : BitVec 32 := Scalar.muli arg2 c768_i32
  let v96 : BitVec 32 := v95
  let v225 : Index := Scalar.indexCast v96
  ![0, 1, 0, v225.toNat]
def k0_off17 (i : grid0.Coords) : Fin 4 → Nat :=
  let c0_158 : Index := 0#32
  let c1_159 : Index := 1#32
  let c0_160 : Index := 0#32
  let arg2 : BitVec 32 := BitVec.ofNat 32 (i 2).val
  let c768_i32 : BitVec 32 := 768#32
  let v95 : BitVec 32 := Scalar.muli arg2 c768_i32
  let v96 : BitVec 32 := v95
  let v260 : Index := Scalar.indexCast v96
  ![0, 1, 0, v260.toNat]
def k0_off18 (i : grid0.Coords) : Fin 4 → Nat :=
  let c0_180 : Index := 0#32
  let c1_181 : Index := 1#32
  let c0_182 : Index := 0#32
  let arg2 : BitVec 32 := BitVec.ofNat 32 (i 2).val
  let c768_i32 : BitVec 32 := 768#32
  let v95 : BitVec 32 := Scalar.muli arg2 c768_i32
  let v96 : BitVec 32 := v95
  let v295 : Index := Scalar.indexCast v96
  ![0, 1, 0, v295.toNat]
def k0_cond2 (i : grid0.Coords) : BitVec 1 :=
  let arg2 : BitVec 32 := BitVec.ofNat 32 (i 2).val
  let c2_i32_45 : BitVec 32 := 2#32
  let c0_i32_46 : BitVec 32 := 0#32
  let v62 : BitVec 1 := Scalar.cmpi .eq c2_i32_45 c0_i32_46
  let c1_i32_47 : BitVec 32 := 1#32
  let v63 : BitVec 32 := Scalar.select v62 c1_i32_47 c2_i32_45
  let v64 : BitVec 32 := Scalar.remsi arg2 v63
  let c0_i32_49 : BitVec 32 := 0#32
  let v66 : BitVec 1 := Scalar.cmpi .slt v64 c0_i32_49
  let c0_i32_50 : BitVec 32 := 0#32
  let v67 : BitVec 1 := Scalar.cmpi .slt v63 c0_i32_50
  let v68 : BitVec 1 := Scalar.xori v66 v67
  let c0_i32_48 : BitVec 32 := 0#32
  let v65 : BitVec 1 := Scalar.cmpi .ne v64 c0_i32_48
  let v69 : BitVec 1 := Scalar.andi v68 v65
  let v70 : BitVec 32 := Scalar.addi v64 v63
  let v71 : BitVec 32 := Scalar.select v69 v70 v64
  let c1_i32_51 : BitVec 32 := 1#32
  let v72 : BitVec 1 := Scalar.cmpi .eq v71 c1_i32_51
  let v73 : BitVec 32 := Scalar.extui v72
  let c0_i32_52 : BitVec 32 := 0#32
  let v74 : BitVec 1 := Scalar.cmpi .ne v73 c0_i32_52
  v74

def k0_mult11 (i : grid0.Coords) : BitVec 32 :=
  let arg2 : BitVec 32 := BitVec.ofNat 32 (i 2).val
  let c768_i32 : BitVec 32 := 768#32
  let v95 : BitVec 32 := Scalar.muli arg2 c768_i32
  v95
def k0_off19 (i : grid0.Coords) : Fin 4 → Nat :=
  let c0_62 : Index := 0#32
  let c0_63 : Index := 0#32
  let arg2 : BitVec 32 := BitVec.ofNat 32 (i 2).val
  let c768_i32 : BitVec 32 := 768#32
  let v95 : BitVec 32 := Scalar.muli arg2 c768_i32
  let v96 : BitVec 32 := v95
  let v97 : Index := Scalar.indexCast v96
  let c0_64 : Index := 0#32
  ![0, 0, v97.toNat, 0]
def k0_off20 (i : grid0.Coords) : Fin 4 → Nat :=
  let c0_73 : Index := 0#32
  let c1_74 : Index := 1#32
  let arg2 : BitVec 32 := BitVec.ofNat 32 (i 2).val
  let c768_i32 : BitVec 32 := 768#32
  let v95 : BitVec 32 := Scalar.muli arg2 c768_i32
  let v96 : BitVec 32 := v95
  let v106 : Index := Scalar.indexCast v96
  let c0_75 : Index := 0#32
  ![0, 1, v106.toNat, 0]
def k0_mult12 (i : grid0.Coords) : BitVec 32 :=
  let arg2 : BitVec 32 := BitVec.ofNat 32 (i 2).val
  let c1_i32_84 : BitVec 32 := 1#32
  let v115 : BitVec 32 := Scalar.subi arg2 c1_i32_84
  let c768_i32_85 : BitVec 32 := 768#32
  let v116 : BitVec 32 := Scalar.muli v115 c768_i32_85
  v116
def k0_off21 (i : grid0.Coords) : Fin 4 → Nat :=
  let c0_96 : Index := 0#32
  let c0_97 : Index := 0#32
  let c0_98 : Index := 0#32
  let arg2 : BitVec 32 := BitVec.ofNat 32 (i 2).val
  let c1_i32_84 : BitVec 32 := 1#32
  let v115 : BitVec 32 := Scalar.subi arg2 c1_i32_84
  let c768_i32_85 : BitVec 32 := 768#32
  let v116 : BitVec 32 := Scalar.muli v115 c768_i32_85
  let v117 : BitVec 32 := v116
  let v134 : Index := Scalar.indexCast v117
  ![0, 0, 0, v134.toNat]
def k0_off22 (i : grid0.Coords) : Fin 4 → Nat :=
  let c0_116 : Index := 0#32
  let c1_117 : Index := 1#32
  let c0_118 : Index := 0#32
  let arg2 : BitVec 32 := BitVec.ofNat 32 (i 2).val
  let c1_i32_84 : BitVec 32 := 1#32
  let v115 : BitVec 32 := Scalar.subi arg2 c1_i32_84
  let c768_i32_85 : BitVec 32 := 768#32
  let v116 : BitVec 32 := Scalar.muli v115 c768_i32_85
  let v117 : BitVec 32 := v116
  let v162 : Index := Scalar.indexCast v117
  ![0, 1, 0, v162.toNat]
def k0_mult13 (i : grid0.Coords) : BitVec 32 :=
  let arg2 : BitVec 32 := BitVec.ofNat 32 (i 2).val
  let c768_i32_126 : BitVec 32 := 768#32
  let v174 : BitVec 32 := Scalar.muli arg2 c768_i32_126
  v174
def k0_off23 (i : grid0.Coords) : Fin 4 → Nat :=
  let c0_139 : Index := 0#32
  let c0_140 : Index := 0#32
  let c0_141 : Index := 0#32
  let arg2 : BitVec 32 := BitVec.ofNat 32 (i 2).val
  let c768_i32_126 : BitVec 32 := 768#32
  let v174 : BitVec 32 := Scalar.muli arg2 c768_i32_126
  let v175 : BitVec 32 := v174
  let v199 : Index := Scalar.indexCast v175
  ![0, 0, 0, v199.toNat]
def k0_off24 (i : grid0.Coords) : Fin 4 → Nat :=
  let c0_159 : Index := 0#32
  let c0_160 : Index := 0#32
  let c0_161 : Index := 0#32
  let arg2 : BitVec 32 := BitVec.ofNat 32 (i 2).val
  let c768_i32_126 : BitVec 32 := 768#32
  let v174 : BitVec 32 := Scalar.muli arg2 c768_i32_126
  let v175 : BitVec 32 := v174
  let v234 : Index := Scalar.indexCast v175
  ![0, 0, 0, v234.toNat]
def k0_off25 (i : grid0.Coords) : Fin 4 → Nat :=
  let c0_179 : Index := 0#32
  let c0_180 : Index := 0#32
  let c0_181 : Index := 0#32
  let arg2 : BitVec 32 := BitVec.ofNat 32 (i 2).val
  let c768_i32_126 : BitVec 32 := 768#32
  let v174 : BitVec 32 := Scalar.muli arg2 c768_i32_126
  let v175 : BitVec 32 := v174
  let v269 : Index := Scalar.indexCast v175
  ![0, 0, 0, v269.toNat]
def k0_off26 (i : grid0.Coords) : Fin 4 → Nat :=
  let c0_201 : Index := 0#32
  let c1_202 : Index := 1#32
  let c0_203 : Index := 0#32
  let arg2 : BitVec 32 := BitVec.ofNat 32 (i 2).val
  let c768_i32_126 : BitVec 32 := 768#32
  let v174 : BitVec 32 := Scalar.muli arg2 c768_i32_126
  let v175 : BitVec 32 := v174
  let v304 : Index := Scalar.indexCast v175
  ![0, 1, 0, v304.toNat]
def k0_off27 (i : grid0.Coords) : Fin 4 → Nat :=
  let c0_223 : Index := 0#32
  let c1_224 : Index := 1#32
  let c0_225 : Index := 0#32
  let arg2 : BitVec 32 := BitVec.ofNat 32 (i 2).val
  let c768_i32_126 : BitVec 32 := 768#32
  let v174 : BitVec 32 := Scalar.muli arg2 c768_i32_126
  let v175 : BitVec 32 := v174
  let v339 : Index := Scalar.indexCast v175
  ![0, 1, 0, v339.toNat]
def k0_off28 (i : grid0.Coords) : Fin 4 → Nat :=
  let c0_245 : Index := 0#32
  let c1_246 : Index := 1#32
  let c0_247 : Index := 0#32
  let arg2 : BitVec 32 := BitVec.ofNat 32 (i 2).val
  let c768_i32_126 : BitVec 32 := 768#32
  let v174 : BitVec 32 := Scalar.muli arg2 c768_i32_126
  let v175 : BitVec 32 := v174
  let v374 : Index := Scalar.indexCast v175
  ![0, 1, 0, v374.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x768x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x128x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8208x8x64 : Shape := ⟨4, ![2, 8208, 8, 64]⟩
abbrev S2x8208x8 : Shape := ⟨3, ![2, 8208, 8]⟩
abbrev S2x8x8208x8208 : Shape := ⟨4, ![2, 8, 8208, 8208]⟩
abbrev S_ : Shape := ⟨0, ![]⟩
abbrev S2x8x8208 : Shape := ⟨3, ![2, 8, 8208]⟩
abbrev S2x8x8208x1 : Shape := ⟨4, ![2, 8, 8208, 1]⟩
abbrev S2x8x1x8208 : Shape := ⟨4, ![2, 8, 1, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S2x8x64x8208 : Shape := ⟨4, ![2, 8, 64, 8208]⟩
abbrev S2x8208x512 : Shape := ⟨3, ![2, 8208, 512]⟩
abbrev S2x8448x512 : Shape := ⟨3, ![2, 8448, 512]⟩

abbrev nBuf : Space → Nat
  | .hbm => 48
  | .vmem => 0
  | .smem => 0
  | _ => 0

abbrev bufTy : (tb : Table) → Fin (tcTables nBuf tb) → BufTy
  | .hbm, ⟨0, _⟩ => ⟨S2x8208x8x64, .f32⟩
  | .hbm, ⟨1, _⟩ => ⟨S2x8208x8x64, .f32⟩
  | .hbm, ⟨2, _⟩ => ⟨S2x8208x8x64, .f32⟩
  | .hbm, ⟨3, _⟩ => ⟨S2x8208x8, .f32⟩
  | .hbm, ⟨4, _⟩ => ⟨S2x8x8208x8208, .f32⟩
  | .hbm, ⟨5, _⟩ => ⟨S_, .f32⟩
  | .hbm, ⟨6, _⟩ => ⟨S2x8x8208x8208, .f32⟩
  | .hbm, ⟨7, _⟩ => ⟨S2x8x8208x8208, .f32⟩
  | .hbm, ⟨8, _⟩ => ⟨S2x8x8208, .f32⟩
  | .hbm, ⟨9, _⟩ => ⟨S2x8x8208x1, .f32⟩
  | .hbm, ⟨10, _⟩ => ⟨S2x8x8208, .f32⟩
  | .hbm, ⟨11, _⟩ => ⟨S2x8x1x8208, .f32⟩
  | .hbm, ⟨12, _⟩ => ⟨S2x8x8208x8208, .f32⟩
  | .hbm, ⟨13, _⟩ => ⟨S2x8x8208x8208, .f32⟩
  | .hbm, ⟨14, _⟩ => ⟨S2x8x8208x8208, .f32⟩
  | .hbm, ⟨15, _⟩ => ⟨S8208, .i32⟩
  | .hbm, ⟨16, _⟩ => ⟨S1x8208, .i32⟩
  | .hbm, ⟨17, _⟩ => ⟨S8208x1, .i32⟩
  | .hbm, ⟨18, _⟩ => ⟨S8208x8208, .i32⟩
  | .hbm, ⟨19, _⟩ => ⟨S8208x8208, .i32⟩
  | .hbm, ⟨20, _⟩ => ⟨S8208x8208, .i1⟩
  | .hbm, ⟨21, _⟩ => ⟨S2x8x8208x8208, .f32⟩
  | .hbm, ⟨22, _⟩ => ⟨S_, .f32⟩
  | .hbm, ⟨23, _⟩ => ⟨S_, .f32⟩
  | .hbm, ⟨24, _⟩ => ⟨S2x8x8208x8208, .i1⟩
  | .hbm, ⟨25, _⟩ => ⟨S2x8x8208x8208, .f32⟩
  | .hbm, ⟨26, _⟩ => ⟨S2x8x8208x8208, .f32⟩
  | .hbm, ⟨27, _⟩ => ⟨S_, .f32⟩
  | .hbm, ⟨28, _⟩ => ⟨S2x8x8208, .f32⟩
  | .hbm, ⟨29, _⟩ => ⟨S_, .f32⟩
  | .hbm, ⟨30, _⟩ => ⟨S2x8x8208, .f32⟩
  | .hbm, ⟨31, _⟩ => ⟨S2x8x8208, .f32⟩
  | .hbm, ⟨32, _⟩ => ⟨S2x8x8208x1, .f32⟩
  | .hbm, ⟨33, _⟩ => ⟨S2x8x8208x8208, .f32⟩
  | .hbm, ⟨34, _⟩ => ⟨S2x8x8208x8208, .f32⟩
  | .hbm, ⟨35, _⟩ => ⟨S2x8x8208x8208, .f32⟩
  | .hbm, ⟨36, _⟩ => ⟨S_, .f32⟩
  | .hbm, ⟨37, _⟩ => ⟨S2x8x8208, .f32⟩
  | .hbm, ⟨38, _⟩ => ⟨S2x8x8208x1, .f32⟩
  | .hbm, ⟨39, _⟩ => ⟨S2x8x8208x8208, .f32⟩
  | .hbm, ⟨40, _⟩ => ⟨S2x8x8208x8208, .f32⟩
  | .hbm, ⟨41, _⟩ => ⟨S2x8x64x8208, .f32⟩
  | .hbm, ⟨42, _⟩ => ⟨S2x8208x8x64, .f32⟩
  | .hbm, ⟨43, _⟩ => ⟨S2x8208x512, .f32⟩
  | .hbm, ⟨44, _⟩ => ⟨S_, .i32⟩
  | .hbm, ⟨45, _⟩ => ⟨S_, .f32⟩
  | .hbm, ⟨46, _⟩ => ⟨S2x8448x512, .f32⟩
  | .hbm, ⟨47, _⟩ => ⟨S2x8448x512, .bf16⟩
  | _, _ => ⟨S2x8208x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call1_v0 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel2.lean ====
abbrev S2x8208x1024 : Shape := ⟨3, ![2, 8208, 1024]⟩
abbrev S2x8208x512 : Shape := ⟨3, ![2, 8208, 512]⟩
abbrev S4x1024x1024 : Shape := ⟨3, ![4, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S4x512x1024 : Shape := ⟨3, ![4, 512, 1024]⟩
abbrev S4x1x1024 : Shape := ⟨3, ![4, 1, 1024]⟩
abbrev S_ : Shape := ⟨0, ![]⟩
abbrev S2x8448x1024 : Shape := ⟨3, ![2, 8448, 1024]⟩
abbrev S2x8448x512 : Shape := ⟨3, ![2, 8448, 512]⟩
abbrev S1x768x1024 : Shape := ⟨3, ![1, 768, 1024]⟩
abbrev S1x768x512 : Shape := ⟨3, ![1, 768, 512]⟩
abbrev S1x512x1024 : Shape := ⟨3, ![1, 512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S768x512 : Shape := ⟨2, ![768, 512]⟩
abbrev S512x1024 : Shape := ⟨2, ![512, 1024]⟩
abbrev S768x1024 : Shape := ⟨2, ![768, 1024]⟩
abbrev S1x1024 : Shape := ⟨2, ![1, 1024]⟩
abbrev S768 : Shape := ⟨1, ![768]⟩
abbrev S768x1 : Shape := ⟨2, ![768, 1]⟩
abbrev S1x1024x256 : Shape := ⟨3, ![1, 1024, 256]⟩
abbrev S1024x256 : Shape := ⟨2, ![1024, 256]⟩
abbrev S768x256 : Shape := ⟨2, ![768, 256]⟩
abbrev S1x256x1024 : Shape := ⟨3, ![1, 256, 1024]⟩
abbrev S256x1024 : Shape := ⟨2, ![256, 1024]⟩

abbrev nBuf : Space → Nat
  | .hbm => 32
  | .vmem => 16
  | .smem => 0
  | _ => 0

abbrev bufTy : (tb : Table) → Fin (tcTables nBuf tb) → BufTy
  | .hbm, ⟨0, _⟩ => ⟨S2x8208x1024, .f32⟩
  | .hbm, ⟨1, _⟩ => ⟨S2x8208x512, .f32⟩
  | .hbm, ⟨2, _⟩ => ⟨S2x8208x512, .f32⟩
  | .hbm, ⟨3, _⟩ => ⟨S4x1024x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024x2816, .f32⟩
  | .hbm, ⟨8, _⟩ => ⟨S4x1024x2816, .f32⟩
  | .hbm, ⟨9, _⟩ => ⟨S4x2816x1024, .f32⟩
  | .hbm, ⟨10, _⟩ => ⟨S4x512x1024, .f32⟩
  | .hbm, ⟨11, _⟩ => ⟨S4x512x1024, .bf16⟩
  | .hbm, ⟨12, _⟩ => ⟨S4x512x1024, .f32⟩
  | .hbm, ⟨13, _⟩ => ⟨S4x512x1024, .bf16⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1024x2816, .bf16⟩
  | .hbm, ⟨18, _⟩ => ⟨S4x1024x2816, .bf16⟩
  | .hbm, ⟨19, _⟩ => ⟨S4x2816x1024, .bf16⟩
  | .hbm, ⟨20, _⟩ => ⟨S_, .i32⟩
  | .hbm, ⟨21, _⟩ => ⟨S_, .f32⟩
  | .hbm, ⟨22, _⟩ => ⟨S2x8448x1024, .f32⟩
  | .hbm, ⟨23, _⟩ => ⟨S_, .i32⟩
  | .hbm, ⟨24, _⟩ => ⟨S_, .f32⟩
  | .hbm, ⟨25, _⟩ => ⟨S2x8448x512, .f32⟩
  | .hbm, ⟨26, _⟩ => ⟨S2x8448x512, .bf16⟩
  | .hbm, ⟨27, _⟩ => ⟨S_, .i32⟩
  | .hbm, ⟨28, _⟩ => ⟨S_, .f32⟩
  | .hbm, ⟨29, _⟩ => ⟨S2x8448x512, .f32⟩
  | .hbm, ⟨30, _⟩ => ⟨S2x8448x512, .bf16⟩
  | .hbm, ⟨31, _⟩ => ⟨S2x8448x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x768x512, .bf16⟩
  | .local _ .vmem, ⟨3, _⟩ => ⟨S1x768x512, .bf16⟩
  | .local _ .vmem, ⟨4, _⟩ => ⟨S1x768x512, .bf16⟩
  | .local _ .vmem, ⟨5, _⟩ => ⟨S1x768x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024x2816, .bf16⟩
  | .local _ .vmem, ⟨12, _⟩ => ⟨S1x1024x2816, .bf16⟩
  | .local _ .vmem, ⟨13, _⟩ => ⟨S1x2816x1024, .bf16⟩
  | .local _ .vmem, ⟨14, _⟩ => ⟨S1x768x1024, .f32⟩
  | .local _ .vmem, ⟨15, _⟩ => ⟨S1x768x1024, .f32⟩
  | _, _ => ⟨S2x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call0_v0 : Ref sig .tc := ⟨.hbm, 21, rfl⟩
abbrev main_v10 : Ref sig .tc := ⟨.hbm, 22, rfl⟩
abbrev main_c_0 : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_call2_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x768x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S2x8208x1024 : Shape := ⟨3, ![2, 8208, 1024]⟩
abbrev S2x8208x512 : Shape := ⟨3, ![2, 8208, 512]⟩
abbrev S4x1024x1024 : Shape := ⟨3, ![4, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2x8208 : Shape := ⟨2, ![2, 8208]⟩
abbrev S2x8208x1 : Shape := ⟨3, ![2, 8208, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S2x8208x2816 : Shape := ⟨3, ![2, 8208, 2816]⟩
abbrev S1x2816x1024 : Shape := ⟨3, ![1, 2816, 1024]⟩
abbrev S2816x1024 : Shape := ⟨2, ![2816, 1024]⟩
abbrev S2x8448x1024 : Shape := ⟨3, ![2, 8448, 1024]⟩

abbrev nBuf : Space → Nat
  | .hbm => 92
  | .vmem => 0
  | .smem => 0
  | _ => 0

abbrev bufTy : (tb : Table) → Fin (tcTables nBuf tb) → BufTy
  | .hbm, ⟨0, _⟩ => ⟨S2x8208x1024, .f32⟩
  | .hbm, ⟨1, _⟩ => ⟨S2x8208x512, .f32⟩
  | .hbm, ⟨2, _⟩ => ⟨S2x8208x512, .f32⟩
  | .hbm, ⟨3, _⟩ => ⟨S4x1024x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024x2816, .f32⟩
  | .hbm, ⟨8, _⟩ => ⟨S4x1024x2816, .f32⟩
  | .hbm, ⟨9, _⟩ => ⟨S4x2816x1024, .f32⟩
  | .hbm, ⟨10, _⟩ => ⟨S2x8208x1024, .f32⟩
  | .hbm, ⟨11, _⟩ => ⟨S1x1024x1024, .f32⟩
  | .hbm, ⟨12, _⟩ => ⟨S1024x1024, .f32⟩
  | .hbm, ⟨13, _⟩ => ⟨S2x8208x1024, .f32⟩
  | .hbm, ⟨14, _⟩ => ⟨S1x1024, .f32⟩
  | .hbm, ⟨15, _⟩ => ⟨S1024, .f32⟩
  | .hbm, ⟨16, _⟩ => ⟨S2x8208x1024, .f32⟩
  | .hbm, ⟨17, _⟩ => ⟨S_, .f32⟩
  | .hbm, ⟨18, _⟩ => ⟨S2x8208, .f32⟩
  | .hbm, ⟨19, _⟩ => ⟨S2x8208x1, .f32⟩
  | .hbm, ⟨20, _⟩ => ⟨S_, .f32⟩
  | .hbm, ⟨21, _⟩ => ⟨S2x8208x1, .f32⟩
  | .hbm, ⟨22, _⟩ => ⟨S2x8208x1, .f32⟩
  | .hbm, ⟨23, _⟩ => ⟨S_, .f32⟩
  | .hbm, ⟨24, _⟩ => ⟨S2x8208x1, .f32⟩
  | .hbm, ⟨25, _⟩ => ⟨S2x8208x1, .f32⟩
  | .hbm, ⟨26, _⟩ => ⟨S2x8208x1, .f32⟩
  | .hbm, ⟨27, _⟩ => ⟨S2x8208x1024, .f32⟩
  | .hbm, ⟨28, _⟩ => ⟨S2x8208x1024, .f32⟩
  | .hbm, ⟨29, _⟩ => ⟨S1x1x1024, .f32⟩
  | .hbm, ⟨30, _⟩ => ⟨S2x8208x1024, .f32⟩
  | .hbm, ⟨31, _⟩ => ⟨S2x8208x1024, .f32⟩
  | .hbm, ⟨32, _⟩ => ⟨S2x8208x1024, .f32⟩
  | .hbm, ⟨33, _⟩ => ⟨S1x1024, .f32⟩
  | .hbm, ⟨34, _⟩ => ⟨S1024, .f32⟩
  | .hbm, ⟨35, _⟩ => ⟨S2x8208x1024, .f32⟩
  | .hbm, ⟨36, _⟩ => ⟨S_, .f32⟩
  | .hbm, ⟨37, _⟩ => ⟨S2x8208, .f32⟩
  | .hbm, ⟨38, _⟩ => ⟨S2x8208x1, .f32⟩
  | .hbm, ⟨39, _⟩ => ⟨S_, .f32⟩
  | .hbm, ⟨40, _⟩ => ⟨S2x8208x1, .f32⟩
  | .hbm, ⟨41, _⟩ => ⟨S2x8208x1, .f32⟩
  | .hbm, ⟨42, _⟩ => ⟨S_, .f32⟩
  | .hbm, ⟨43, _⟩ => ⟨S2x8208x1, .f32⟩
  | .hbm, ⟨44, _⟩ => ⟨S2x8208x1, .f32⟩
  | .hbm, ⟨45, _⟩ => ⟨S2x8208x1, .f32⟩
  | .hbm, ⟨46, _⟩ => ⟨S2x8208x1024, .f32⟩
  | .hbm, ⟨47, _⟩ => ⟨S2x8208x1024, .f32⟩
  | .hbm, ⟨48, _⟩ => ⟨S1x1x1024, .f32⟩
  | .hbm, ⟨49, _⟩ => ⟨S2x8208x1024, .f32⟩
  | .hbm, ⟨50, _⟩ => ⟨S2x8208x1024, .f32⟩
  | .hbm, ⟨51, _⟩ => ⟨S1x1024x2816, .f32⟩
  | .hbm, ⟨52, _⟩ => ⟨S1024x2816, .f32⟩
  | .hbm, ⟨53, _⟩ => ⟨S2x8208x2816, .f32⟩
  | .hbm, ⟨54, _⟩ => ⟨S2x8208x2816, .f32⟩
  | .hbm, ⟨55, _⟩ => ⟨S2x8208x2816, .f32⟩
  | .hbm, ⟨56, _⟩ => ⟨S_, .f32⟩
  | .hbm, ⟨57, _⟩ => ⟨S2x8208x2816, .f32⟩
  | .hbm, ⟨58, _⟩ => ⟨S2x8208x2816, .f32⟩
  | .hbm, ⟨59, _⟩ => ⟨S_, .f32⟩
  | .hbm, ⟨60, _⟩ => ⟨S2x8208x2816, .f32⟩
  | .hbm, ⟨61, _⟩ => ⟨S2x8208x2816, .f32⟩
  | .hbm, ⟨62, _⟩ => ⟨S2x8208x2816, .f32⟩
  | .hbm, ⟨63, _⟩ => ⟨S1x1024x2816, .f32⟩
  | .hbm, ⟨64, _⟩ => ⟨S1024x2816, .f32⟩
  | .hbm, ⟨65, _⟩ => ⟨S2x8208x2816, .f32⟩
  | .hbm, ⟨66, _⟩ => ⟨S2x8208x2816, .f32⟩
  | .hbm, ⟨67, _⟩ => ⟨S1x2816x1024, .f32⟩
  | .hbm, ⟨68, _⟩ => ⟨S2816x1024, .f32⟩
  | .hbm, ⟨69, _⟩ => ⟨S2x8208x1024, .f32⟩
  | .hbm, ⟨70, _⟩ => ⟨S1x1024, .f32⟩
  | .hbm, ⟨71, _⟩ => ⟨S1024, .f32⟩
  | .hbm, ⟨72, _⟩ => ⟨S2x8208x1024, .f32⟩
  | .hbm, ⟨73, _⟩ => ⟨S_, .f32⟩
  | .hbm, ⟨74, _⟩ => ⟨S2x8208, .f32⟩
  | .hbm, ⟨75, _⟩ => ⟨S2x8208x1, .f32⟩
  | .hbm, ⟨76, _⟩ => ⟨S_, .f32⟩
  | .hbm, ⟨77, _⟩ => ⟨S2x8208x1, .f32⟩
  | .hbm, ⟨78, _⟩ => ⟨S2x8208x1, .f32⟩
  | .hbm, ⟨79, _⟩ => ⟨S_, .f32⟩
  | .hbm, ⟨80, _⟩ => ⟨S2x8208x1, .f32⟩
  | .hbm, ⟨81, _⟩ => ⟨S2x8208x1, .f32⟩
  | .hbm, ⟨82, _⟩ => ⟨S2x8208x1, .f32⟩
  | .hbm, ⟨83, _⟩ => ⟨S2x8208x1024, .f32⟩
  | .hbm, ⟨84, _⟩ => ⟨S2x8208x1024, .f32⟩
  | .hbm, ⟨85, _⟩ => ⟨S1x1x1024, .f32⟩
  | .hbm, ⟨86, _⟩ => ⟨S2x8208x1024, .f32⟩
  | .hbm, ⟨87, _⟩ => ⟨S2x8208x1024, .f32⟩
  | .hbm, ⟨88, _⟩ => ⟨S2x8208x1024, .f32⟩
  | .hbm, ⟨89, _⟩ => ⟨S_, .i32⟩
  | .hbm, ⟨90, _⟩ => ⟨S_, .f32⟩
  | .hbm, ⟨91, _⟩ => ⟨S2x8448x1024, .f32⟩
  | _, _ => ⟨S2x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_5 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c : Ref sig .tc := ⟨.hbm, 89, rfl⟩
abbrev main_call1_v0 : Ref sig .tc := ⟨.hbm, 90, rfl⟩
abbrev main_v62 : Ref sig .tc := ⟨.hbm, 91, rfl⟩

abbrev nD : Nat := 1
abbrev τ : Topo := Topo.v7x

variable {F : FTy → Type} [FloatOps F]
-- ==== Proof.Trip.lean ====
/- One trip of the loop over pairs of key tiles: the pieces it stores into the scratch buffers, and how reads see stores. -/
module

public import proofs.«01_k».proof.Proof.Gen.KernelIdeal.Loops
public import Idealize.ShloMosaic.Lib.Pipeline.ReadBack

@[expose] public section

set_option maxRecDepth 16384

noncomputable section

namespace Cert.KernelIdeal.Trip

open Cert.KernelIdeal Cert.KernelIdeal.Gen Idealize.ShloMosaic Idealize.ShloMosaic.TcCoe Idealize.SL.Sem

section reads

variable {sig : RefSig} {κ : Kind} {sp : Space} {s : Shape} {e : EltTy} {Val : EltTy → Type}

/-- A load through the rectangle of the last store reads what was stored. -/
theorem readAt_hit (v : View sig κ sp s e) (f : v.ty.Contents Val) (r : Rect s) (w : r.shape.Idx → Val e) (L : List (View.Piece Val s e)) :
    View.readAt Val v r.toLoadRect (v.writes Val f (⟨r, w⟩ :: L)) = w :=
  (v.slice r).read_write_univ _ _

/-- A load through a rectangle apart from that of the last store does not see that store. -/
theorem readAt_miss (v : View sig κ sp s e) (f : v.ty.Contents Val) (r : Rect s) (w : r.shape.Idx → Val e) (L : List (View.Piece Val s e))
    (B : Rect s) (h : LoadRect.disj r B.toLoadRect = true) :
    View.readAt Val v B.toLoadRect (v.writes Val f (⟨r, w⟩ :: L)) = View.readAt Val v B.toLoadRect (v.writes Val f L) := by
  funext j
  rw [View.readAt_apply, View.readAt_apply]
  exact View.read_slice_write_of_not_mem _ _ _ _ (by rw [Rect.map_emb_univ]; exact LoadRect.idx_not_mem_of_disj h j)

end reads

/-- The half of a score buffer for head `h` of the pair. -/
abbrev scoreR (h : Fin 2) : Rect S2x768x768 := Rect.unit ![h.val, 0, 0] S1x768x768.size (by revert h; decide)
/-- The half of the buffer of running maxima for head `h` of the pair. -/
abbrev peakR (h : Fin 2) : Rect S2x1x768 := Rect.unit ![h.val, 0, 0] S1x1x768.size (by revert h; decide)
/-- The half of the buffer of running weighted sums for head `h` of the pair. -/
abbrev accR (h : Fin 2) : Rect S2x128x768 := Rect.unit ![h.val, 0, 0] S1x128x768.size (by revert h; decide)

/-- The running maxima after a tile of scores `S`. -/
abbrev newMax (S : Vec Ideal S1x768x768 .f32) (m : Vec Ideal S1x1x768 .f32) : Vec Ideal S1x1x768 .f32 := k0_pay11 (k0_pay7 S) m
/-- The running weighted sums after a tile of scores `S` with its values `v`. -/
abbrev newAcc (S : Vec Ideal S1x768x768 .f32) (m : Vec Ideal S1x1x768 .f32) (a : Vec Ideal S1x128x768 .f32) (v : Vec Ideal S1x1x128x768 .bf16) :
    Vec Ideal S1x128x768 .f32 := k0_pay10 (k0_pay7 S) m a v

variable (c : Dev nD) (i : grid0.Coords) (arg3 : Memref sig .tc .vmem S1x2x768x128 .bf16) (harg3 : arg3.IsWhole) (arg4 : Memref sig .tc .vmem S1x2x8448x128 .bf16) (harg4 : arg4.IsWhole) (arg5 : Memref sig .tc .vmem S1x2x128x8448 .bf16) (harg5 : arg5.IsWhole) (arg6 : Memref sig .tc .vmem S1x768x128 .bf16) (harg6 : arg6.IsWhole) (arg7 : Memref sig .tc .vmem S2x768x768 .f32) (harg7 : arg7.IsWhole) (arg8 : Memref sig .tc .vmem S2x768x768 .f32) (harg8 : arg8.IsWhole) (arg9 : Memref sig .tc .vmem S2x1x768 .f32) (harg9 : arg9.IsWhole) (arg10 : Memref sig .tc .vmem S2x128x768 .f32) (harg10 : arg10.IsWhole) (arg2 : BitVec 32) (v23 : FVec Ideal S768x768 .f32)

variable (X3 : BufTy.Contents (Elt Ideal) arg3.view.ty) (X4 : BufTy.Contents (Elt Ideal) arg4.view.ty) (X5 : BufTy.Contents (Elt Ideal) arg5.view.ty)
  (k : Fin (k0_t1_loop i).trips)
  (f7 : BufTy.Contents (Elt Ideal) arg7.view.ty) (f8 : BufTy.Contents (Elt Ideal) arg8.view.ty)
  (f9 : BufTy.Contents (Elt Ideal) arg9.view.ty) (f10 : BufTy.Contents (Elt Ideal) arg10.view.ty)

/-- The queries of the two heads. -/
abbrev qry0 : Vec Ideal S1x1x768x128 .bf16 := View.readAt (Elt Ideal) arg3.view (Rect.unit (s := S1x2x768x128) ![0, 0, 0, 0] S1x1x768x128.size inb_S1x2x768x128_S1x1x768x128_0_0_0_0).toLoadRect X3
abbrev qry1 : Vec Ideal S1x1x768x128 .bf16 := View.readAt (Elt Ideal) arg3.view (Rect.unit (s := S1x2x768x128) ![0, 1, 0, 0] S1x1x768x128.size inb_S1x2x768x128_S1x1x768x128_0_1_0_0).toLoadRect X3

/-- The scores of the odd tile `2k + 1` and of the next even tile `2k + 2`, per head. -/
abbrev odd0 : Vec Ideal S1x768x768 .f32 := k0_pay5 (View.readAt (Elt Ideal) arg4.view (Rect.unit (s := S1x2x8448x128) (k0_off1 i k 1#32) S1x1x768x128.size (k0_off1_inb i k 0)).toLoadRect X4) (qry0 arg3 X3)
abbrev odd1 : Vec Ideal S1x768x768 .f32 := k0_pay5 (View.readAt (Elt Ideal) arg4.view (Rect.unit (s := S1x2x8448x128) (k0_off2 i k 1#32) S1x1x768x128.size (k0_off2_inb i k 0)).toLoadRect X4) (qry1 arg3 X3)
abbrev even0 : Vec Ideal S1x768x768 .f32 := k0_pay5 (View.readAt (Elt Ideal) arg4.view (Rect.unit (s := S1x2x8448x128) (k0_off1 i k 2#32) S1x1x768x128.size (k0_off1_inb i k 1)).toLoadRect X4) (qry0 arg3 X3)
abbrev even1 : Vec Ideal S1x768x768 .f32 := k0_pay5 (View.readAt (Elt Ideal) arg4.view (Rect.unit (s := S1x2x8448x128) (k0_off2 i k 2#32) S1x1x768x128.size (k0_off2_inb i k 1)).toLoadRect X4) (qry1 arg3 X3)

/-- The values of the even tile `2k` and of the odd tile `2k + 1`, per head. -/
abbrev valE0 : Vec Ideal S1x1x128x768 .bf16 := View.readAt (Elt Ideal) arg5.view (Rect.unit (s := S1x2x128x8448) (k0_off3 i k) S1x1x128x768.size (k0_off3_inb i k)).toLoadRect X5
abbrev valE1 : Vec Ideal S1x1x128x768 .bf16 := View.readAt (Elt Ideal) arg5.view (Rect.unit (s := S1x2x128x8448) (k0_off4 i k) S1x1x128x768.size (k0_off4_inb i k)).toLoadRect X5
abbrev valO0 : Vec Ideal S1x1x128x768 .bf16 := View.readAt (Elt Ideal) arg5.view (Rect.unit (s := S1x2x128x8448) (k0_off5 i k) S1x1x128x768.size (k0_off5_inb i k)).toLoadRect X5
abbrev valO1 : Vec Ideal S1x1x128x768 .bf16 := View.readAt (Elt Ideal) arg5.view (Rect.unit (s := S1x2x128x8448) (k0_off6 i k) S1x1x128x768.size (k0_off6_inb i k)).toLoadRect X5

/-- The next even tile’s scores go into the first score buffer. -/
theorem trip_score :
    (trip_k0_t1 (F := Ideal) Variants.none c none i arg3 harg3 arg4 harg4 arg5 harg5 arg6 harg6 arg7 harg7 arg8 harg8 arg9 harg9 arg10 harg10 arg2 v23 X3 X4 X5 k).1 f7 f8 f9 f10
      = [⟨scoreR 1, even1 i arg3 arg4 X3 X4 k⟩, ⟨scoreR 0, even0 i arg3 arg4 X3 X4 k⟩] := by
  unfold trip_k0_t1
  dsimp only
  sl_unfold_words
  try simp (disch := decide) only [↓ View.readCov_skip, ↓ View.readCov_cons_toLoadRect]
  try rfl

/-- The running maxima take the even tile, then the odd one, head by head. -/
theorem trip_peak
    (S0 S1 : Vec Ideal S1x768x768 .f32) (m0 m1 : Vec Ideal S1x1x768 .f32)
    (hS0 : S0 = View.readAt (Elt Ideal) arg7.view (scoreR 0).toLoadRect f7) (hS1 : S1 = View.readAt (Elt Ideal) arg7.view (scoreR 1).toLoadRect f7)
    (hm0 : m0 = View.readAt (Elt Ideal) arg9.view (peakR 0).toLoadRect f9) (hm1 : m1 = View.readAt (Elt Ideal) arg9.view (peakR 1).toLoadRect f9) :
    (trip_k0_t1 (F := Ideal) Variants.none c none i arg3 harg3 arg4 harg4 arg5 harg5 arg6 harg6 arg7 harg7 arg8 harg8 arg9 harg9 arg10 harg10 arg2 v23 X3 X4 X5 k).2.2.1 f7 f8 f9 f10
      = [⟨peakR 1, newMax (odd1 i arg3 arg4 X3 X4 k) (newMax S1 m1)⟩, ⟨peakR 0, newMax (odd0 i arg3 arg4 X3 X4 k) (newMax S0 m0)⟩,
          ⟨peakR 1, newMax S1 m1⟩, ⟨peakR 0, newMax S0 m0⟩] := by
  subst hS0 hS1 hm0 hm1
  unfold trip_k0_t1
  dsimp only
  sl_unfold_words
  try simp (disch := decide) only [↓ View.readCov_skip, ↓ View.readCov_cons_toLoadRect]
  try rfl

/-- The running sums take the even tile, then the odd one, head by head. -/
theorem trip_acc
    (S0 S1 : Vec Ideal S1x768x768 .f32) (m0 m1 : Vec Ideal S1x1x768 .f32) (a0 a1 : Vec Ideal S1x128x768 .f32)
    (hS0 : S0 = View.readAt (Elt Ideal) arg7.view (scoreR 0).toLoadRect f7) (hS1 : S1 = View.readAt (Elt Ideal) arg7.view (scoreR 1).toLoadRect f7)
    (hm0 : m0 = View.readAt (Elt Ideal) arg9.view (peakR 0).toLoadRect f9) (hm1 : m1 = View.readAt (Elt Ideal) arg9.view (peakR 1).toLoadRect f9)
    (ha0 : a0 = View.readAt (Elt Ideal) arg10.view (accR 0).toLoadRect f10) (ha1 : a1 = View.readAt (Elt Ideal) arg10.view (accR 1).toLoadRect f10) :
    (trip_k0_t1 (F := Ideal) Variants.none c none i arg3 harg3 arg4 harg4 arg5 harg5 arg6 harg6 arg7 harg7 arg8 harg8 arg9 harg9 arg10 harg10 arg2 v23 X3 X4 X5 k).2.2.2.1 f7 f8 f9 f10
      = [⟨accR 1, newAcc (odd1 i arg3 arg4 X3 X4 k) (newMax S1 m1) (newAcc S1 m1 a1 (valE1 i arg5 X5 k)) (valO1 i arg5 X5 k)⟩,
          ⟨accR 0, newAcc (odd0 i arg3 arg4 X3 X4 k) (newMax S0 m0) (newAcc S0 m0 a0 (valE0 i arg5 X5 k)) (valO0 i arg5 X5 k)⟩,
          ⟨accR 1, newAcc S1 m1 a1 (valE1 i arg5 X5 k)⟩, ⟨accR 0, newAcc S0 m0 a0 (valE0 i arg5 X5 k)⟩] := by
  subst hS0 hS1 hm0 hm1 ha0 ha1
  unfold trip_k0_t1
  dsimp only
  sl_unfold_words
  try simp (disch := decide) only [↓ View.readCov_skip, ↓ View.readCov_cons_toLoadRect]
  try rfl

end Cert.KernelIdeal.Trip

end
-- ==== Proof.Softmax.lean ====
/-
  Weighted means with exponential weights over the extended reals, taken tile by tile: the greatest score seen so far is
  kept beside the weighted sum relative to it, and a new tile rescales both.
-/
module

public import Idealize.ShloMosaic.PureOps.Ideal
public import Mathlib.Data.EReal.Operations

@[expose] public section

noncomputable section

namespace Cert.Softmax

open Idealize.ShloMosaic Finset

/-- The greatest of the first `n` scores, `⊥` when there are none. -/
def peak (s : ℕ → EReal) (n : ℕ) : EReal := (range n).sup s

/-- The sum of the first `n` values, each weighted by the exponential of its score relative to `m`. -/
def mix (s v : ℕ → EReal) (n : ℕ) (m : EReal) : EReal := ∑ k ∈ range n, Ideal.exp (s k - m) * v k

theorem peak_zero (s : ℕ → EReal) : peak s 0 = ⊥ := by simp [peak]

theorem mix_zero (s v : ℕ → EReal) (m : EReal) : mix s v 0 m = 0 := by simp [mix]

theorem le_peak {s : ℕ → EReal} {n k : ℕ} (h : k < n) : s k ≤ peak s n :=
  le_sup (f := s) (mem_range.mpr h)

theorem fold_max_eq_sup {ι : Type} (K : Finset ι) (f : ι → EReal) : K.fold max ⊥ f = K.sup f := rfl

/-- The greatest score over one more tile. -/
theorem peak_add (s : ℕ → EReal) (a n : ℕ) :
    peak s (a + n) = max (peak s a) ((univ : Finset (Fin n)).fold max ⊥ fun j => s (a + j.val)) := by
  rw [fold_max_eq_sup]
  unfold peak
  apply le_antisymm
  · refine Finset.sup_le fun k hk => ?_
    rw [mem_range] at hk
    by_cases h : k < a
    · exact le_max_of_le_left (le_sup (f := s) (mem_range.mpr h))
    · refine le_max_of_le_right ?_
      have e : s k = (fun j : Fin n => s (a + j)) ⟨k - a, by omega⟩ := by
        show s k = s (a + (k - a)); congr 1; omega
      rw [e]
      exact le_sup (f := fun j : Fin n => s (a + j)) (mem_univ _)
  · refine max_le ?_ ?_
    · exact Finset.sup_mono (range_mono (by omega))
    · exact Finset.sup_le fun j _ => le_sup (f := s) (mem_range.mpr (by have := j.isLt; omega))

theorem peak_ne_top {s : ℕ → EReal} {n : ℕ} (hs : ∀ k, s k ≠ ⊤) : peak s n ≠ ⊤ := by
  apply ne_of_lt
  unfold peak
  exact (Finset.sup_lt_iff bot_lt_top).mpr fun k _ => lt_top_iff_ne_top.mpr (hs k)

theorem bot_sub' (x : EReal) : (⊥ : EReal) - x = ⊥ := by
  rw [sub_eq_add_neg]; exact EReal.bot_add _

theorem coe_mul_sum {ι : Type} (a : ℝ) (ha : 0 ≤ a) (K : Finset ι) (f : ι → EReal) :
    (a : EReal) * ∑ k ∈ K, f k = ∑ k ∈ K, (a : EReal) * f k := by
  classical
  induction K using Finset.induction_on with
  | empty => simp
  | insert k K hk ih =>
    rw [sum_insert hk, sum_insert hk, ← ih]
    exact EReal.left_distrib_of_nonneg_of_ne_top (by exact_mod_cast ha) (EReal.coe_ne_top _) _ _

theorem coe_sum {ι : Type} (K : Finset ι) (f : ι → ℝ) : ((∑ k ∈ K, f k : ℝ) : EReal) = ∑ k ∈ K, (f k : EReal) := by
  classical
  induction K using Finset.induction_on with
  | empty => simp
  | insert k K hk ih => rw [sum_insert hk, sum_insert hk, EReal.coe_add, ih]

/-- Raising the reference score rescales the weighted sum. -/
theorem mix_rescale (s v : ℕ → EReal) (n : ℕ) (m' : EReal) (hle : peak s n ≤ m') (hm' : m' ≠ ⊤) :
    Ideal.exp (peak s n - m') * mix s v n (peak s n) = mix s v n m' := by
  have hk : ∀ k ∈ range n, s k ≤ peak s n := fun k h => le_peak (mem_range.mp h)
  generalize peak s n = m at *
  by_cases hb : m = ⊥
  · subst hb
    rw [bot_sub', Ideal.exp_bot, zero_mul]
    unfold mix
    refine (sum_eq_zero fun k h => ?_).symm
    rw [le_bot_iff.mp (hk k h), bot_sub', Ideal.exp_bot, zero_mul]
  · have hmt : m ≠ ⊤ := fun h => hm' (top_le_iff.mp (h ▸ hle))
    have hb' : m' ≠ ⊥ := fun h => hb (le_bot_iff.mp (h ▸ hle))
    lift m to ℝ using ⟨hmt, hb⟩
    lift m' to ℝ using ⟨hm', hb'⟩
    unfold mix
    rw [← EReal.coe_sub, Ideal.exp_coe, coe_mul_sum _ (Real.exp_pos _).le]
    refine sum_congr rfl fun k h => ?_
    rw [← mul_assoc]
    congr 1
    have h1 := hk k h
    generalize s k = x at *
    induction x using EReal.rec with
    | bot => rw [bot_sub', bot_sub', Ideal.exp_bot, mul_zero]
    | coe r =>
      rw [← EReal.coe_sub, ← EReal.coe_sub, Ideal.exp_coe, Ideal.exp_coe, ← EReal.coe_mul, ← Real.exp_add]
      congr 2; ring
    | top => exact absurd (top_le_iff.mp h1) (EReal.coe_ne_top _)

/-- The weighted sum over one more tile, from the sum kept so far. -/
theorem mix_add (s v : ℕ → EReal) (a n : ℕ) (hs : ∀ k, s k ≠ ⊤) :
    mix s v (a + n) (peak s (a + n))
      = Ideal.exp (peak s a - peak s (a + n)) * mix s v a (peak s a)
        + ∑ j : Fin n, Ideal.exp (s (a + j) - peak s (a + n)) * v (a + j) := by
  have hle : peak s a ≤ peak s (a + n) := by rw [peak_add]; exact le_max_left _ _
  rw [mix_rescale s v a _ hle (peak_ne_top hs)]
  generalize peak s (a + n) = m'
  unfold mix
  rw [sum_range_add]
  congr 1
  exact (Fin.sum_univ_eq_sum_range (fun j => Ideal.exp (s (a + j) - m') * v (a + j)) n).symm

/-! ## Scores from some position on hidden -/

/-- The scores up to position `t`, the later ones `⊥`. -/
def upTo (s : ℕ → EReal) (t : ℕ) : ℕ → EReal := fun k => if k ≤ t then s k else ⊥

theorem upTo_ne_top {s : ℕ → EReal} (hs : ∀ k, s k ≠ ⊤) (t k : ℕ) : upTo s t k ≠ ⊤ := by
  unfold upTo; split
  · exact hs k
  · exact bot_ne_top

theorem peak_congr {s s' : ℕ → EReal} {n : ℕ} (h : ∀ k < n, s k = s' k) : peak s n = peak s' n :=
  Finset.sup_congr rfl fun k hk => h k (mem_range.mp hk)

theorem mix_congr {s s' v v' : ℕ → EReal} {n : ℕ} {m : EReal} (h : ∀ k < n, s k = s' k) (hv : ∀ k < n, v k = v' k) :
    mix s v n m = mix s' v' n m :=
  sum_congr rfl fun k hk => by rw [h k (mem_range.mp hk), hv k (mem_range.mp hk)]

theorem peak_upTo (s : ℕ → EReal) {t n : ℕ} (h : t < n) : peak (upTo s t) n = peak s (t + 1) := by
  apply le_antisymm
  · refine Finset.sup_le fun k _ => ?_
    unfold upTo; split
    · exact le_peak (by omega)
    · exact bot_le
  · refine Finset.sup_le fun k hk => ?_
    have hk' : k ≤ t := by have := mem_range.mp hk; omega
    have e : s k = upTo s t k := by unfold upTo; rw [if_pos hk']
    rw [e]
    exact le_peak (by omega)

theorem mix_upTo (s v : ℕ → EReal) {t n : ℕ} (m : EReal) (h : t < n) : mix (upTo s t) v n m = mix s v (t + 1) m := by
  obtain ⟨d, rfl⟩ : ∃ d, n = (t + 1) + d := ⟨n - (t + 1), by omega⟩
  unfold mix
  rw [sum_range_add, sum_eq_zero (s := range d), add_zero]
  · refine sum_congr rfl fun k hk => ?_
    have hk' : k ≤ t := by have := mem_range.mp hk; omega
    unfold upTo; rw [if_pos hk']
  · intro j _
    unfold upTo
    rw [if_neg (by omega), bot_sub', Ideal.exp_bot, zero_mul]

/-! ## The weights divided by their sum -/

/-- With finitely many real scores, at least one, the weights sum to a positive real. -/
theorem mix_one_pos (s : ℕ → EReal) (t : ℕ) (hs : ∀ k, s k ≠ ⊤) (hb : ∀ k, s k ≠ ⊥) :
    ∃ l : ℝ, 0 < l ∧ mix s (fun _ => 1) (t + 1) (peak s (t + 1)) = (l : EReal) := by
  have hm := peak_ne_top (n := t + 1) hs
  have hmb : peak s (t + 1) ≠ ⊥ := fun h => hb 0 (le_bot_iff.mp (h ▸ le_peak (s := s) (Nat.succ_pos t)))
  generalize peak s (t + 1) = m at *
  lift m to ℝ using ⟨hm, hmb⟩
  refine ⟨∑ k ∈ range (t + 1), Real.exp ((s k).toReal - m), ?_, ?_⟩
  · exact sum_pos (fun k _ => Real.exp_pos _) ⟨0, mem_range.mpr (Nat.succ_pos t)⟩
  · unfold mix
    rw [coe_sum]
    refine sum_congr rfl fun k _ => ?_
    rw [mul_one, ← EReal.coe_toReal (hs k) (hb k), ← EReal.coe_sub, Ideal.exp_coe, EReal.toReal_coe]

/-- Dividing the weighted sum by the weights' sum is weighting by the divided weights. -/
theorem mean_eq (s v : ℕ → EReal) (t : ℕ) (hs : ∀ k, s k ≠ ⊤) (hb : ∀ k, s k ≠ ⊥) :
    Ideal.div (mix s v (t + 1) (peak s (t + 1))) (mix s (fun _ => 1) (t + 1) (peak s (t + 1)))
      = ∑ k ∈ range (t + 1), Ideal.div (Ideal.exp (s k - peak s (t + 1)))
          (mix s (fun _ => 1) (t + 1) (peak s (t + 1))) * v k := by
  obtain ⟨l, hl, e⟩ := mix_one_pos s t hs hb
  rw [e]
  have hd : ∀ x : EReal, Ideal.div x (l : EReal) = ((l⁻¹ : ℝ) : EReal) * x := fun x => by
    unfold Ideal.div
    have h0 : (l : EReal) ≠ 0 := by exact_mod_cast hl.ne'
    simp only [h0, if_false, ↓reduceIte]
    rw [mul_comm, EReal.coe_inv]
  simp only [hd]
  unfold mix
  rw [coe_mul_sum _ (inv_pos.mpr hl).le]
  exact sum_congr rfl fun k _ => (mul_assoc _ _ _).symm

/-! ## One tile's update -/

/-- The greatest score after a tile whose scores are `S`. -/
def stepMax {n : ℕ} (m : EReal) (S : Fin n → EReal) : EReal := max m (univ.fold max ⊥ S)

/-- The weighted sum after a tile whose scores are `S` and whose values are `V`. -/
def stepAcc {n : ℕ} (m a : EReal) (S V : Fin n → EReal) : EReal :=
  Ideal.exp (m - stepMax m S) * a + ∑ k, V k * Ideal.exp (S k - stepMax m S)

/-- A tile's scores with the rows after `t` hidden. -/
def hide {n : ℕ} (t : ℕ) (S : Fin n → EReal) : Fin n → EReal := fun k => if k.val ≤ t then S k else ⊥

theorem stepMax_eq (s : ℕ → EReal) (a : ℕ) {n : ℕ} :
    stepMax (peak s a) (fun j : Fin n => s (a + j.val)) = peak s (a + n) := (peak_add s a n).symm

theorem stepAcc_eq (s v : ℕ → EReal) (a : ℕ) {n : ℕ} (hs : ∀ k, s k ≠ ⊤) :
    stepAcc (peak s a) (mix s v a (peak s a)) (fun j : Fin n => s (a + j.val)) (fun j : Fin n => v (a + j.val))
      = mix s v (a + n) (peak s (a + n)) := by
  unfold stepAcc
  rw [stepMax_eq, mix_add s v a n hs]
  congr 1
  exact sum_congr rfl fun k _ => mul_comm _ _

/-- The tile that holds the last visible row: the later rows of the tile are hidden. -/
theorem stepAcc_hide (s v : ℕ → EReal) (a t : ℕ) {n : ℕ} (ht : t < n) (hs : ∀ k, s k ≠ ⊤) :
    stepAcc (peak s a) (mix s v a (peak s a)) (hide t fun j : Fin n => s (a + j.val)) (fun j : Fin n => v (a + j.val))
      = mix s v (a + t + 1) (peak s (a + t + 1)) := by
  have h : (hide t fun j : Fin n => s (a + j.val)) = fun j : Fin n => upTo s (a + t) (a + j.val) := by
    funext j; unfold hide upTo; simp
  have hp : ∀ k < a, s k = upTo s (a + t) k := fun k hk => by unfold upTo; rw [if_pos (by omega)]
  rw [h, peak_congr hp, mix_congr hp (fun _ _ => rfl),
    stepAcc_eq (upTo s (a + t)) v a (upTo_ne_top hs _), mix_upTo s v _ (by omega), peak_upTo s (by omega)]

end Cert.Softmax

end
-- ==== Proof.Tile.lean ====
/- The kernel's vector expressions, read at an index. -/
module

public import proofs.«01_k».proof.Proof.Trip
public import proofs.«01_k».proof.Proof.Softmax
public import Idealize.ShloMosaic.Lib.Pointwise
public import Idealize.ShloMosaic.Lib.WordCmp

@[expose] public section

set_option maxRecDepth 16384

noncomputable section

namespace Cert.KernelIdeal.Tile

open Cert.Softmax Cert.KernelIdeal Cert.KernelIdeal.Gen Cert.KernelIdeal.Trip Idealize.ShloMosaic Idealize.ShloMosaic.TcCoe

theorem negInf : Ideal.ofBits FTy.f32 4286578688#32 = ⊥ := by simp [Ideal.ofBits, Ideal.ieee]

theorem mask_eq : (Named.named κ "mask" 4048155338#32 : Ideal .f32) = ⊥ := rfl

theorem select_sle (k q c : ℕ) (x y : EReal) (hk : k < 1024) (hq : q < 1024) (hc : c < 1024) :
    Scalar.select (IntOp.cmpi .sle (BitVec.ofNat 32 k) (IntOp.addi (BitVec.ofNat 32 q) (BitVec.ofNat 32 c))) x y
      = if k ≤ q + c then x else y := by
  have h : IntOp.addi (BitVec.ofNat 32 q) (BitVec.ofNat 32 c) = BitVec.ofNat 32 (q + c) := by
    unfold IntOp.addi; exact (BitVec.ofNat_add ..).symm
  rw [h]
  unfold Scalar.select
  refine if_congr ?_ rfl rfl
  exact WordCmp.cmpi_sle_ofNat_eq_one_iff (w := 32) (by omega) (by omega)

theorem select_slt (k c : ℕ) (x y : EReal) (hk : k < 1024) (hc : c < 1024) :
    Scalar.select (IntOp.cmpi .slt (BitVec.ofNat 32 k) (BitVec.ofNat 32 c)) x y = if k < c then x else y := by
  unfold Scalar.select
  refine if_congr ?_ rfl rfl
  exact WordCmp.cmpi_slt_ofNat_eq_one_iff (w := 32) (by omega) (by omega)

/-- A score is the product of a key row and a query row. -/
theorem score_apply (K Q : Vec Ideal S1x1x768x128 .bf16) (k q : Fin 768) :
    k0_pay5 K Q (ix3 0 k q) = ∑ l : Fin 128, K (ix4 0 0 k l) * Q (ix4 0 0 q l) := by
  pointwise [k0_pay5]

theorem k0_pay144_apply (K Q : Vec Ideal S1x1x768x128 .bf16) (k q : Fin 768) :
    k0_pay144 K Q (ix3 0 k q) = ∑ l : Fin 128, K (ix4 0 0 k l) * Q (ix4 0 0 q l) := by
  pointwise [k0_pay144]

theorem k0_pay88_apply (K Q : Vec Ideal S1x1x768x128 .bf16) (k q : Fin 768) :
    k0_pay88 K Q (ix3 0 k q) = ∑ l : Fin 128, K (ix4 0 0 k l) * Q (ix4 0 0 q l) := by
  pointwise [k0_pay88]

theorem k0_pay89_apply (K Q : Vec Ideal S1x1x768x128 .bf16) (k q : Fin 768) :
    k0_pay89 K Q (ix3 0 k q) = ∑ l : Fin 128, K (ix4 0 0 k l) * Q (ix4 0 0 q l) := by
  pointwise [k0_pay89]

theorem k0_pay146_apply (K Q : Vec Ideal S1x1x768x128 .bf16) (k q : Fin 768) :
    k0_pay146 (k0_pay145 K Q) (ix3 0 k q) = ∑ l : Fin 128, K (ix4 0 0 k l) * Q (ix4 0 0 q l) := by
  pointwise [k0_pay146, k0_pay145]

theorem newMax_apply (S : Vec Ideal S1x768x768 .f32) (m : Vec Ideal S1x1x768 .f32) (q : Fin 768) :
    newMax S m (ix3 0 0 q) = stepMax (m (ix3 0 0 q)) (fun k : Fin 768 => S (ix3 0 k q)) := by
  unfold stepMax
  pointwise [newMax, k0_pay11, k0_pay9, k0_pay8, k0_pay7]
  simp only [negInf]

theorem newAcc_apply (S : Vec Ideal S1x768x768 .f32) (m : Vec Ideal S1x1x768 .f32) (a : Vec Ideal S1x128x768 .f32)
    (v : Vec Ideal S1x1x128x768 .bf16) (d : Fin 128) (q : Fin 768) :
    newAcc S m a v (ix3 0 d q)
      = stepAcc (m (ix3 0 0 q)) (a (ix3 0 d q)) (fun k : Fin 768 => S (ix3 0 k q)) (fun k => v (ix4 0 0 d k)) := by
  unfold stepAcc stepMax
  pointwise [newAcc, k0_pay10, k0_pay9, k0_pay8, k0_pay7]
  simp only [negInf]

/-! ## The tile on the diagonal, a third of its queries at a time -/

theorem k0_pay62_apply (S : Vec Ideal S1x256x256 .f32) (m : Vec Ideal S1x1x256 .f32) (a : Vec Ideal S1x128x256 .f32)
    (v : Vec Ideal S1x1x128x256 .bf16) (d : Fin 128) (q : Fin 256) :
    k0_pay62 S m a v (ix3 0 d q)
      = stepAcc (m (ix3 0 0 q)) (a (ix3 0 d q)) (hide (q.val + 0) fun k : Fin 256 => S (ix3 0 k q)) (fun k => v (ix4 0 0 d k)) := by
  unfold stepAcc stepMax hide
  pointwise [k0_pay62, k0_pay59, k0_pay60, k0_pay61]
  simp only [negInf, mask_eq]
  have h : ∀ (k : Fin 256) (x y : EReal), Scalar.select (IntOp.cmpi .sle (BitVec.ofNat 32 k.val)
      (IntOp.addi (BitVec.ofNat 32 q.val) 0#32)) x y = if k.val ≤ q.val + 0 then x else y :=
    fun k x y => select_sle k.val q.val 0 x y (by omega) (by omega) (by omega)
  simp only [h, Nat.add_zero]

theorem k0_pay67_apply (S : Vec Ideal S1x512x256 .f32) (m : Vec Ideal S1x1x256 .f32) (a : Vec Ideal S1x128x256 .f32)
    (v : Vec Ideal S1x1x128x512 .bf16) (d : Fin 128) (q : Fin 256) :
    k0_pay67 S m a v (ix3 0 d q)
      = stepAcc (m (ix3 0 0 q)) (a (ix3 0 d q)) (hide (q.val + 256) fun k : Fin 512 => S (ix3 0 k q)) (fun k => v (ix4 0 0 d k)) := by
  unfold stepAcc stepMax hide
  pointwise [k0_pay67, k0_pay64, k0_pay65, k0_pay66]
  simp only [negInf, mask_eq]
  have h : ∀ (k : Fin 512) (x y : EReal), Scalar.select (IntOp.cmpi .sle (BitVec.ofNat 32 k.val)
      (IntOp.addi (BitVec.ofNat 32 q.val) 256#32)) x y = if k.val ≤ q.val + 256 then x else y :=
    fun k x y => select_sle k.val q.val 256 x y (by omega) (by omega) (by omega)
  simp only [h, Nat.add_zero]

theorem k0_pay72_apply (S : Vec Ideal S1x768x256 .f32) (m : Vec Ideal S1x1x256 .f32) (a : Vec Ideal S1x128x256 .f32)
    (v : Vec Ideal S1x1x128x768 .bf16) (d : Fin 128) (q : Fin 256) :
    k0_pay72 S m a v (ix3 0 d q)
      = stepAcc (m (ix3 0 0 q)) (a (ix3 0 d q)) (hide (q.val + 512) fun k : Fin 768 => S (ix3 0 k q)) (fun k => v (ix4 0 0 d k)) := by
  unfold stepAcc stepMax hide
  pointwise [k0_pay72, k0_pay69, k0_pay70, k0_pay71]
  simp only [negInf, mask_eq]
  have h : ∀ (k : Fin 768) (x y : EReal), Scalar.select (IntOp.cmpi .sle (BitVec.ofNat 32 k.val)
      (IntOp.addi (BitVec.ofNat 32 q.val) 512#32)) x y = if k.val ≤ q.val + 512 then x else y :=
    fun k x y => select_sle k.val q.val 512 x y (by omega) (by omega) (by omega)
  simp only [h, Nat.add_zero]

/-- The block written out: the sums divided by the sum of the weights, head by head. -/
theorem k0_pay4_apply (A B : Vec Ideal S1x128x768 .f32) (q : Fin 768) (d : Fin 128) :
    k0_pay4 A B (ix3 0 q d)
      = if d.val < 64 then Ideal.div (A (ix3 0 d q)) (A (ix3 0 64 q)) else Ideal.div (B (ix3 0 d q)) (B (ix3 0 0 q)) := by
  pointwise [k0_pay4]
  exact select_slt d.val 64 _ _ (by omega) (by omega)

theorem k0_pay142_apply (j) : (k0_pay142 (F := Ideal)) j = ⊥ := by
  pointwise [k0_pay142]
  rfl

theorem k0_pay143_apply (j) : (k0_pay143 (F := Ideal)) j = 0 := by
  pointwise [k0_pay143]

end Cert.KernelIdeal.Tile

end
-- ==== Proof.Reads.lean ====
/- Where the kernel's loads lie, and what they read of the blocks of queries, keys and values. -/
module

public import proofs.«01_k».proof.Proof.Tile
public import Idealize.ShloMosaic.Lib.WholeRead
public import Idealize.ShloMosaic.Lib.Pipeline.ValueKit

@[expose] public section

set_option maxRecDepth 16384

noncomputable section

namespace Cert.KernelIdeal.Reads

open Cert.Softmax Cert.KernelIdeal Cert.KernelIdeal.Gen Cert.KernelIdeal.Trip Cert.KernelIdeal.Tile Idealize.ShloMosaic Idealize.ShloMosaic.TcCoe

/-! ## The offsets -/

/-- The loop makes one trip for each pair of tiles before the diagonal. -/
theorem trips_eq (i : grid0.Coords) : (k0_t1_loop i).trips = (i 2).val / 2 := by
  unfold k0_t1_loop
  generalize (i 2) = t
  revert t
  decide +kernel

theorem trip_lt (i : grid0.Coords) (k : Fin (k0_t1_loop i).trips) : k.val < 5 := by
  have h := k.isLt
  have e := trips_eq i
  have h3 : (i 2).val < 11 := (i 2).isLt
  omega

theorem off1_0 (i : grid0.Coords) (k : Fin (k0_t1_loop i).trips) :
    k0_off1 i k 1#32 = ![0, 0, (2 * k.val + 1) * 768, 0] := by
  have key : ∀ k : Fin 5, (Scalar.indexCast (Scalar.muli (Scalar.addi (Scalar.muli 2#32 (Scf.iv 0#32 1#32 k.val)) 1#32) 768#32) : Index).toNat
      = (2 * k.val + 1) * 768 := by decide +kernel
  exact congrArg (fun n => ![0, 0, n, 0]) (key ⟨k.val, trip_lt i k⟩)

theorem off1_1 (i : grid0.Coords) (k : Fin (k0_t1_loop i).trips) :
    k0_off1 i k 2#32 = ![0, 0, (2 * k.val + 2) * 768, 0] := by
  have key : ∀ k : Fin 5, (Scalar.indexCast (Scalar.muli (Scalar.addi (Scalar.muli 2#32 (Scf.iv 0#32 1#32 k.val)) 2#32) 768#32) : Index).toNat
      = (2 * k.val + 2) * 768 := by decide +kernel
  exact congrArg (fun n => ![0, 0, n, 0]) (key ⟨k.val, trip_lt i k⟩)

theorem off2_0 (i : grid0.Coords) (k : Fin (k0_t1_loop i).trips) :
    k0_off2 i k 1#32 = ![0, 1, (2 * k.val + 1) * 768, 0] := by
  have key : ∀ k : Fin 5, (Scalar.indexCast (Scalar.muli (Scalar.addi (Scalar.muli 2#32 (Scf.iv 0#32 1#32 k.val)) 1#32) 768#32) : Index).toNat
      = (2 * k.val + 1) * 768 := by decide +kernel
  exact congrArg (fun n => ![0, 1, n, 0]) (key ⟨k.val, trip_lt i k⟩)

theorem off2_1 (i : grid0.Coords) (k : Fin (k0_t1_loop i).trips) :
    k0_off2 i k 2#32 = ![0, 1, (2 * k.val + 2) * 768, 0] := by
  have key : ∀ k : Fin 5, (Scalar.indexCast (Scalar.muli (Scalar.addi (Scalar.muli 2#32 (Scf.iv 0#32 1#32 k.val)) 2#32) 768#32) : Index).toNat
      = (2 * k.val + 2) * 768 := by decide +kernel
  exact congrArg (fun n => ![0, 1, n, 0]) (key ⟨k.val, trip_lt i k⟩)

theorem off3_eq (i : grid0.Coords) (k : Fin (k0_t1_loop i).trips) :
    k0_off3 i k = ![0, 0, 0, (2 * k.val) * 768] := by
  have key : ∀ k : Fin 5, (Scalar.indexCast (Scalar.muli (Scalar.muli 2#32 (Scf.iv 0#32 1#32 k.val)) 768#32) : Index).toNat
      = (2 * k.val) * 768 := by decide +kernel
  exact congrArg (fun n => ![0, 0, 0, n]) (key ⟨k.val, trip_lt i k⟩)

theorem off4_eq (i : grid0.Coords) (k : Fin (k0_t1_loop i).trips) :
    k0_off4 i k = ![0, 1, 0, (2 * k.val) * 768] := by
  have key : ∀ k : Fin 5, (Scalar.indexCast (Scalar.muli (Scalar.muli 2#32 (Scf.iv 0#32 1#32 k.val)) 768#32) : Index).toNat
      = (2 * k.val) * 768 := by decide +kernel
  exact congrArg (fun n => ![0, 1, 0, n]) (key ⟨k.val, trip_lt i k⟩)

theorem off5_eq (i : grid0.Coords) (k : Fin (k0_t1_loop i).trips) :
    k0_off5 i k = ![0, 0, 0, (2 * k.val + 1) * 768] := by
  have key : ∀ k : Fin 5, (Scalar.indexCast (Scalar.muli (Scalar.addi (Scalar.muli 2#32 (Scf.iv 0#32 1#32 k.val)) 1#32) 768#32) : Index).toNat
      = (2 * k.val + 1) * 768 := by decide +kernel
  exact congrArg (fun n => ![0, 0, 0, n]) (key ⟨k.val, trip_lt i k⟩)

theorem off6_eq (i : grid0.Coords) (k : Fin (k0_t1_loop i).trips) :
    k0_off6 i k = ![0, 1, 0, (2 * k.val + 1) * 768] := by
  have key : ∀ k : Fin 5, (Scalar.indexCast (Scalar.muli (Scalar.addi (Scalar.muli 2#32 (Scf.iv 0#32 1#32 k.val)) 1#32) 768#32) : Index).toNat
      = (2 * k.val + 1) * 768 := by decide +kernel
  exact congrArg (fun n => ![0, 1, 0, n]) (key ⟨k.val, trip_lt i k⟩)

/-- The diagonal tile's place among the keys. -/
theorem diag_word (t : Fin 11) : (Scalar.indexCast (Scalar.muli (BitVec.ofNat 32 t.val) 768#32) : Index).toNat = t.val * 768 := by
  revert t; decide +kernel

theorem prev_word (t : Fin 11) (h : 0 < t.val) :
    (Scalar.indexCast (Scalar.muli (Scalar.subi (BitVec.ofNat 32 t.val) 1#32) 768#32) : Index).toNat = (t.val - 1) * 768 := by
  revert t; decide +kernel

theorem off13_eq (i : grid0.Coords) : k0_off13 i = ![0, 0, 0, (i 2).val * 768] :=
  congrArg (fun n => ![0, 0, 0, n]) (diag_word (i 2))
theorem off14_eq (i : grid0.Coords) : k0_off14 i = ![0, 0, 0, (i 2).val * 768] :=
  congrArg (fun n => ![0, 0, 0, n]) (diag_word (i 2))
theorem off15_eq (i : grid0.Coords) : k0_off15 i = ![0, 0, 0, (i 2).val * 768] :=
  congrArg (fun n => ![0, 0, 0, n]) (diag_word (i 2))
theorem off16_eq (i : grid0.Coords) : k0_off16 i = ![0, 1, 0, (i 2).val * 768] :=
  congrArg (fun n => ![0, 1, 0, n]) (diag_word (i 2))
theorem off17_eq (i : grid0.Coords) : k0_off17 i = ![0, 1, 0, (i 2).val * 768] :=
  congrArg (fun n => ![0, 1, 0, n]) (diag_word (i 2))
theorem off18_eq (i : grid0.Coords) : k0_off18 i = ![0, 1, 0, (i 2).val * 768] :=
  congrArg (fun n => ![0, 1, 0, n]) (diag_word (i 2))
theorem off23_eq (i : grid0.Coords) : k0_off23 i = ![0, 0, 0, (i 2).val * 768] :=
  congrArg (fun n => ![0, 0, 0, n]) (diag_word (i 2))
theorem off24_eq (i : grid0.Coords) : k0_off24 i = ![0, 0, 0, (i 2).val * 768] :=
  congrArg (fun n => ![0, 0, 0, n]) (diag_word (i 2))
theorem off25_eq (i : grid0.Coords) : k0_off25 i = ![0, 0, 0, (i 2).val * 768] :=
  congrArg (fun n => ![0, 0, 0, n]) (diag_word (i 2))
theorem off26_eq (i : grid0.Coords) : k0_off26 i = ![0, 1, 0, (i 2).val * 768] :=
  congrArg (fun n => ![0, 1, 0, n]) (diag_word (i 2))
theorem off27_eq (i : grid0.Coords) : k0_off27 i = ![0, 1, 0, (i 2).val * 768] :=
  congrArg (fun n => ![0, 1, 0, n]) (diag_word (i 2))
theorem off28_eq (i : grid0.Coords) : k0_off28 i = ![0, 1, 0, (i 2).val * 768] :=
  congrArg (fun n => ![0, 1, 0, n]) (diag_word (i 2))
theorem off19_eq (i : grid0.Coords) : k0_off19 i = ![0, 0, (i 2).val * 768, 0] :=
  congrArg (fun n => ![0, 0, n, 0]) (diag_word (i 2))
theorem off20_eq (i : grid0.Coords) : k0_off20 i = ![0, 1, (i 2).val * 768, 0] :=
  congrArg (fun n => ![0, 1, n, 0]) (diag_word (i 2))
theorem off21_eq (i : grid0.Coords) (h : 0 < (i 2).val) : k0_off21 i = ![0, 0, 0, ((i 2).val - 1) * 768] :=
  congrArg (fun n => ![0, 0, 0, n]) (prev_word (i 2) h)
theorem off22_eq (i : grid0.Coords) (h : 0 < (i 2).val) : k0_off22 i = ![0, 1, 0, ((i 2).val - 1) * 768] :=
  congrArg (fun n => ![0, 1, 0, n]) (prev_word (i 2) h)

/-! ## The scores and values of a pair of heads -/

/-- Key `j`'s score for query `q` of head `h` of the pair, from the block `x0` of queries and the keys `x1`. -/
def sc (x0 : Vec Ideal S1x2x768x128 .bf16) (x1 : Vec Ideal S1x2x8448x128 .bf16) (h : Fin 2) (q : Fin 768) (j : ℕ) : EReal :=
  if hj : j < 8448 then ∑ l : Fin 128, x1 (ix4 0 h ⟨j, hj⟩ l) * x0 (ix4 0 h q l) else 0

/-- Key `j`'s value on lane `d` of head `h` of the pair. -/
def vl (x2 : Vec Ideal S1x2x128x8448 .bf16) (h : Fin 2) (d : Fin 128) (j : ℕ) : EReal :=
  if hj : j < 8448 then x2 (ix4 0 h d ⟨j, hj⟩) else 0

variable (arg3 : Memref sig .tc .vmem S1x2x768x128 .bf16) (harg3 : arg3.IsWhole) (arg4 : Memref sig .tc .vmem S1x2x8448x128 .bf16)
  (harg4 : arg4.IsWhole) (arg5 : Memref sig .tc .vmem S1x2x128x8448 .bf16) (harg5 : arg5.IsWhole)
  (x0 : Vec Ideal S1x2x768x128 .bf16) (x1 : Vec Ideal S1x2x8448x128 .bf16) (x2 : Vec Ideal S1x2x128x8448 .bf16)

theorem read_key (h : Fin 2) (b : ℕ) (o : Fin 4 → ℕ) (ho : o = ![0, h.val, b, 0])
    (inb : ∀ a, o a + S1x1x768x128.size a ≤ S1x2x8448x128.size a) (k : Fin 768) (l : Fin 128) (hj : b + k.val < 8448) :
    (View.readAt (Elt Ideal) arg4.view (Rect.unit (s := S1x2x8448x128) o S1x1x768x128.size inb).toLoadRect (harg4.unread x1)
      : Vec Ideal S1x1x768x128 .bf16) (ix4 0 0 k l) = x1 (ix4 0 h ⟨b + k.val, hj⟩ l) := by
  subst ho
  rw [harg4.readAt_unread]
  congr 1
  funext a
  apply Fin.ext
  fin_cases a <;> simp [LoadRect.idx, Rect.unit, Rect.toLoadRect]

theorem read_qry (h : Fin 2) (o : Fin 4 → ℕ) (ho : o = ![0, h.val, 0, 0])
    (inb : ∀ a, o a + S1x1x768x128.size a ≤ S1x2x768x128.size a) (q : Fin 768) (l : Fin 128) :
    (View.readAt (Elt Ideal) arg3.view (Rect.unit (s := S1x2x768x128) o S1x1x768x128.size inb).toLoadRect (harg3.unread x0)
      : Vec Ideal S1x1x768x128 .bf16) (ix4 0 0 q l) = x0 (ix4 0 h q l) := by
  subst ho
  rw [harg3.readAt_unread]
  congr 1
  funext a
  apply Fin.ext
  fin_cases a <;> simp [LoadRect.idx, Rect.unit, Rect.toLoadRect]

/-- The scores of the tile of keys from `b` on. -/
theorem read_score (h : Fin 2) (b : ℕ) (hb : b + 768 ≤ 8448) (o : Fin 4 → ℕ) (ho : o = ![0, h.val, b, 0])
    (inb : ∀ a, o a + S1x1x768x128.size a ≤ S1x2x8448x128.size a) (o' : Fin 4 → ℕ) (ho' : o' = ![0, h.val, 0, 0])
    (inb' : ∀ a, o' a + S1x1x768x128.size a ≤ S1x2x768x128.size a) (k q : Fin 768) :
    ∑ l : Fin 128,
      (View.readAt (Elt Ideal) arg4.view (Rect.unit (s := S1x2x8448x128) o S1x1x768x128.size inb).toLoadRect (harg4.unread x1)
        : Vec Ideal S1x1x768x128 .bf16) (ix4 0 0 k l)
      * (View.readAt (Elt Ideal) arg3.view (Rect.unit (s := S1x2x768x128) o' S1x1x768x128.size inb').toLoadRect (harg3.unread x0)
        : Vec Ideal S1x1x768x128 .bf16) (ix4 0 0 q l)
      = sc x0 x1 h q (b + k.val) := by
  have hj : b + k.val < 8448 := by omega
  unfold sc
  rw [dif_pos hj]
  exact Finset.sum_congr rfl fun l _ => by
    rw [read_key arg4 harg4 x1 h b o ho inb k l hj, read_qry arg3 harg3 x0 h o' ho' inb' q l]

theorem read_val768 (h : Fin 2) (b : ℕ) (hb : b + 768 ≤ 8448) (o : Fin 4 → ℕ) (ho : o = ![0, h.val, 0, b])
    (inb : ∀ a, o a + S1x1x128x768.size a ≤ S1x2x128x8448.size a) (d : Fin 128) (k : Fin 768) :
    (View.readAt (Elt Ideal) arg5.view (Rect.unit (s := S1x2x128x8448) o S1x1x128x768.size inb).toLoadRect (harg5.unread x2)
      : Vec Ideal S1x1x128x768 .bf16) (ix4 0 0 d k) = vl x2 h d (b + k.val) := by
  subst ho
  have hj : b + k.val < 8448 := by omega
  unfold vl
  rw [harg5.readAt_unread, dif_pos hj]
  congr 1
  funext a
  apply Fin.ext
  fin_cases a <;> simp [LoadRect.idx, Rect.unit, Rect.toLoadRect]

theorem read_val512 (h : Fin 2) (b : ℕ) (hb : b + 512 ≤ 8448) (o : Fin 4 → ℕ) (ho : o = ![0, h.val, 0, b])
    (inb : ∀ a, o a + S1x1x128x512.size a ≤ S1x2x128x8448.size a) (d : Fin 128) (k : Fin 512) :
    (View.readAt (Elt Ideal) arg5.view (Rect.unit (s := S1x2x128x8448) o S1x1x128x512.size inb).toLoadRect (harg5.unread x2)
      : Vec Ideal S1x1x128x512 .bf16) (ix4 0 0 d k) = vl x2 h d (b + k.val) := by
  subst ho
  have hj : b + k.val < 8448 := by omega
  unfold vl
  rw [harg5.readAt_unread, dif_pos hj]
  congr 1
  funext a
  apply Fin.ext
  fin_cases a <;> simp [LoadRect.idx, Rect.unit, Rect.toLoadRect]

theorem read_val256 (h : Fin 2) (b : ℕ) (hb : b + 256 ≤ 8448) (o : Fin 4 → ℕ) (ho : o = ![0, h.val, 0, b])
    (inb : ∀ a, o a + S1x1x128x256.size a ≤ S1x2x128x8448.size a) (d : Fin 128) (k : Fin 256) :
    (View.readAt (Elt Ideal) arg5.view (Rect.unit (s := S1x2x128x8448) o S1x1x128x256.size inb).toLoadRect (harg5.unread x2)
      : Vec Ideal S1x1x128x256 .bf16) (ix4 0 0 d k) = vl x2 h d (b + k.val) := by
  subst ho
  have hj : b + k.val < 8448 := by omega
  unfold vl
  rw [harg5.readAt_unread, dif_pos hj]
  congr 1
  funext a
  apply Fin.ext
  fin_cases a <;> simp [LoadRect.idx, Rect.unit, Rect.toLoadRect]

end Cert.KernelIdeal.Reads

end
-- ==== Proof.Loop.lean ====
/- The loop over pairs of key tiles keeps, per query, the greatest score and the weighted sum of the values so far. -/
module

public import proofs.«01_k».proof.Proof.Reads
public import Idealize.ShloMosaic.Lib.Writes

@[expose] public section

set_option maxRecDepth 16384

noncomputable section

namespace Cert.KernelIdeal.Loop

open Cert.Softmax Cert.KernelIdeal Cert.KernelIdeal.Gen Cert.KernelIdeal.Trip Cert.KernelIdeal.Tile Cert.KernelIdeal.Reads
open Idealize.ShloMosaic Idealize.ShloMosaic.TcCoe

/-- `S` holds the scores `s` of the 768 keys from `b` on. -/
def IsTile (s : Fin 768 → ℕ → EReal) (b : ℕ) (S : Vec Ideal S1x768x768 .f32) : Prop :=
  ∀ k q : Fin 768, S (ix3 0 k q) = s q (b + k.val)

/-- `m` and `a` hold the greatest score and the weighted sum of the values over the first `n` keys. -/
def Upto (s : Fin 768 → ℕ → EReal) (v : Fin 128 → ℕ → EReal) (n : ℕ) (m : Vec Ideal S1x1x768 .f32) (a : Vec Ideal S1x128x768 .f32) : Prop :=
  ∀ q : Fin 768, m (ix3 0 0 q) = peak (s q) n ∧ ∀ d : Fin 128, a (ix3 0 d q) = mix (s q) (v d) n (peak (s q) n)

theorem Upto.step {s : Fin 768 → ℕ → EReal} {v : Fin 128 → ℕ → EReal} {n : ℕ} {m : Vec Ideal S1x1x768 .f32} {a : Vec Ideal S1x128x768 .f32}
    (hg : Upto s v n m a) (hs : ∀ q k, s q k ≠ ⊤) {S : Vec Ideal S1x768x768 .f32} (hT : IsTile s n S)
    {V : Vec Ideal S1x1x128x768 .bf16} (hV : ∀ d k, V (ix4 0 0 d k) = v d (n + k.val)) :
    Upto s v (n + 768) (newMax S m) (newAcc S m a V) := by
  intro q
  obtain ⟨hm, ha⟩ := hg q
  constructor
  · rw [newMax_apply, hm, ← stepMax_eq (s q) n]
    congr 1
    funext k
    exact hT k q
  · intro d
    rw [newAcc_apply, hm, ha d, ← stepAcc_eq (s q) (v d) n (hs q)]
    have h1 : (fun k : Fin 768 => S (ix3 0 k q)) = fun j : Fin 768 => s q (n + j.val) := funext fun k => hT k q
    have h2 : (fun k : Fin 768 => V (ix4 0 0 d k)) = fun j : Fin 768 => v d (n + j.val) := funext fun k => hV d k
    rw [h1, h2]

variable (c : Dev nD) (i : grid0.Coords) (arg3 : Memref sig .tc .vmem S1x2x768x128 .bf16) (harg3 : arg3.IsWhole) (arg4 : Memref sig .tc .vmem S1x2x8448x128 .bf16) (harg4 : arg4.IsWhole) (arg5 : Memref sig .tc .vmem S1x2x128x8448 .bf16) (harg5 : arg5.IsWhole) (arg6 : Memref sig .tc .vmem S1x768x128 .bf16) (harg6 : arg6.IsWhole) (arg7 : Memref sig .tc .vmem S2x768x768 .f32) (harg7 : arg7.IsWhole) (arg8 : Memref sig .tc .vmem S2x768x768 .f32) (harg8 : arg8.IsWhole) (arg9 : Memref sig .tc .vmem S2x1x768 .f32) (harg9 : arg9.IsWhole) (arg10 : Memref sig .tc .vmem S2x128x768 .f32) (harg10 : arg10.IsWhole) (arg2 : BitVec 32) (v23 : FVec Ideal S768x768 .f32)

variable (x0 : Vec Ideal S1x2x768x128 .bf16) (x1 : Vec Ideal S1x2x8448x128 .bf16) (x2 : Vec Ideal S1x2x128x8448 .bf16)

/-- What the scratch buffers hold before the tile from key `b` on is taken in, for head `h` of the pair. -/
def Holds (h : Fin 2) (b : ℕ) (f7 : BufTy.Contents (Elt Ideal) arg7.view.ty) (f9 : BufTy.Contents (Elt Ideal) arg9.view.ty)
    (f10 : BufTy.Contents (Elt Ideal) arg10.view.ty) : Prop :=
  IsTile (sc x0 x1 h) b (View.readAt (Elt Ideal) arg7.view (scoreR h).toLoadRect f7)
    ∧ Upto (sc x0 x1 h) (vl x2 h) b (View.readAt (Elt Ideal) arg9.view (peakR h).toLoadRect f9)
        (View.readAt (Elt Ideal) arg10.view (accR h).toLoadRect f10)

variable (hs : ∀ h q j, sc x0 x1 h q j ≠ ⊤)
variable (f7 : BufTy.Contents (Elt Ideal) arg7.view.ty) (f8 : BufTy.Contents (Elt Ideal) arg8.view.ty)
  (f9 : BufTy.Contents (Elt Ideal) arg9.view.ty) (f10 : BufTy.Contents (Elt Ideal) arg10.view.ty)

include hs in
/-- One trip takes in two tiles. -/
theorem trip_holds (k : Fin (k0_t1_loop i).trips)
    (H : ∀ h : Fin 2, Holds arg7 arg9 arg10 x0 x1 x2 h ((2 * k.val) * 768) f7 f9 f10) (h : Fin 2) :
    Holds arg7 arg9 arg10 x0 x1 x2 h ((2 * (k.val + 1)) * 768)
      (arg7.view.writes (Elt Ideal) f7 ((trip_k0_t1 (F := Ideal) Variants.none c none i arg3 harg3 arg4 harg4 arg5 harg5 arg6 harg6 arg7 harg7 arg8 harg8 arg9 harg9 arg10 harg10 arg2 v23 (harg3.unread x0) (harg4.unread x1) (harg5.unread x2) k).1 f7 f8 f9 f10))
      (arg9.view.writes (Elt Ideal) f9 ((trip_k0_t1 (F := Ideal) Variants.none c none i arg3 harg3 arg4 harg4 arg5 harg5 arg6 harg6 arg7 harg7 arg8 harg8 arg9 harg9 arg10 harg10 arg2 v23 (harg3.unread x0) (harg4.unread x1) (harg5.unread x2) k).2.2.1 f7 f8 f9 f10))
      (arg10.view.writes (Elt Ideal) f10 ((trip_k0_t1 (F := Ideal) Variants.none c none i arg3 harg3 arg4 harg4 arg5 harg5 arg6 harg6 arg7 harg7 arg8 harg8 arg9 harg9 arg10 harg10 arg2 v23 (harg3.unread x0) (harg4.unread x1) (harg5.unread x2) k).2.2.2.1 f7 f8 f9 f10)) := by
  have hk := trip_lt i k
  have e1 : (2 * k.val) * 768 + 768 = (2 * k.val + 1) * 768 := by ring
  have e2 : (2 * k.val + 1) * 768 + 768 = (2 * (k.val + 1)) * 768 := by ring
  have e3 : (2 * k.val + 2) * 768 = (2 * (k.val + 1)) * 768 := by ring
  rw [trip_score, trip_peak c i arg3 harg3 arg4 harg4 arg5 harg5 arg6 harg6 arg7 harg7 arg8 harg8 arg9 harg9 arg10 harg10 arg2 v23 _ _ _ k f7 f8 f9 f10 _ _ _ _ rfl rfl rfl rfl,
    trip_acc c i arg3 harg3 arg4 harg4 arg5 harg5 arg6 harg6 arg7 harg7 arg8 harg8 arg9 harg9 arg10 harg10 arg2 v23 _ _ _ k f7 f8 f9 f10 _ _ _ _ _ _ rfl rfl rfl rfl rfl rfl]
  match h with
  | 0 =>
    obtain ⟨hT, hU⟩ := H 0
    have hO : IsTile (sc x0 x1 0) ((2 * k.val + 1) * 768) (odd0 i arg3 arg4 (harg3.unread x0) (harg4.unread x1) k) := fun j q => by
      refine (score_apply _ _ j q).trans ?_
      exact read_score arg3 harg3 arg4 harg4 x0 x1 0 _ (by omega) _ (off1_0 i k) _ _ rfl _ j q
    have hE : IsTile (sc x0 x1 0) ((2 * (k.val + 1)) * 768) (even0 i arg3 arg4 (harg3.unread x0) (harg4.unread x1) k) := fun j q => by
      refine (score_apply _ _ j q).trans ?_
      rw [← e3]
      exact read_score arg3 harg3 arg4 harg4 x0 x1 0 _ (by omega) _ (off1_1 i k) _ _ rfl _ j q
    have hUE := hU.step (hs 0) hT (V := valE0 i arg5 (harg5.unread x2) k)
      (fun d j => read_val768 arg5 harg5 x2 0 _ (by omega) _ (off3_eq i k) _ d j)
    rw [e1] at hUE
    have hUO := hUE.step (hs 0) hO (V := valO0 i arg5 (harg5.unread x2) k)
      (fun d j => read_val768 arg5 harg5 x2 0 _ (by omega) _ (off5_eq i k) _ d j)
    rw [e2] at hUO
    unfold Holds
    rw [readAt_miss _ _ _ _ _ _ (by decide), readAt_hit, readAt_miss _ _ _ _ _ _ (by decide), readAt_hit,
      readAt_miss _ _ _ _ _ _ (by decide), readAt_hit]
    exact ⟨hE, hUO⟩
  | 1 =>
    obtain ⟨hT, hU⟩ := H 1
    have hO : IsTile (sc x0 x1 1) ((2 * k.val + 1) * 768) (odd1 i arg3 arg4 (harg3.unread x0) (harg4.unread x1) k) := fun j q => by
      refine (score_apply _ _ j q).trans ?_
      exact read_score arg3 harg3 arg4 harg4 x0 x1 1 _ (by omega) _ (off2_0 i k) _ _ rfl _ j q
    have hE : IsTile (sc x0 x1 1) ((2 * (k.val + 1)) * 768) (even1 i arg3 arg4 (harg3.unread x0) (harg4.unread x1) k) := fun j q => by
      refine (score_apply _ _ j q).trans ?_
      rw [← e3]
      exact read_score arg3 harg3 arg4 harg4 x0 x1 1 _ (by omega) _ (off2_1 i k) _ _ rfl _ j q
    have hUE := hU.step (hs 1) hT (V := valE1 i arg5 (harg5.unread x2) k)
      (fun d j => read_val768 arg5 harg5 x2 1 _ (by omega) _ (off4_eq i k) _ d j)
    rw [e1] at hUE
    have hUO := hUE.step (hs 1) hO (V := valO1 i arg5 (harg5.unread x2) k)
      (fun d j => read_val768 arg5 harg5 x2 1 _ (by omega) _ (off6_eq i k) _ d j)
    rw [e2] at hUO
    unfold Holds
    rw [readAt_hit, readAt_hit, readAt_hit]
    exact ⟨hE, hUO⟩

include hs in
/-- After `K` trips the tiles before `2 K` are taken in, and the scores of tile `2 K` are ready. -/
theorem loop_holds (H : ∀ h : Fin 2, Holds arg7 arg9 arg10 x0 x1 x2 h 0 f7 f9 f10) :
    ∀ K : ℕ, K ≤ (k0_t1_loop i).trips → ∀ h : Fin 2,
      Holds arg7 arg9 arg10 x0 x1 x2 h ((2 * K) * 768)
        (arg7.view.writes (Elt Ideal) f7 (pb_k0_t1 (F := Ideal) Variants.none c none i arg3 harg3 arg4 harg4 arg5 harg5 arg6 harg6 arg7 harg7 arg8 harg8 arg9 harg9 arg10 harg10 arg2 v23 (harg3.unread x0) (harg4.unread x1) (harg5.unread x2) f7 f8 f9 f10 K).1)
        (arg9.view.writes (Elt Ideal) f9 (pb_k0_t1 (F := Ideal) Variants.none c none i arg3 harg3 arg4 harg4 arg5 harg5 arg6 harg6 arg7 harg7 arg8 harg8 arg9 harg9 arg10 harg10 arg2 v23 (harg3.unread x0) (harg4.unread x1) (harg5.unread x2) f7 f8 f9 f10 K).2.2.1)
        (arg10.view.writes (Elt Ideal) f10 (pb_k0_t1 (F := Ideal) Variants.none c none i arg3 harg3 arg4 harg4 arg5 harg5 arg6 harg6 arg7 harg7 arg8 harg8 arg9 harg9 arg10 harg10 arg2 v23 (harg3.unread x0) (harg4.unread x1) (harg5.unread x2) f7 f8 f9 f10 K).2.2.2) := by
  intro K
  induction K with
  | zero => intro _ h; rw [pb_k0_t1.eq_1]; exact H h
  | succ K ih =>
    intro hK h
    have ih' := ih (by omega)
    have e := pb_k0_t1_succ (F := Ideal) Variants.none c none i arg3 harg3 arg4 harg4 arg5 harg5 arg6 harg6 arg7 harg7 arg8 harg8 arg9 harg9 arg10 harg10 arg2 v23 (harg3.unread x0) (harg4.unread x1) (harg5.unread x2) f7 f8 f9 f10 ⟨K, hK⟩
    dsimp only at e
    rw [e]
    dsimp only
    rw [View.writes_append, View.writes_append, View.writes_append]
    exact trip_holds c i arg3 harg3 arg4 harg4 arg5 harg5 arg6 harg6 arg7 harg7 arg8 harg8 arg9 harg9 arg10 harg10 arg2 v23 x0 x1 x2 hs _ _ _ _ ⟨K, hK⟩ ih' h

end Cert.KernelIdeal.Loop

end
-- ==== Proof.Diag.lean ====
/- The tile on the diagonal, taken in a third of its queries at a time, and what the buffer of weighted sums then holds. -/
module

public import proofs.«01_k».proof.Proof.Loop
public import Idealize.ShloMosaic.Lib.WritesUnit

@[expose] public section

set_option maxRecDepth 16384

noncomputable section

namespace Cert.KernelIdeal.Diag

open Cert.Softmax Cert.KernelIdeal Cert.KernelIdeal.Gen Cert.KernelIdeal.Trip Cert.KernelIdeal.Tile Cert.KernelIdeal.Reads Cert.KernelIdeal.Loop
open Idealize.ShloMosaic Idealize.ShloMosaic.TcCoe

/-- Query `q`'s weighted sum on lane `d` over the keys up to its own position, the block's first query at `b`. -/
def causal (s : Fin 768 → ℕ → EReal) (v : Fin 128 → ℕ → EReal) (b : ℕ) (q : Fin 768) (d : Fin 128) : EReal :=
  mix (s q) (v d) (b + q.val + 1) (peak (s q) (b + q.val + 1))

theorem piece256 {s : Fin 768 → ℕ → EReal} {v : Fin 128 → ℕ → EReal} {b : ℕ} (hs : ∀ q k, s q k ≠ ⊤)
    (S : Vec Ideal S1x256x256 .f32) (m : Vec Ideal S1x1x256 .f32) (a : Vec Ideal S1x128x256 .f32) (V : Vec Ideal S1x1x128x256 .bf16)
    (d : Fin 128) (q : Fin 256) (Q : Fin 768) (hQ : Q.val = q.val + 0)
    (hS : ∀ k : Fin 256, S (ix3 0 k q) = s Q (b + k.val)) (hm : m (ix3 0 0 q) = peak (s Q) b)
    (ha : a (ix3 0 d q) = mix (s Q) (v d) b (peak (s Q) b)) (hV : ∀ k : Fin 256, V (ix4 0 0 d k) = v d (b + k.val)) :
    k0_pay62 S m a V (ix3 0 d q) = causal s v b Q d := by
  rw [k0_pay62_apply, hm, ha]
  have h1 : (fun k : Fin 256 => S (ix3 0 k q)) = fun j : Fin 256 => s Q (b + j.val) := funext hS
  have h2 : (fun k : Fin 256 => V (ix4 0 0 d k)) = fun j : Fin 256 => v d (b + j.val) := funext hV
  rw [h1, h2, stepAcc_hide (s Q) (v d) b (q.val + 0) (by omega) (hs Q), ← hQ]
  rfl

theorem piece512 {s : Fin 768 → ℕ → EReal} {v : Fin 128 → ℕ → EReal} {b : ℕ} (hs : ∀ q k, s q k ≠ ⊤)
    (S : Vec Ideal S1x512x256 .f32) (m : Vec Ideal S1x1x256 .f32) (a : Vec Ideal S1x128x256 .f32) (V : Vec Ideal S1x1x128x512 .bf16)
    (d : Fin 128) (q : Fin 256) (Q : Fin 768) (hQ : Q.val = q.val + 256)
    (hS : ∀ k : Fin 512, S (ix3 0 k q) = s Q (b + k.val)) (hm : m (ix3 0 0 q) = peak (s Q) b)
    (ha : a (ix3 0 d q) = mix (s Q) (v d) b (peak (s Q) b)) (hV : ∀ k : Fin 512, V (ix4 0 0 d k) = v d (b + k.val)) :
    k0_pay67 S m a V (ix3 0 d q) = causal s v b Q d := by
  rw [k0_pay67_apply, hm, ha]
  have h1 : (fun k : Fin 512 => S (ix3 0 k q)) = fun j : Fin 512 => s Q (b + j.val) := funext hS
  have h2 : (fun k : Fin 512 => V (ix4 0 0 d k)) = fun j : Fin 512 => v d (b + j.val) := funext hV
  rw [h1, h2, stepAcc_hide (s Q) (v d) b (q.val + 256) (by omega) (hs Q), ← hQ]
  rfl

theorem piece768 {s : Fin 768 → ℕ → EReal} {v : Fin 128 → ℕ → EReal} {b : ℕ} (hs : ∀ q k, s q k ≠ ⊤)
    (S : Vec Ideal S1x768x256 .f32) (m : Vec Ideal S1x1x256 .f32) (a : Vec Ideal S1x128x256 .f32) (V : Vec Ideal S1x1x128x768 .bf16)
    (d : Fin 128) (q : Fin 256) (Q : Fin 768) (hQ : Q.val = q.val + 512)
    (hS : ∀ k : Fin 768, S (ix3 0 k q) = s Q (b + k.val)) (hm : m (ix3 0 0 q) = peak (s Q) b)
    (ha : a (ix3 0 d q) = mix (s Q) (v d) b (peak (s Q) b)) (hV : ∀ k : Fin 768, V (ix4 0 0 d k) = v d (b + k.val)) :
    k0_pay72 S m a V (ix3 0 d q) = causal s v b Q d := by
  rw [k0_pay72_apply, hm, ha]
  have h1 : (fun k : Fin 768 => S (ix3 0 k q)) = fun j : Fin 768 => s Q (b + j.val) := funext hS
  have h2 : (fun k : Fin 768 => V (ix4 0 0 d k)) = fun j : Fin 768 => v d (b + j.val) := funext hV
  rw [h1, h2, stepAcc_hide (s Q) (v d) b (q.val + 512) (by omega) (hs Q), ← hQ]
  rfl

/-! ### The same expressions under the names they have elsewhere -/

theorem pay77_eq (S : Vec Ideal S1x256x256 .f32) (m : Vec Ideal S1x1x256 .f32) (a : Vec Ideal S1x128x256 .f32) (V : Vec Ideal S1x1x128x256 .bf16) :
    k0_pay77 S m a V = k0_pay62 S m a V := rfl
theorem pay82_eq (S : Vec Ideal S1x512x256 .f32) (m : Vec Ideal S1x1x256 .f32) (a : Vec Ideal S1x128x256 .f32) (V : Vec Ideal S1x1x128x512 .bf16) :
    k0_pay82 S m a V = k0_pay67 S m a V := rfl
theorem pay87_eq (S : Vec Ideal S1x768x256 .f32) (m : Vec Ideal S1x1x256 .f32) (a : Vec Ideal S1x128x256 .f32) (V : Vec Ideal S1x1x128x768 .bf16) :
    k0_pay87 S m a V = k0_pay72 S m a V := rfl
theorem pay107_eq (S : Vec Ideal S1x256x256 .f32) (m : Vec Ideal S1x1x256 .f32) (a : Vec Ideal S1x128x256 .f32) (V : Vec Ideal S1x1x128x256 .bf16) :
    k0_pay107 (k0_pay105 S m) (k0_pay106 S m) a V = k0_pay62 S m a V := rfl
theorem pay114_eq (S : Vec Ideal S1x512x256 .f32) (m : Vec Ideal S1x1x256 .f32) (a : Vec Ideal S1x128x256 .f32) (V : Vec Ideal S1x1x128x512 .bf16) :
    k0_pay114 (k0_pay112 S m) (k0_pay113 S m) a V = k0_pay67 S m a V := rfl
theorem pay121_eq (S : Vec Ideal S1x768x256 .f32) (m : Vec Ideal S1x1x256 .f32) (a : Vec Ideal S1x128x256 .f32) (V : Vec Ideal S1x1x128x768 .bf16) :
    k0_pay121 (k0_pay119 S m) (k0_pay120 S m) a V = k0_pay72 S m a V := rfl
theorem pay128_eq (S : Vec Ideal S1x256x256 .f32) (m : Vec Ideal S1x1x256 .f32) (a : Vec Ideal S1x128x256 .f32) (V : Vec Ideal S1x1x128x256 .bf16) :
    k0_pay128 (k0_pay126 S m) (k0_pay127 S m) a V = k0_pay62 S m a V := rfl
theorem pay135_eq (S : Vec Ideal S1x512x256 .f32) (m : Vec Ideal S1x1x256 .f32) (a : Vec Ideal S1x128x256 .f32) (V : Vec Ideal S1x1x128x512 .bf16) :
    k0_pay135 (k0_pay133 S m) (k0_pay134 S m) a V = k0_pay67 S m a V := rfl
theorem pay2_eq (S : Vec Ideal S1x768x256 .f32) (m : Vec Ideal S1x1x256 .f32) (a : Vec Ideal S1x128x256 .f32) (V : Vec Ideal S1x1x128x768 .bf16) :
    k0_pay2 (k0_pay140 S m) (k0_pay141 S m) a V = k0_pay72 S m a V := rfl
theorem pay94_eq (S : Vec Ideal S1x768x768 .f32) (m : Vec Ideal S1x1x768 .f32) :
    k0_pay94 (k0_pay90 S) (k0_pay91 m) = newMax S m := rfl
theorem pay101_eq (S : Vec Ideal S1x768x768 .f32) (m : Vec Ideal S1x1x768 .f32) :
    k0_pay101 (k0_pay97 S m) = newMax S m := rfl
theorem pay93_eq (S : Vec Ideal S1x768x768 .f32) (m : Vec Ideal S1x1x768 .f32) (a : Vec Ideal S1x128x768 .f32) (V : Vec Ideal S1x1x128x768 .bf16) :
    k0_pay93 (k0_pay90 S) (k0_pay91 m) a V = newAcc S m a V := rfl
theorem pay100_eq (S : Vec Ideal S1x768x768 .f32) (m : Vec Ideal S1x1x768 .f32) (a : Vec Ideal S1x128x768 .f32) (V : Vec Ideal S1x1x128x768 .bf16) :
    k0_pay100 (k0_pay98 S m) (k0_pay99 S m) a V = newAcc S m a V := rfl

/-! ### Loads of a third of the queries -/

section thirds

variable (v7 : View sig .tc .vmem S2x768x768 .f32) (L7 : List (View.Piece (Elt Ideal) S2x768x768 .f32))
  (v9 : View sig .tc .vmem S2x1x768 .f32) (L9 : List (View.Piece (Elt Ideal) S2x1x768 .f32))
  (v10 : View sig .tc .vmem S2x128x768 .f32) (L10 : List (View.Piece (Elt Ideal) S2x128x768 .f32))

theorem third_score256 (h : Fin 2) (q0 : ℕ) (o : Fin 3 → ℕ) (ho : o = ![h.val, 0, q0])
    (inb : ∀ a, o a + S1x256x256.size a ≤ S2x768x768.size a) (k : Fin 256) (q : Fin 256) (Q : Fin 768) (hQ : Q.val = q.val + q0)
    {s : Fin 768 → ℕ → EReal} {b : ℕ} (H : IsTile s b (v7.readCov L7 (scoreR h).toLoadRect)) :
    (v7.readCov L7 (Rect.unit (s := S2x768x768) o S1x256x256.size inb).toLoadRect : Vec Ideal S1x256x256 .f32) (ix3 0 k q) = s Q (b + k.val) := by
  subst ho
  rw [← H ⟨k.val, by omega⟩ Q]
  unfold View.readCov
  rw [View.readAt_apply, View.readAt_apply]
  congr 1
  funext a
  apply Fin.ext
  fin_cases a <;> simp [LoadRect.idx, Rect.unit, Rect.toLoadRect, hQ, Nat.add_comm]

theorem third_score512 (h : Fin 2) (q0 : ℕ) (o : Fin 3 → ℕ) (ho : o = ![h.val, 0, q0])
    (inb : ∀ a, o a + S1x512x256.size a ≤ S2x768x768.size a) (k : Fin 512) (q : Fin 256) (Q : Fin 768) (hQ : Q.val = q.val + q0)
    {s : Fin 768 → ℕ → EReal} {b : ℕ} (H : IsTile s b (v7.readCov L7 (scoreR h).toLoadRect)) :
    (v7.readCov L7 (Rect.unit (s := S2x768x768) o S1x512x256.size inb).toLoadRect : Vec Ideal S1x512x256 .f32) (ix3 0 k q) = s Q (b + k.val) := by
  subst ho
  rw [← H ⟨k.val, by omega⟩ Q]
  unfold View.readCov
  rw [View.readAt_apply, View.readAt_apply]
  congr 1
  funext a
  apply Fin.ext
  fin_cases a <;> simp [LoadRect.idx, Rect.unit, Rect.toLoadRect, hQ, Nat.add_comm]

theorem third_score768 (h : Fin 2) (q0 : ℕ) (o : Fin 3 → ℕ) (ho : o = ![h.val, 0, q0])
    (inb : ∀ a, o a + S1x768x256.size a ≤ S2x768x768.size a) (k : Fin 768) (q : Fin 256) (Q : Fin 768) (hQ : Q.val = q.val + q0)
    {s : Fin 768 → ℕ → EReal} {b : ℕ} (H : IsTile s b (v7.readCov L7 (scoreR h).toLoadRect)) :
    (v7.readCov L7 (Rect.unit (s := S2x768x768) o S1x768x256.size inb).toLoadRect : Vec Ideal S1x768x256 .f32) (ix3 0 k q) = s Q (b + k.val) := by
  subst ho
  rw [← H ⟨k.val, by omega⟩ Q]
  unfold View.readCov
  rw [View.readAt_apply, View.readAt_apply]
  congr 1
  funext a
  apply Fin.ext
  fin_cases a <;> simp [LoadRect.idx, Rect.unit, Rect.toLoadRect, hQ, Nat.add_comm]

theorem third_peak (h : Fin 2) (q0 : ℕ) (o : Fin 3 → ℕ) (ho : o = ![h.val, 0, q0])
    (inb : ∀ a, o a + S1x1x256.size a ≤ S2x1x768.size a) (q : Fin 256) (Q : Fin 768) (hQ : Q.val = q.val + q0)
    {s : Fin 768 → ℕ → EReal} {v : Fin 128 → ℕ → EReal} {b : ℕ}
    (H : Upto s v b (v9.readCov L9 (peakR h).toLoadRect) (v10.readCov L10 (accR h).toLoadRect)) :
    (v9.readCov L9 (Rect.unit (s := S2x1x768) o S1x1x256.size inb).toLoadRect : Vec Ideal S1x1x256 .f32) (ix3 0 0 q) = peak (s Q) b := by
  subst ho
  rw [← (H Q).1]
  unfold View.readCov
  rw [View.readAt_apply, View.readAt_apply]
  congr 1
  funext a
  apply Fin.ext
  fin_cases a <;> simp [LoadRect.idx, Rect.unit, Rect.toLoadRect, hQ, Nat.add_comm]

theorem third_acc (h : Fin 2) (q0 : ℕ) (o : Fin 3 → ℕ) (ho : o = ![h.val, 0, q0])
    (inb : ∀ a, o a + S1x128x256.size a ≤ S2x128x768.size a) (d : Fin 128) (q : Fin 256) (Q : Fin 768) (hQ : Q.val = q.val + q0)
    {s : Fin 768 → ℕ → EReal} {v : Fin 128 → ℕ → EReal} {b : ℕ}
    (H : Upto s v b (v9.readCov L9 (peakR h).toLoadRect) (v10.readCov L10 (accR h).toLoadRect)) :
    (v10.readCov L10 (Rect.unit (s := S2x128x768) o S1x128x256.size inb).toLoadRect : Vec Ideal S1x128x256 .f32) (ix3 0 d q)
      = mix (s Q) (v d) b (peak (s Q) b) := by
  subst ho
  rw [← (H Q).2 d]
  unfold View.readCov
  rw [View.readAt_apply, View.readAt_apply]
  congr 1
  funext a
  apply Fin.ext
  fin_cases a <;> simp [LoadRect.idx, Rect.unit, Rect.toLoadRect, hQ, Nat.add_comm]

/-- A third of a head's weighted sums, in the buffer. -/
abbrev thirdR (h : Fin 2) (j : Fin 3) : Rect S2x128x768 :=
  Rect.unit ![h.val, 0, 256 * j.val] S1x128x256.size (by revert h j; decide)

/-- A load of a head's half goes third by third to the stored pieces. -/
theorem third_hit (h : Fin 2) (j : Fin 3) (w : Vec Ideal S1x128x256 .f32) (d : Fin 128) (Q : Fin 768) (q : Fin 256) (hQ : Q.val = q.val + 256 * j.val) :
    (v10.readCov (⟨thirdR h j, w⟩ :: L10) (accR h).toLoadRect : Vec Ideal S1x128x768 .f32) (ix3 0 d Q) = w (ix3 0 d q) := by
  unfold View.readCov
  rw [View.readAt_apply]
  have hmem : (accR h).toLoadRect.idx (ix3 (0 : Fin 1) d Q) = (thirdR h j).toLoadRect.idx (ix3 (0 : Fin 1) d q) := by
    funext a
    apply Fin.ext
    fin_cases a <;> simp [LoadRect.idx, Rect.unit, Rect.toLoadRect, hQ, Nat.add_comm]
  rw [hmem]
  have := congrFun (readAt_hit (Val := Elt Ideal) v10 v10.junk (thirdR h j) w L10) (ix3 (0 : Fin 1) d q)
  rw [View.readAt_apply] at this
  exact this

theorem third_skip (h h' : Fin 2) (j : Fin 3) (w : Vec Ideal S1x128x256 .f32) (d : Fin 128) (Q : Fin 768)
    (hQ : h ≠ h' ∨ Q.val < 256 * j.val ∨ 256 * j.val + 256 ≤ Q.val) :
    (v10.readCov (⟨thirdR h' j, w⟩ :: L10) (accR h).toLoadRect : Vec Ideal S1x128x768 .f32) (ix3 0 d Q)
      = (v10.readCov L10 (accR h).toLoadRect : Vec Ideal S1x128x768 .f32) (ix3 0 d Q) := by
  unfold View.readCov
  rw [View.readAt_apply, View.readAt_apply]
  refine View.read_slice_write_of_not_mem _ _ _ _ ?_
  rw [Rect.map_emb_univ]
  intro hm
  rw [Rect.mem_set_unit] at hm
  have h0 := hm 0
  have h2 := hm 2
  simp [LoadRect.idx, Rect.unit, Rect.toLoadRect] at h0 h2
  rcases hQ with hQ | hQ
  · exact hQ (Fin.ext (by omega))
  · omega

end thirds

end Cert.KernelIdeal.Diag

end
-- ==== Proof.RunA.lean ====
/- The kernel's body run at an even query tile: the pairs of key tiles before it, then the tile on the diagonal. The scratch buffers' contents at entry are arguments, so that the stored pieces may name them. -/
module

public import proofs.«01_k».proof.Proof.Gen.KernelIdeal.Frame.Runs

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 2000000 in
/-- The pieces that the body stores into the output block, with the run that stores them. -/
noncomputable def runA (c : Dev nD) (i : grid0.Coords) (arg3 : Memref sig .tc .vmem S1x2x768x128 .bf16) (harg3 : arg3.IsWhole) (arg4 : Memref sig .tc .vmem S1x2x8448x128 .bf16) (harg4 : arg4.IsWhole) (arg5 : Memref sig .tc .vmem S1x2x128x8448 .bf16) (harg5 : arg5.IsWhole) (arg6 : Memref sig .tc .vmem S1x768x128 .bf16) (harg6 : arg6.IsWhole) (arg7 : Memref sig .tc .vmem S2x768x768 .f32) (harg7 : arg7.IsWhole) (arg8 : Memref sig .tc .vmem S2x768x768 .f32) (harg8 : arg8.IsWhole) (arg9 : Memref sig .tc .vmem S2x1x768 .f32) (harg9 : arg9.IsWhole) (arg10 : Memref sig .tc .vmem S2x128x768 .f32) (harg10 : arg10.IsWhole) (hc0 : cond0_0 i) (hc1 : ¬cond0_1 i)
    (x0 : Vec F S1x2x768x128 .bf16) (x1 : Vec F S1x2x8448x128 .bf16) (x2 : Vec F S1x2x128x8448 .bf16)
    (g7 : BufTy.Contents (Elt F) arg7.view.ty) (g8 : BufTy.Contents (Elt F) arg8.view.ty)
    (g9 : BufTy.Contents (Elt F) arg9.view.ty) (g10 : BufTy.Contents (Elt F) arg10.view.ty) :
    { L : List (View.Piece (Elt F) S1x768x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (arg7.view.loc (c : Thread nD τ) ↦[arg7.view.set]{fullShare} g7) ∗ (arg8.view.loc (c : Thread nD τ) ↦[arg8.view.set]{fullShare} g8)
            ∗ (arg9.view.loc (c : Thread nD τ) ↦[arg9.view.set]{fullShare} g9) ∗ (arg10.view.loc (c : Thread nD τ) ↦[arg10.view.set]{fullShare} g10)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)
                ∗ (∃ d, owns (c : Thread nD τ) arg7 fullShare d) ∗ (∃ d, owns (c : Thread nD τ) arg8 fullShare d)
                ∗ (∃ d, owns (c : Thread nD τ) arg9 fullShare d) ∗ (∃ d, owns (c : Thread nD τ) arg10 fullShare d)) -∗ K ⟨⟩))
          ⊢ wp frame (wpE (defs₀ (F := F)) Variants.none c none) E (cc0_prompt_attn i arg3 harg3 arg4 harg4 arg5 harg5 arg6 harg6 arg7 harg7 arg8 harg8 arg9 harg9 arg10 harg10) K } := by
  refine ⟨?_, fun E K => ?run⟩
  case run =>
    simp only [cc0_prompt_attn_eq_skeleton]; unfold cc0_prompt_attn_skel
    simp only [k0_part25_eq_skeleton, k0_part26_eq_skeleton, k0_part16_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%d3, %f3, -, H3⟩, HS0, HS1, HS2, HS3, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Body

end
-- ==== Proof.Start.lean ====
/- The block of the output that the kernel's body stores at a grid point. -/
module

public import proofs.«01_k».proof.Proof.Diag
public import proofs.«01_k».proof.Proof.RunB

@[expose] public section

set_option maxRecDepth 16384

noncomputable section

namespace Cert.KernelIdeal.Block

open Cert.Softmax Cert.KernelIdeal Cert.KernelIdeal.Gen Cert.KernelIdeal.Trip Cert.KernelIdeal.Tile Cert.KernelIdeal.Reads Cert.KernelIdeal.Loop Cert.KernelIdeal.Diag
open Idealize.ShloMosaic Idealize.ShloMosaic.TcCoe

/-- The block stored for the queries from `b` on: each head's weighted sums over its sum of weights. -/
def outOf (x0 : Vec Ideal S1x2x768x128 .bf16) (x1 : Vec Ideal S1x2x8448x128 .bf16) (x2 : Vec Ideal S1x2x128x8448 .bf16) (b : ℕ)
    (q : Fin 768) (d : Fin 128) : EReal :=
  if d.val < 64 then Ideal.div (causal (sc x0 x1 0) (vl x2 0) b q d) (causal (sc x0 x1 0) (vl x2 0) b q 64)
  else Ideal.div (causal (sc x0 x1 1) (vl x2 1) b q d) (causal (sc x0 x1 1) (vl x2 1) b q 0)

theorem even_of (i : grid0.Coords) (h : cond0_0 i) : (i 2).val % 2 = 0 := by
  revert h
  unfold cond0_0 k0_cond1
  generalize (i 2) = t
  revert t
  decide +kernel

theorem odd_of (i : grid0.Coords) (h : cond0_1 i) : (i 2).val % 2 = 1 := by
  revert h
  unfold cond0_1 k0_cond2
  generalize (i 2) = t
  revert t
  decide +kernel

theorem trips2 (i : grid0.Coords) : (k0_t2_loop i).trips = 0 := by
  unfold k0_t2_loop
  generalize (i 2) = t
  revert t
  decide +kernel

variable (c : Dev nD) (i : grid0.Coords) (arg3 : Memref sig .tc .vmem S1x2x768x128 .bf16) (harg3 : arg3.IsWhole) (arg4 : Memref sig .tc .vmem S1x2x8448x128 .bf16) (harg4 : arg4.IsWhole) (arg5 : Memref sig .tc .vmem S1x2x128x8448 .bf16) (harg5 : arg5.IsWhole) (arg6 : Memref sig .tc .vmem S1x768x128 .bf16) (harg6 : arg6.IsWhole) (arg7 : Memref sig .tc .vmem S2x768x768 .f32) (harg7 : arg7.IsWhole) (arg8 : Memref sig .tc .vmem S2x768x768 .f32) (harg8 : arg8.IsWhole) (arg9 : Memref sig .tc .vmem S2x1x768 .f32) (harg9 : arg9.IsWhole) (arg10 : Memref sig .tc .vmem S2x128x768 .f32) (harg10 : arg10.IsWhole)
variable (x0 : Vec Ideal S1x2x768x128 .bf16) (x1 : Vec Ideal S1x2x8448x128 .bf16) (x2 : Vec Ideal S1x2x128x8448 .bf16)

/-- The second loop makes no trip. -/
theorem t2_nil (v23 : FVec Ideal S768x768 .f32) (v48 : BitVec 32) (X3 X4 X5) (f7) (f8) (f9) (f10) :
    pb_k0_t2 (F := Ideal) Variants.none c none i arg3 harg3 arg4 harg4 arg5 harg5 arg6 harg6 arg7 harg7 arg8 harg8 arg9 harg9 arg10 harg10 (BitVec.ofNat 32 (i 2).val) v23 v48 X3 X4 X5 f7 f8 f9 f10 (Scf.trips (k0_t2_loop i).lb (k0_t2_loop i).ub (k0_t2_loop i).st)
      = ([], [], [], []) := by
  have e : Scf.trips (k0_t2_loop i).lb (k0_t2_loop i).ub (k0_t2_loop i).st = 0 := trips2 i
  rw [e]
  rfl

/-- What the scratch buffers hold before the loop. -/
theorem start (h : Fin 2) :
    Holds arg7 arg9 arg10 x0 x1 x2 h 0
      (arg7.view.writes (Elt Ideal) arg7.view.junk
        [⟨Rect.unit ![1, 0, 0] S1x768x768.size inb_S2x768x768_S1x768x768_1_0_0, k0_pay146 (k0_pay145 (View.readAt (Elt Ideal) arg4.view (Rect.unit (s := S1x2x8448x128) ![0, 1, 0, 0] S1x1x768x128.size inb_S1x2x8448x128_S1x1x768x128_0_1_0_0).toLoadRect (harg4.unread x1)) (View.readAt (Elt Ideal) arg3.view (Rect.unit (s := S1x2x768x128) ![0, 1, 0, 0] S1x1x768x128.size inb_S1x2x768x128_S1x1x768x128_0_1_0_0).toLoadRect (harg3.unread x0)))⟩,
          ⟨Rect.unit ![0, 0, 0] S1x768x768.size inb_S2x768x768_S1x768x768_0_0_0, k0_pay144 (View.readAt (Elt Ideal) arg4.view (Rect.unit (s := S1x2x8448x128) ![0, 0, 0, 0] S1x1x768x128.size inb_S1x2x8448x128_S1x1x768x128_0_0_0_0).toLoadRect (harg4.unread x1)) (View.readAt (Elt Ideal) arg3.view (Rect.unit (s := S1x2x768x128) ![0, 0, 0, 0] S1x1x768x128.size inb_S1x2x768x128_S1x1x768x128_0_0_0_0).toLoadRect (harg3.unread x0))⟩])
      (arg9.view.writes (Elt Ideal) arg9.view.junk [⟨Rect.unit ![0, 0, 0] S2x1x768.size inb_S2x1x768_S2x1x768_0_0_0, k0_pay142 (F := Ideal)⟩])
      (arg10.view.writes (Elt Ideal) arg10.view.junk [⟨Rect.unit ![0, 0, 0] S2x128x768.size inb_S2x128x768_S2x128x768_0_0_0, k0_pay143 (F := Ideal)⟩]) := by
  refine ⟨?_, fun q => ⟨?_, fun d => ?_⟩⟩
  · match h with
    | 1 =>
      intro k q
      refine (congrFun (readAt_hit (Val := Elt Ideal) arg7.view _ (scoreR 1) _ _) (ix3 (0 : Fin 1) k q)).trans ?_
      refine (k0_pay146_apply _ _ k q).trans ?_
      exact read_score arg3 harg3 arg4 harg4 x0 x1 1 0 (by omega) _ rfl _ _ rfl _ k q
    | 0 =>
      intro k q
      refine (congrFun (readAt_miss (Val := Elt Ideal) arg7.view _ (scoreR 1) _ _ (scoreR 0) (by decide)) (ix3 (0 : Fin 1) k q)).trans ?_
      refine (congrFun (readAt_hit (Val := Elt Ideal) arg7.view _ (scoreR 0) _ _) (ix3 (0 : Fin 1) k q)).trans ?_
      refine (k0_pay144_apply _ _ k q).trans ?_
      exact read_score arg3 harg3 arg4 harg4 x0 x1 0 0 (by omega) _ rfl _ _ rfl _ k q
  · rw [peak_zero, View.readAt_apply]
    have e := congrFun (readAt_hit (Val := Elt Ideal) arg9.view arg9.view.junk
      (Rect.unit ![0, 0, 0] S2x1x768.size inb_S2x1x768_S2x1x768_0_0_0) (k0_pay142 (F := Ideal)) []) (ix3 h (0 : Fin 1) q)
    rw [View.readAt_apply, k0_pay142_apply] at e
    refine Eq.trans ?_ e
    congr 1
    funext a
    apply Fin.ext
    fin_cases a <;> simp [LoadRect.idx, Rect.unit, Rect.toLoadRect]
  · rw [mix_zero, View.readAt_apply]
    have e := congrFun (readAt_hit (Val := Elt Ideal) arg10.view arg10.view.junk
      (Rect.unit ![0, 0, 0] S2x128x768.size inb_S2x128x768_S2x128x768_0_0_0) (k0_pay143 (F := Ideal)) []) (ix3 h d q)
    rw [View.readAt_apply, k0_pay143_apply] at e
    refine Eq.trans ?_ e
    congr 1
    funext a
    apply Fin.ext
    fin_cases a <;> simp [LoadRect.idx, Rect.unit, Rect.toLoadRect]

variable (hs : ∀ h q j, sc x0 x1 h q j ≠ ⊤)

include hs in
/-- The loop's result, the buffers' contents given by the pieces stored. -/
theorem after_loop (v23 : FVec Ideal S768x768 .f32) (L7) (L9) (L10) (g8)
    (H : ∀ h : Fin 2, Holds arg7 arg9 arg10 x0 x1 x2 h 0 (arg7.view.writes (Elt Ideal) arg7.view.junk L7)
      (arg9.view.writes (Elt Ideal) arg9.view.junk L9) (arg10.view.writes (Elt Ideal) arg10.view.junk L10)) (h : Fin 2) :
    IsTile (sc x0 x1 h) (2 * ((i 2).val / 2) * 768) (arg7.view.readCov ((pb_k0_t1 (F := Ideal) Variants.none c none i arg3 harg3 arg4 harg4 arg5 harg5 arg6 harg6 arg7 harg7 arg8 harg8 arg9 harg9 arg10 harg10 (BitVec.ofNat 32 (i 2).val) v23 (harg3.unread x0) (harg4.unread x1) (harg5.unread x2) (arg7.view.writes (Elt Ideal) arg7.view.junk L7) g8 (arg9.view.writes (Elt Ideal) arg9.view.junk L9) (arg10.view.writes (Elt Ideal) arg10.view.junk L10) (Scf.trips (k0_t1_loop i).lb (k0_t1_loop i).ub (k0_t1_loop i).st)).1 ++ L7) (scoreR h).toLoadRect)
    ∧ Upto (sc x0 x1 h) (vl x2 h) (2 * ((i 2).val / 2) * 768) (arg9.view.readCov ((pb_k0_t1 (F := Ideal) Variants.none c none i arg3 harg3 arg4 harg4 arg5 harg5 arg6 harg6 arg7 harg7 arg8 harg8 arg9 harg9 arg10 harg10 (BitVec.ofNat 32 (i 2).val) v23 (harg3.unread x0) (harg4.unread x1) (harg5.unread x2) (arg7.view.writes (Elt Ideal) arg7.view.junk L7) g8 (arg9.view.writes (Elt Ideal) arg9.view.junk L9) (arg10.view.writes (Elt Ideal) arg10.view.junk L10) (Scf.trips (k0_t1_loop i).lb (k0_t1_loop i).ub (k0_t1_loop i).st)).2.2.1 ++ L9) (peakR h).toLoadRect)
        (arg10.view.readCov ((pb_k0_t1 (F := Ideal) Variants.none c none i arg3 harg3 arg4 harg4 arg5 harg5 arg6 harg6 arg7 harg7 arg8 harg8 arg9 harg9 arg10 harg10 (BitVec.ofNat 32 (i 2).val) v23 (harg3.unread x0) (harg4.unread x1) (harg5.unread x2) (arg7.view.writes (Elt Ideal) arg7.view.junk L7) g8 (arg9.view.writes (Elt Ideal) arg9.view.junk L9) (arg10.view.writes (Elt Ideal) arg10.view.junk L10) (Scf.trips (k0_t1_loop i).lb (k0_t1_loop i).ub (k0_t1_loop i).st)).2.2.2 ++ L10) (accR h).toLoadRect) := by
  have HL := loop_holds c i arg3 harg3 arg4 harg4 arg5 harg5 arg6 harg6 arg7 harg7 arg8 harg8 arg9 harg9 arg10 harg10 (BitVec.ofNat 32 (i 2).val) v23 x0 x1 x2 hs _ g8 _ _ H (k0_t1_loop i).trips le_rfl h
  unfold View.readCov
  rw [View.writes_append, View.writes_append, View.writes_append]
  rw [trips_eq] at HL
  have e : Scf.trips (k0_t1_loop i).lb (k0_t1_loop i).ub (k0_t1_loop i).st = (i 2).val / 2 := trips_eq i
  rw [e]
  exact HL

/-- The buffer of weighted sums once every third of both heads' queries is stored. -/
theorem sums {s : Fin 2 → Fin 768 → ℕ → EReal} {v : Fin 2 → Fin 128 → ℕ → EReal} {b : ℕ} (v10 : View sig .tc .vmem S2x128x768 .f32)
    (L : List (View.Piece (Elt Ideal) S2x128x768 .f32)) (w00 w01 w02 w10 w11 w12 : Vec Ideal S1x128x256 .f32)
    (h00 : ∀ d q (Q : Fin 768), Q.val = q.val + 0 → w00 (ix3 0 d q) = causal (s 0) (v 0) b Q d)
    (h01 : ∀ d q (Q : Fin 768), Q.val = q.val + 256 → w01 (ix3 0 d q) = causal (s 0) (v 0) b Q d)
    (h02 : ∀ d q (Q : Fin 768), Q.val = q.val + 512 → w02 (ix3 0 d q) = causal (s 0) (v 0) b Q d)
    (h10 : ∀ d q (Q : Fin 768), Q.val = q.val + 0 → w10 (ix3 0 d q) = causal (s 1) (v 1) b Q d)
    (h11 : ∀ d q (Q : Fin 768), Q.val = q.val + 256 → w11 (ix3 0 d q) = causal (s 1) (v 1) b Q d)
    (h12 : ∀ d q (Q : Fin 768), Q.val = q.val + 512 → w12 (ix3 0 d q) = causal (s 1) (v 1) b Q d)
    (h : Fin 2) (d : Fin 128) (Q : Fin 768) :
    (v10.readCov (⟨thirdR 1 2, w12⟩ :: ⟨thirdR 1 1, w11⟩ :: ⟨thirdR 1 0, w10⟩ :: ⟨thirdR 0 2, w02⟩ :: ⟨thirdR 0 1, w01⟩ :: ⟨thirdR 0 0, w00⟩ :: L)
      (accR h).toLoadRect : Vec Ideal S1x128x768 .f32) (ix3 0 d Q) = causal (s h) (v h) b Q d := by
  have hq := Q.isLt
  rcases lt_or_ge Q.val 256 with q1 | q1
  · obtain ⟨q, hq⟩ : ∃ q : Fin 256, Q.val = q.val + 0 := ⟨⟨Q.val, q1⟩, rfl⟩
    match h with
    | 0 =>
      rw [third_skip _ _ _ _ _ _ _ _ (.inl (by decide)), third_skip _ _ _ _ _ _ _ _ (.inl (by decide)), third_skip _ _ _ _ _ _ _ _ (.inl (by decide)),
        third_skip _ _ _ _ _ _ _ _ (.inr (.inl (by show _ < 256 * 2; omega))), third_skip _ _ _ _ _ _ _ _ (.inr (.inl (by show _ < 256 * 1; omega))),
        third_hit _ _ _ _ _ _ _ q hq]
      exact h00 d q Q hq
    | 1 =>
      rw [third_skip _ _ _ _ _ _ _ _ (.inr (.inl (by show _ < 256 * 2; omega))), third_skip _ _ _ _ _ _ _ _ (.inr (.inl (by show _ < 256 * 1; omega))),
        third_hit _ _ _ _ _ _ _ q hq]
      exact h10 d q Q hq
  rcases lt_or_ge Q.val 512 with q2 | q2
  · obtain ⟨q, hq⟩ : ∃ q : Fin 256, Q.val = q.val + 256 := ⟨⟨Q.val - 256, by omega⟩, by show _ = Q.val - 256 + 256; omega⟩
    match h with
    | 0 =>
      rw [third_skip _ _ _ _ _ _ _ _ (.inl (by decide)), third_skip _ _ _ _ _ _ _ _ (.inl (by decide)), third_skip _ _ _ _ _ _ _ _ (.inl (by decide)),
        third_skip _ _ _ _ _ _ _ _ (.inr (.inl (by show _ < 256 * 2; omega))),
        third_hit _ _ _ _ _ _ _ q hq]
      exact h01 d q Q hq
    | 1 =>
      rw [third_skip _ _ _ _ _ _ _ _ (.inr (.inl (by show _ < 256 * 2; omega))),
        third_hit _ _ _ _ _ _ _ q hq]
      exact h11 d q Q hq
  · obtain ⟨q, hq⟩ : ∃ q : Fin 256, Q.val = q.val + 512 := ⟨⟨Q.val - 512, by omega⟩, by show _ = Q.val - 512 + 512; omega⟩
    match h with
    | 0 =>
      rw [third_skip _ _ _ _ _ _ _ _ (.inl (by decide)), third_skip _ _ _ _ _ _ _ _ (.inl (by decide)), third_skip _ _ _ _ _ _ _ _ (.inl (by decide)),
        third_hit _ _ _ _ _ _ _ q hq]
      exact h02 d q Q hq
    | 1 =>
      rw [third_hit _ _ _ _ _ _ _ q hq]
      exact h12 d q Q hq

/-- Both heads' halves of that buffer. -/
theorem sums2 {s : Fin 2 → Fin 768 → ℕ → EReal} {v : Fin 2 → Fin 128 → ℕ → EReal} {b : ℕ} (v10 : View sig .tc .vmem S2x128x768 .f32)
    (L : List (View.Piece (Elt Ideal) S2x128x768 .f32)) (w00 w01 w02 w10 w11 w12 : Vec Ideal S1x128x256 .f32)
    (h00 : ∀ d q (Q : Fin 768), Q.val = q.val + 0 → w00 (ix3 0 d q) = causal (s 0) (v 0) b Q d)
    (h01 : ∀ d q (Q : Fin 768), Q.val = q.val + 256 → w01 (ix3 0 d q) = causal (s 0) (v 0) b Q d)
    (h02 : ∀ d q (Q : Fin 768), Q.val = q.val + 512 → w02 (ix3 0 d q) = causal (s 0) (v 0) b Q d)
    (h10 : ∀ d q (Q : Fin 768), Q.val = q.val + 0 → w10 (ix3 0 d q) = causal (s 1) (v 1) b Q d)
    (h11 : ∀ d q (Q : Fin 768), Q.val = q.val + 256 → w11 (ix3 0 d q) = causal (s 1) (v 1) b Q d)
    (h12 : ∀ d q (Q : Fin 768), Q.val = q.val + 512 → w12 (ix3 0 d q) = causal (s 1) (v 1) b Q d) :
    (∀ (d : Fin 128) (Q : Fin 768), (v10.readCov (⟨thirdR 1 2, w12⟩ :: ⟨thirdR 1 1, w11⟩ :: ⟨thirdR 1 0, w10⟩ :: ⟨thirdR 0 2, w02⟩ :: ⟨thirdR 0 1, w01⟩ :: ⟨thirdR 0 0, w00⟩ :: L) (accR 0).toLoadRect : Vec Ideal S1x128x768 .f32) (ix3 0 d Q) = causal (s 0) (v 0) b Q d)
    ∧ ∀ (d : Fin 128) (Q : Fin 768), (v10.readCov (⟨thirdR 1 2, w12⟩ :: ⟨thirdR 1 1, w11⟩ :: ⟨thirdR 1 0, w10⟩ :: ⟨thirdR 0 2, w02⟩ :: ⟨thirdR 0 1, w01⟩ :: ⟨thirdR 0 0, w00⟩ :: L) (accR 1).toLoadRect : Vec Ideal S1x128x768 .f32) (ix3 0 d Q) = causal (s 1) (v 1) b Q d :=
  ⟨sums v10 L w00 w01 w02 w10 w11 w12 h00 h01 h02 h10 h11 h12 0, sums v10 L w00 w01 w02 w10 w11 w12 h00 h01 h02 h10 h11 h12 1⟩

end Cert.KernelIdeal.Block

end
-- ==== Proof.BlockA.lean ====
/- The block of the output that the kernel's body stores at an even query tile. -/
module

public import proofs.«01_k».proof.Proof.Start

@[expose] public section

set_option maxRecDepth 16384

noncomputable section

namespace Cert.KernelIdeal.Block

open Cert.Softmax Cert.KernelIdeal Cert.KernelIdeal.Gen Cert.KernelIdeal.Trip Cert.KernelIdeal.Tile Cert.KernelIdeal.Reads Cert.KernelIdeal.Loop Cert.KernelIdeal.Diag
open Idealize.ShloMosaic Idealize.ShloMosaic.TcCoe

/-- A load apart from the last store does not see it. -/
theorem cov_miss {s : Shape} {e : EltTy} {v : View sig .tc .vmem s e} {r : Rect s} {w : r.shape.Idx → Elt Ideal e} {L : List (View.Piece (Elt Ideal) s e)}
    {B : Rect s} {x : Elt Ideal e} {j : B.shape.Idx} (h : LoadRect.disj r B.toLoadRect = true) (H : v.readCov L B.toLoadRect j = x) :
    v.readCov (⟨r, w⟩ :: L) B.toLoadRect j = x := by
  rw [← H]
  exact congrFun (readAt_miss v v.junk r w L B h) j

/-- Both heads' halves of the weighted sums give the block stored. -/
theorem out_block {x0 : Vec Ideal S1x2x768x128 .bf16} {x1 : Vec Ideal S1x2x8448x128 .bf16} {x2 : Vec Ideal S1x2x128x8448 .bf16} {b : ℕ}
    {A B : Vec Ideal S1x128x768 .f32}
    (H : (∀ (d : Fin 128) (Q : Fin 768), A (ix3 0 d Q) = causal (sc x0 x1 0) (vl x2 0) b Q d)
      ∧ ∀ (d : Fin 128) (Q : Fin 768), B (ix3 0 d Q) = causal (sc x0 x1 1) (vl x2 1) b Q d) (Q : Fin 768) (d : Fin 128) :
    k0_pay4 A B (ix3 0 Q d) = outOf x0 x1 x2 b Q d := by
  rw [k0_pay4_apply, H.1, H.1, H.2, H.2]
  rfl

variable (c : Dev nD) (i : grid0.Coords) (arg3 : Memref sig .tc .vmem S1x2x768x128 .bf16) (harg3 : arg3.IsWhole) (arg4 : Memref sig .tc .vmem S1x2x8448x128 .bf16) (harg4 : arg4.IsWhole) (arg5 : Memref sig .tc .vmem S1x2x128x8448 .bf16) (harg5 : arg5.IsWhole) (arg6 : Memref sig .tc .vmem S1x768x128 .bf16) (harg6 : arg6.IsWhole) (arg7 : Memref sig .tc .vmem S2x768x768 .f32) (harg7 : arg7.IsWhole) (arg8 : Memref sig .tc .vmem S2x768x768 .f32) (harg8 : arg8.IsWhole) (arg9 : Memref sig .tc .vmem S2x1x768 .f32) (harg9 : arg9.IsWhole) (arg10 : Memref sig .tc .vmem S2x128x768 .f32) (harg10 : arg10.IsWhole)
variable (x0 : Vec Ideal S1x2x768x128 .bf16) (x1 : Vec Ideal S1x2x8448x128 .bf16) (x2 : Vec Ideal S1x2x128x8448 .bf16)

variable (hs : ∀ h q j, sc x0 x1 h q j ≠ ⊤)

include hs in
/-- The state after both loops, the second of which makes no trip. -/
theorem after_loops (v23 : FVec Ideal S768x768 .f32) (v48 : BitVec 32) (X3 X4 X5) (f7) (f8) (f9) (f10) (L7) (L9) (L10) (g8)
    (H : ∀ h : Fin 2, Holds arg7 arg9 arg10 x0 x1 x2 h 0 (arg7.view.writes (Elt Ideal) arg7.view.junk L7)
      (arg9.view.writes (Elt Ideal) arg9.view.junk L9) (arg10.view.writes (Elt Ideal) arg10.view.junk L10)) (h : Fin 2) (b : ℕ)
    (hb : 2 * ((i 2).val / 2) * 768 = b) :
    IsTile (sc x0 x1 h) b (arg7.view.readCov ((pb_k0_t2 (F := Ideal) Variants.none c none i arg3 harg3 arg4 harg4 arg5 harg5 arg6 harg6 arg7 harg7 arg8 harg8 arg9 harg9 arg10 harg10 (BitVec.ofNat 32 (i 2).val) v23 v48 X3 X4 X5 f7 f8 f9 f10 (Scf.trips (k0_t2_loop i).lb (k0_t2_loop i).ub (k0_t2_loop i).st)).1 ++ ((pb_k0_t1 (F := Ideal) Variants.none c none i arg3 harg3 arg4 harg4 arg5 harg5 arg6 harg6 arg7 harg7 arg8 harg8 arg9 harg9 arg10 harg10 (BitVec.ofNat 32 (i 2).val) v23 (harg3.unread x0) (harg4.unread x1) (harg5.unread x2) (arg7.view.writes (Elt Ideal) arg7.view.junk L7) g8 (arg9.view.writes (Elt Ideal) arg9.view.junk L9) (arg10.view.writes (Elt Ideal) arg10.view.junk L10) (Scf.trips (k0_t1_loop i).lb (k0_t1_loop i).ub (k0_t1_loop i).st)).1 ++ L7)) (scoreR h).toLoadRect)
    ∧ Upto (sc x0 x1 h) (vl x2 h) b (arg9.view.readCov ((pb_k0_t2 (F := Ideal) Variants.none c none i arg3 harg3 arg4 harg4 arg5 harg5 arg6 harg6 arg7 harg7 arg8 harg8 arg9 harg9 arg10 harg10 (BitVec.ofNat 32 (i 2).val) v23 v48 X3 X4 X5 f7 f8 f9 f10 (Scf.trips (k0_t2_loop i).lb (k0_t2_loop i).ub (k0_t2_loop i).st)).2.2.1 ++ ((pb_k0_t1 (F := Ideal) Variants.none c none i arg3 harg3 arg4 harg4 arg5 harg5 arg6 harg6 arg7 harg7 arg8 harg8 arg9 harg9 arg10 harg10 (BitVec.ofNat 32 (i 2).val) v23 (harg3.unread x0) (harg4.unread x1) (harg5.unread x2) (arg7.view.writes (Elt Ideal) arg7.view.junk L7) g8 (arg9.view.writes (Elt Ideal) arg9.view.junk L9) (arg10.view.writes (Elt Ideal) arg10.view.junk L10) (Scf.trips (k0_t1_loop i).lb (k0_t1_loop i).ub (k0_t1_loop i).st)).2.2.1 ++ L9)) (peakR h).toLoadRect)
        (arg10.view.readCov ((pb_k0_t2 (F := Ideal) Variants.none c none i arg3 harg3 arg4 harg4 arg5 harg5 arg6 harg6 arg7 harg7 arg8 harg8 arg9 harg9 arg10 harg10 (BitVec.ofNat 32 (i 2).val) v23 v48 X3 X4 X5 f7 f8 f9 f10 (Scf.trips (k0_t2_loop i).lb (k0_t2_loop i).ub (k0_t2_loop i).st)).2.2.2 ++ ((pb_k0_t1 (F := Ideal) Variants.none c none i arg3 harg3 arg4 harg4 arg5 harg5 arg6 harg6 arg7 harg7 arg8 harg8 arg9 harg9 arg10 harg10 (BitVec.ofNat 32 (i 2).val) v23 (harg3.unread x0) (harg4.unread x1) (harg5.unread x2) (arg7.view.writes (Elt Ideal) arg7.view.junk L7) g8 (arg9.view.writes (Elt Ideal) arg9.view.junk L9) (arg10.view.writes (Elt Ideal) arg10.view.junk L10) (Scf.trips (k0_t1_loop i).lb (k0_t1_loop i).ub (k0_t1_loop i).st)).2.2.2 ++ L10)) (accR h).toLoadRect) := by
  subst hb
  rw [t2_nil]
  exact after_loop c i arg3 harg3 arg4 harg4 arg5 harg5 arg6 harg6 arg7 harg7 arg8 harg8 arg9 harg9 arg10 harg10 x0 x1 x2 hs v23 L7 L9 L10 g8 H h

set_option maxHeartbeats 2000000 in
include hs in
/-- At an even tile the body stores the block of the claim. -/
theorem blockA (hc0 : cond0_0 i) (hc1 : ¬cond0_1 i) (g7) (g8) (g9) (g10) :
    ∃ w : Vec Ideal S1x768x128 .bf16, (Body.runA (F := Ideal) c i arg3 harg3 arg4 harg4 arg5 harg5 arg6 harg6 arg7 harg7 arg8 harg8 arg9 harg9 arg10 harg10 hc0 hc1 x0 x1 x2 g7 g8 g9 g10).1
        = [⟨Rect.unit ![0, 0, 0] S1x768x128.size (by decide), w⟩]
      ∧ ∀ Q d, w (ix3 0 Q d) = outOf x0 x1 x2 ((i 2).val * 768) Q d := by
  have hb : 2 * ((i 2).val / 2) * 768 = (i 2).val * 768 := by have := even_of i hc0; omega
  have hi : (i 2).val < 11 := (i 2).isLt
  have H := fun v23 v48 X3 X4 X5 f7 f8 f9 f10 h => after_loops c i arg3 harg3 arg4 harg4 arg5 harg5 arg6 harg6 arg7 harg7 arg8 harg8 arg9 harg9 arg10 harg10 x0 x1 x2 hs v23 v48 X3 X4 X5 f7 f8 f9 f10 _ _ _ g8
    (start arg3 harg3 arg4 harg4 arg7 arg9 arg10 x0 x1 x2) h _ hb
  refine ⟨_, by unfold Body.runA; rfl, fun Q d => out_block (sums2 _ _ _ _ _ _ _ _ ?_ ?_ ?_ ?_ ?_ ?_) Q d⟩
  · intro d q Q hQ
    refine piece256 (fun q k => hs 0 q k) _ _ _ _ d q Q hQ (fun k => ?_) ?_ ?_ (fun k => ?_)
    · exact third_score256 arg7.view _ 0 0 _ rfl _ k q Q hQ (H _ _ _ _ _ _ _ _ _ 0).1
    · exact (third_peak arg9.view _ arg10.view _ 0 0 _ rfl _ q Q hQ (H _ _ _ _ _ _ _ _ _ 0).2)
    · exact (third_acc arg9.view _ arg10.view _ 0 0 _ rfl _ d q Q hQ (H _ _ _ _ _ _ _ _ _ 0).2)
    · exact read_val256 arg5 harg5 x2 0 ((i 2).val * 768) (by omega) _ (off13_eq i) _ d k
  · intro d q Q hQ
    refine piece512 (fun q k => hs 0 q k) _ _ _ _ d q Q hQ (fun k => ?_) ?_ ?_ (fun k => ?_)
    · exact third_score512 arg7.view _ 0 256 _ rfl _ k q Q hQ (H _ _ _ _ _ _ _ _ _ 0).1
    · exact (cov_miss (by decide) (third_peak arg9.view _ arg10.view _ 0 256 _ rfl _ q Q hQ (H _ _ _ _ _ _ _ _ _ 0).2))
    · exact (cov_miss (by decide) (third_acc arg9.view _ arg10.view _ 0 256 _ rfl _ d q Q hQ (H _ _ _ _ _ _ _ _ _ 0).2))
    · exact read_val512 arg5 harg5 x2 0 ((i 2).val * 768) (by omega) _ (off14_eq i) _ d k
  · intro d q Q hQ
    refine piece768 (fun q k => hs 0 q k) _ _ _ _ d q Q hQ (fun k => ?_) ?_ ?_ (fun k => ?_)
    · exact third_score768 arg7.view _ 0 512 _ rfl _ k q Q hQ (H _ _ _ _ _ _ _ _ _ 0).1
    · exact (cov_miss (by decide) (cov_miss (by decide) (third_peak arg9.view _ arg10.view _ 0 512 _ rfl _ q Q hQ (H _ _ _ _ _ _ _ _ _ 0).2)))
    · exact (cov_miss (by decide) (cov_miss (by decide) (third_acc arg9.view _ arg10.view _ 0 512 _ rfl _ d q Q hQ (H _ _ _ _ _ _ _ _ _ 0).2)))
    · exact read_val768 arg5 harg5 x2 0 ((i 2).val * 768) (by omega) _ (off15_eq i) _ d k
  · intro d q Q hQ
    refine (congrFun (pay77_eq _ _ _ _) _).trans ?_
    refine piece256 (fun q k => hs 1 q k) _ _ _ _ d q Q hQ (fun k => ?_) ?_ ?_ (fun k => ?_)
    · exact third_score256 arg7.view _ 1 0 _ rfl _ k q Q hQ (H _ _ _ _ _ _ _ _ _ 1).1
    · exact (cov_miss (by decide) (cov_miss (by decide) (cov_miss (by decide) (third_peak arg9.view _ arg10.view _ 1 0 _ rfl _ q Q hQ (H _ _ _ _ _ _ _ _ _ 1).2))))
    · exact (cov_miss (by decide) (cov_miss (by decide) (cov_miss (by decide) (third_acc arg9.view _ arg10.view _ 1 0 _ rfl _ d q Q hQ (H _ _ _ _ _ _ _ _ _ 1).2))))
    · exact read_val256 arg5 harg5 x2 1 ((i 2).val * 768) (by omega) _ (off16_eq i) _ d k
  · intro d q Q hQ
    refine (congrFun (pay82_eq _ _ _ _) _).trans ?_
    refine piece512 (fun q k => hs 1 q k) _ _ _ _ d q Q hQ (fun k => ?_) ?_ ?_ (fun k => ?_)
    · exact third_score512 arg7.view _ 1 256 _ rfl _ k q Q hQ (H _ _ _ _ _ _ _ _ _ 1).1
    · exact (cov_miss (by decide) (cov_miss (by decide) (cov_miss (by decide) (cov_miss (by decide) (third_peak arg9.view _ arg10.view _ 1 256 _ rfl _ q Q hQ (H _ _ _ _ _ _ _ _ _ 1).2)))))
    · exact (cov_miss (by decide) (cov_miss (by decide) (cov_miss (by decide) (cov_miss (by decide) (third_acc arg9.view _ arg10.view _ 1 256 _ rfl _ d q Q hQ (H _ _ _ _ _ _ _ _ _ 1).2)))))
    · exact read_val512 arg5 harg5 x2 1 ((i 2).val * 768) (by omega) _ (off17_eq i) _ d k
  · intro d q Q hQ
    refine (congrFun (pay87_eq _ _ _ _) _).trans ?_
    refine piece768 (fun q k => hs 1 q k) _ _ _ _ d q Q hQ (fun k => ?_) ?_ ?_ (fun k => ?_)
    · exact third_score768 arg7.view _ 1 512 _ rfl _ k q Q hQ (H _ _ _ _ _ _ _ _ _ 1).1
    · exact (cov_miss (by decide) (cov_miss (by decide) (cov_miss (by decide) (cov_miss (by decide) (cov_miss (by decide) (third_peak arg9.view _ arg10.view _ 1 512 _ rfl _ q Q hQ (H _ _ _ _ _ _ _ _ _ 1).2))))))
    · exact (cov_miss (by decide) (cov_miss (by decide) (cov_miss (by decide) (cov_miss (by decide) (cov_miss (by decide) (third_acc arg9.view _ arg10.view _ 1 512 _ rfl _ d q Q hQ (H _ _ _ _ _ _ _ _ _ 1).2))))))
    · exact read_val768 arg5 harg5 x2 1 ((i 2).val * 768) (by omega) _ (off18_eq i) _ d k

end Cert.KernelIdeal.Block

end
-- ==== Proof.BlockB.lean ====
/- The block of the output that the kernel's body stores at an odd query tile. -/
module

public import proofs.«01_k».proof.Proof.BlockA

@[expose] public section

set_option maxRecDepth 16384

noncomputable section

namespace Cert.KernelIdeal.Block

open Cert.Softmax Cert.KernelIdeal Cert.KernelIdeal.Gen Cert.KernelIdeal.Trip Cert.KernelIdeal.Tile Cert.KernelIdeal.Reads Cert.KernelIdeal.Loop Cert.KernelIdeal.Diag
open Idealize.ShloMosaic Idealize.ShloMosaic.TcCoe

section step

variable {v7 : View sig .tc .vmem S2x768x768 .f32} {L7 : List (View.Piece (Elt Ideal) S2x768x768 .f32)}
  {v9 : View sig .tc .vmem S2x1x768 .f32} {L9 : List (View.Piece (Elt Ideal) S2x1x768 .f32)}
  {v10 : View sig .tc .vmem S2x128x768 .f32} {L10 : List (View.Piece (Elt Ideal) S2x128x768 .f32)}
  {s : Fin 768 → ℕ → EReal} {v : Fin 128 → ℕ → EReal} {n : ℕ}

/-- The tile left over, the first head. -/
theorem step0 (hs : ∀ q k, s q k ≠ ⊤) (V : Vec Ideal S1x1x128x768 .bf16) (hV : ∀ d k, V (ix4 0 0 d k) = v d (n + k.val))
    (H : IsTile s n (v7.readCov L7 (scoreR 0).toLoadRect) ∧ Upto s v n (v9.readCov L9 (peakR 0).toLoadRect) (v10.readCov L10 (accR 0).toLoadRect))
    (b : ℕ) (hb : n + 768 = b) :
    Upto s v b
      (v9.readCov (⟨peakR 0, k0_pay94 (k0_pay90 (v7.readCov L7 (scoreR 0).toLoadRect)) (k0_pay91 (v9.readCov L9 (peakR 0).toLoadRect))⟩ :: L9) (peakR 0).toLoadRect)
      (v10.readCov (⟨accR 0, k0_pay93 (k0_pay90 (v7.readCov L7 (scoreR 0).toLoadRect)) (k0_pay91 (v9.readCov L9 (peakR 0).toLoadRect))
        (v10.readCov L10 (accR 0).toLoadRect) V⟩ :: L10) (accR 0).toLoadRect) := by
  subst hb
  have e1 := readAt_hit v9 v9.junk (peakR 0) (k0_pay94 (k0_pay90 (v7.readCov L7 (scoreR 0).toLoadRect)) (k0_pay91 (v9.readCov L9 (peakR 0).toLoadRect))) L9
  have e2 := readAt_hit v10 v10.junk (accR 0) (k0_pay93 (k0_pay90 (v7.readCov L7 (scoreR 0).toLoadRect)) (k0_pay91 (v9.readCov L9 (peakR 0).toLoadRect))
        (v10.readCov L10 (accR 0).toLoadRect) V) L10
  have U := Upto.step H.2 hs H.1 hV
  intro q
  exact ⟨(congrFun e1 _).trans (U q).1, fun d => (congrFun e2 _).trans ((U q).2 d)⟩

/-- The tile left over, the second head. -/
theorem step1 (hs : ∀ q k, s q k ≠ ⊤) (V : Vec Ideal S1x1x128x768 .bf16) (hV : ∀ d k, V (ix4 0 0 d k) = v d (n + k.val))
    {w9 : (peakR 0).shape.Idx → Elt Ideal .f32} {w10 : (accR 0).shape.Idx → Elt Ideal .f32}
    (H : IsTile s n (v7.readCov L7 (scoreR 1).toLoadRect) ∧ Upto s v n (v9.readCov L9 (peakR 1).toLoadRect) (v10.readCov L10 (accR 1).toLoadRect))
    (b : ℕ) (hb : n + 768 = b) :
    Upto s v b
      (v9.readCov (⟨peakR 1, k0_pay101 (k0_pay97 (v7.readCov L7 (scoreR 1).toLoadRect) (v9.readCov (⟨peakR 0, w9⟩ :: L9) (peakR 1).toLoadRect))⟩
        :: ⟨peakR 0, w9⟩ :: L9) (peakR 1).toLoadRect)
      (v10.readCov (⟨accR 1, k0_pay100 (k0_pay98 (v7.readCov L7 (scoreR 1).toLoadRect) (v9.readCov (⟨peakR 0, w9⟩ :: L9) (peakR 1).toLoadRect))
        (k0_pay99 (v7.readCov L7 (scoreR 1).toLoadRect) (v9.readCov (⟨peakR 0, w9⟩ :: L9) (peakR 1).toLoadRect))
        (v10.readCov (⟨accR 0, w10⟩ :: L10) (accR 1).toLoadRect) V⟩ :: ⟨accR 0, w10⟩ :: L10) (accR 1).toLoadRect) := by
  subst hb
  have m9 : v9.readCov (⟨peakR 0, w9⟩ :: L9) (peakR 1).toLoadRect = v9.readCov L9 (peakR 1).toLoadRect :=
    readAt_miss v9 v9.junk (peakR 0) w9 L9 (peakR 1) (by decide)
  have m10 : v10.readCov (⟨accR 0, w10⟩ :: L10) (accR 1).toLoadRect = v10.readCov L10 (accR 1).toLoadRect :=
    readAt_miss v10 v10.junk (accR 0) w10 L10 (accR 1) (by decide)
  rw [m9, m10]
  have e1 := readAt_hit v9 v9.junk (peakR 1) (k0_pay101 (k0_pay97 (v7.readCov L7 (scoreR 1).toLoadRect) (v9.readCov L9 (peakR 1).toLoadRect))) (⟨peakR 0, w9⟩ :: L9)
  have e2 := readAt_hit v10 v10.junk (accR 1) (k0_pay100 (k0_pay98 (v7.readCov L7 (scoreR 1).toLoadRect) (v9.readCov L9 (peakR 1).toLoadRect))
        (k0_pay99 (v7.readCov L7 (scoreR 1).toLoadRect) (v9.readCov L9 (peakR 1).toLoadRect))
        (v10.readCov L10 (accR 1).toLoadRect) V) (⟨accR 0, w10⟩ :: L10)
  have U := Upto.step H.2 hs H.1 hV
  intro q
  exact ⟨(congrFun e1 _).trans (U q).1, fun d => (congrFun e2 _).trans ((U q).2 d)⟩

end step

variable (c : Dev nD) (i : grid0.Coords) (arg3 : Memref sig .tc .vmem S1x2x768x128 .bf16) (harg3 : arg3.IsWhole) (arg4 : Memref sig .tc .vmem S1x2x8448x128 .bf16) (harg4 : arg4.IsWhole) (arg5 : Memref sig .tc .vmem S1x2x128x8448 .bf16) (harg5 : arg5.IsWhole) (arg6 : Memref sig .tc .vmem S1x768x128 .bf16) (harg6 : arg6.IsWhole) (arg7 : Memref sig .tc .vmem S2x768x768 .f32) (harg7 : arg7.IsWhole) (arg8 : Memref sig .tc .vmem S2x768x768 .f32) (harg8 : arg8.IsWhole) (arg9 : Memref sig .tc .vmem S2x1x768 .f32) (harg9 : arg9.IsWhole) (arg10 : Memref sig .tc .vmem S2x128x768 .f32) (harg10 : arg10.IsWhole)
variable (x0 : Vec Ideal S1x2x768x128 .bf16) (x1 : Vec Ideal S1x2x8448x128 .bf16) (x2 : Vec Ideal S1x2x128x8448 .bf16)

/-- The scores of the tile on the diagonal. -/
theorem tile8 (b : ℕ) (hb : b + 768 ≤ 8448) (o o' : Fin 4 → ℕ) (ho : o = ![0, 0, b, 0]) (ho' : o' = ![0, 1, b, 0])
    (inb : ∀ a, o a + S1x1x768x128.size a ≤ S1x2x8448x128.size a) (inb' : ∀ a, o' a + S1x1x768x128.size a ≤ S1x2x8448x128.size a)
    (L : List (View.Piece (Elt Ideal) S2x768x768 .f32)) (h : Fin 2) :
    IsTile (sc x0 x1 h) b (arg8.view.readCov (⟨scoreR 1, k0_pay89 (View.readAt (Elt Ideal) arg4.view (Rect.unit (s := S1x2x8448x128) o' S1x1x768x128.size inb').toLoadRect (harg4.unread x1)) (View.readAt (Elt Ideal) arg3.view (Rect.unit (s := S1x2x768x128) ![0, 1, 0, 0] S1x1x768x128.size inb_S1x2x768x128_S1x1x768x128_0_1_0_0).toLoadRect (harg3.unread x0))⟩ :: ⟨scoreR 0, k0_pay88 (View.readAt (Elt Ideal) arg4.view (Rect.unit (s := S1x2x8448x128) o S1x1x768x128.size inb).toLoadRect (harg4.unread x1)) (View.readAt (Elt Ideal) arg3.view (Rect.unit (s := S1x2x768x128) ![0, 0, 0, 0] S1x1x768x128.size inb_S1x2x768x128_S1x1x768x128_0_0_0_0).toLoadRect (harg3.unread x0))⟩ :: L) (scoreR h).toLoadRect) := by
  match h with
  | 1 =>
    intro k q
    refine (congrFun (readAt_hit (Val := Elt Ideal) arg8.view _ (scoreR 1) _ _) (ix3 (0 : Fin 1) k q)).trans ?_
    refine (k0_pay89_apply _ _ k q).trans ?_
    exact read_score arg3 harg3 arg4 harg4 x0 x1 1 b hb _ ho' _ _ rfl _ k q
  | 0 =>
    intro k q
    refine (congrFun (readAt_miss (Val := Elt Ideal) arg8.view _ (scoreR 1) _ _ (scoreR 0) (by decide)) (ix3 (0 : Fin 1) k q)).trans ?_
    refine (congrFun (readAt_hit (Val := Elt Ideal) arg8.view _ (scoreR 0) _ _) (ix3 (0 : Fin 1) k q)).trans ?_
    refine (k0_pay88_apply _ _ k q).trans ?_
    exact read_score arg3 harg3 arg4 harg4 x0 x1 0 b hb _ ho _ _ rfl _ k q

variable (hs : ∀ h q j, sc x0 x1 h q j ≠ ⊤)

set_option maxHeartbeats 4000000 in
include hs in
/-- At an odd tile the body stores the block of the claim. -/
theorem blockB (hc0 : ¬cond0_0 i) (hc1 : cond0_1 i) (g7) (g8) (g9) (g10) :
    ∃ w : Vec Ideal S1x768x128 .bf16, (Body.runB (F := Ideal) c i arg3 harg3 arg4 harg4 arg5 harg5 arg6 harg6 arg7 harg7 arg8 harg8 arg9 harg9 arg10 harg10 hc0 hc1 x0 x1 x2 g7 g8 g9 g10).1
        = [⟨Rect.unit ![0, 0, 0] S1x768x128.size (by decide), w⟩]
      ∧ ∀ Q d, w (ix3 0 Q d) = outOf x0 x1 x2 ((i 2).val * 768) Q d := by
  have ht := odd_of i hc1
  have hb : 2 * ((i 2).val / 2) * 768 = ((i 2).val - 1) * 768 := by omega
  have hn : ((i 2).val - 1) * 768 + 768 = (i 2).val * 768 := by omega
  have hi : (i 2).val < 11 := (i 2).isLt
  have H := fun v23 v48 X3 X4 X5 f7 f8 f9 f10 h => after_loops c i arg3 harg3 arg4 harg4 arg5 harg5 arg6 harg6 arg7 harg7 arg8 harg8 arg9 harg9 arg10 harg10 x0 x1 x2 hs v23 v48 X3 X4 X5 f7 f8 f9 f10 _ _ _ g8
    (start arg3 harg3 arg4 harg4 arg7 arg9 arg10 x0 x1 x2) h _ hb
  have U0 := fun v23 v48 X3 X4 X5 f7 f8 f9 f10 => step0 (fun q k => hs 0 q k) (View.readAt (Elt Ideal) arg5.view (Rect.unit (s := S1x2x128x8448) (k0_off21 i) S1x1x128x768.size (k0_off21_inb i hc1)).toLoadRect (harg5.unread x2))
    (fun d k => read_val768 arg5 harg5 x2 0 (((i 2).val - 1) * 768) (by omega) _ (off21_eq i (by omega)) _ d k) (H v23 v48 X3 X4 X5 f7 f8 f9 f10 0) _ hn
  have U1 := fun v23 v48 X3 X4 X5 f7 f8 f9 f10 w9 w10 => step1 (w9 := w9) (w10 := w10) (fun q k => hs 1 q k) (View.readAt (Elt Ideal) arg5.view (Rect.unit (s := S1x2x128x8448) (k0_off22 i) S1x1x128x768.size (k0_off22_inb i hc1)).toLoadRect (harg5.unread x2))
    (fun d k => read_val768 arg5 harg5 x2 1 (((i 2).val - 1) * 768) (by omega) _ (off22_eq i (by omega)) _ d k) (H v23 v48 X3 X4 X5 f7 f8 f9 f10 1) _ hn
  have T := fun L h => tile8 arg3 harg3 arg4 harg4 arg8 x0 x1 ((i 2).val * 768) (by omega) _ _ (off19_eq i) (off20_eq i) (k0_off19_inb i hc1) (k0_off20_inb i hc1) L h
  refine ⟨_, by unfold Body.runB; rfl, fun Q d => out_block (sums2 _ _ _ _ _ _ _ _ ?_ ?_ ?_ ?_ ?_ ?_) Q d⟩
  · intro d q Q hQ
    refine (congrFun (pay107_eq _ _ _ _) _).trans ?_
    refine piece256 (fun q k => hs 0 q k) _ _ _ _ d q Q hQ (fun k => ?_) ?_ ?_ (fun k => ?_)
    · exact third_score256 arg8.view _ 0 0 _ rfl _ k q Q hQ (T _ 0)
    · exact (cov_miss (by decide) (third_peak arg9.view _ arg10.view _ 0 0 _ rfl _ q Q hQ (U0 _ _ _ _ _ _ _ _ _)))
    · exact (cov_miss (by decide) (third_acc arg9.view _ arg10.view _ 0 0 _ rfl _ d q Q hQ (U0 _ _ _ _ _ _ _ _ _)))
    · exact read_val256 arg5 harg5 x2 0 ((i 2).val * 768) (by omega) _ (off23_eq i) _ d k
  · intro d q Q hQ
    refine (congrFun (pay114_eq _ _ _ _) _).trans ?_
    refine piece512 (fun q k => hs 0 q k) _ _ _ _ d q Q hQ (fun k => ?_) ?_ ?_ (fun k => ?_)
    · exact third_score512 arg8.view _ 0 256 _ rfl _ k q Q hQ (T _ 0)
    · exact (cov_miss (by decide) (cov_miss (by decide) (third_peak arg9.view _ arg10.view _ 0 256 _ rfl _ q Q hQ (U0 _ _ _ _ _ _ _ _ _))))
    · exact (cov_miss (by decide) (cov_miss (by decide) (third_acc arg9.view _ arg10.view _ 0 256 _ rfl _ d q Q hQ (U0 _ _ _ _ _ _ _ _ _))))
    · exact read_val512 arg5 harg5 x2 0 ((i 2).val * 768) (by omega) _ (off24_eq i) _ d k
  · intro d q Q hQ
    refine (congrFun (pay121_eq _ _ _ _) _).trans ?_
    refine piece768 (fun q k => hs 0 q k) _ _ _ _ d q Q hQ (fun k => ?_) ?_ ?_ (fun k => ?_)
    · exact third_score768 arg8.view _ 0 512 _ rfl _ k q Q hQ (T _ 0)
    · exact (cov_miss (by decide) (cov_miss (by decide) (cov_miss (by decide) (third_peak arg9.view _ arg10.view _ 0 512 _ rfl _ q Q hQ (U0 _ _ _ _ _ _ _ _ _)))))
    · exact (cov_miss (by decide) (cov_miss (by decide) (cov_miss (by decide) (third_acc arg9.view _ arg10.view _ 0 512 _ rfl _ d q Q hQ (U0 _ _ _ _ _ _ _ _ _)))))
    · exact read_val768 arg5 harg5 x2 0 ((i 2).val * 768) (by omega) _ (off25_eq i) _ d k
  · intro d q Q hQ
    refine (congrFun (pay128_eq _ _ _ _) _).trans ?_
    refine piece256 (fun q k => hs 1 q k) _ _ _ _ d q Q hQ (fun k => ?_) ?_ ?_ (fun k => ?_)
    · exact third_score256 arg8.view _ 1 0 _ rfl _ k q Q hQ (T _ 1)
    · exact (cov_miss (by decide) (cov_miss (by decide) (cov_miss (by decide) (third_peak arg9.view _ arg10.view _ 1 0 _ rfl _ q Q hQ (U1 _ _ _ _ _ _ _ _ _ _ (fun _ => (0 : EReal)))))))
    · exact (cov_miss (by decide) (cov_miss (by decide) (cov_miss (by decide) (third_acc arg9.view _ arg10.view _ 1 0 _ rfl _ d q Q hQ (U1 _ _ _ _ _ _ _ _ _ _ _)))))
    · exact read_val256 arg5 harg5 x2 1 ((i 2).val * 768) (by omega) _ (off26_eq i) _ d k
  · intro d q Q hQ
    refine (congrFun (pay135_eq _ _ _ _) _).trans ?_
    refine piece512 (fun q k => hs 1 q k) _ _ _ _ d q Q hQ (fun k => ?_) ?_ ?_ (fun k => ?_)
    · exact third_score512 arg8.view _ 1 256 _ rfl _ k q Q hQ (T _ 1)
    · exact (cov_miss (by decide) (cov_miss (by decide) (cov_miss (by decide) (cov_miss (by decide) (third_peak arg9.view _ arg10.view _ 1 256 _ rfl _ q Q hQ (U1 _ _ _ _ _ _ _ _ _ _ (fun _ => (0 : EReal))))))))
    · exact (cov_miss (by decide) (cov_miss (by decide) (cov_miss (by decide) (cov_miss (by decide) (third_acc arg9.view _ arg10.view _ 1 256 _ rfl _ d q Q hQ (U1 _ _ _ _ _ _ _ _ _ _ _))))))
    · exact read_val512 arg5 harg5 x2 1 ((i 2).val * 768) (by omega) _ (off27_eq i) _ d k
  · intro d q Q hQ
    refine (congrFun (pay2_eq _ _ _ _) _).trans ?_
    refine piece768 (fun q k => hs 1 q k) _ _ _ _ d q Q hQ (fun k => ?_) ?_ ?_ (fun k => ?_)
    · exact third_score768 arg8.view _ 1 512 _ rfl _ k q Q hQ (T _ 1)
    · exact (cov_miss (by decide) (cov_miss (by decide) (cov_miss (by decide) (cov_miss (by decide) (cov_miss (by decide) (third_peak arg9.view _ arg10.view _ 1 512 _ rfl _ q Q hQ (U1 _ _ _ _ _ _ _ _ _ _ (fun _ => (0 : EReal)))))))))
    · exact (cov_miss (by decide) (cov_miss (by decide) (cov_miss (by decide) (cov_miss (by decide) (cov_miss (by decide) (third_acc arg9.view _ arg10.view _ 1 512 _ rfl _ d q Q hQ (U1 _ _ _ _ _ _ _ _ _ _ _)))))))
    · exact read_val768 arg5 harg5 x2 1 ((i 2).val * 768) (by omega) _ (off28_eq i) _ d k

end Cert.KernelIdeal.Block

end
-- ==== Proof.Region.lean ====
/- The kernel's run: every block of the output holds what the body stores there, and the arguments end unchanged. -/
module

public import proofs.«01_k».proof.Proof.BlockB
public import Idealize.ShloMosaic.Lib.Claim
public import Idealize.ShloMosaic.Lib.Pipeline.DatRel
public import Idealize.ShloMosaic.Lib.Pipeline.ArrRel
public import Idealize.ShloMosaic.Lib.Pipeline.ValueKit

@[expose] public section

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Cert.KernelIdeal Cert.KernelIdeal.Gen Cert.KernelIdeal.Reads Cert.KernelIdeal.Block

local notation "𝕄" => MT nD τ sig Unit (Elt Ideal) ℕ (UR sig nD τ) ℕ

/-- What the body leaves in the output block: the claim's values, if no score is `⊤`. -/
def Stored (x0 : Vec Ideal S1x2x768x128 .bf16) (x1 : Vec Ideal S1x2x8448x128 .bf16) (x2 : Vec Ideal S1x2x128x8448 .bf16) (b : ℕ)
    (X : Vec Ideal S1x768x128 .bf16) : Prop :=
  (∀ h q j, sc x0 x1 h q j ≠ ⊤) → ∀ Q d, X (ix3 0 Q d) = outOf x0 x1 x2 b Q d

/-- A buffer read after one store of the whole of it. -/
theorem read_whole (v : View sig .tc .vmem S1x768x128 .bf16) (f : v.ty.Contents (Elt Ideal)) (w : Vec Ideal S1x768x128 .bf16)
    (inb : ∀ a, (![0, 0, 0] : Fin 3 → ℕ) a + S1x768x128.size a ≤ S1x768x128.size a) :
    v.read (Elt Ideal) (v.writes (Elt Ideal) f [⟨Rect.unit ![0, 0, 0] S1x768x128.size inb, w⟩]) = w := by
  funext j
  have e := congrFun (Trip.readAt_hit (Val := Elt Ideal) v f (Rect.unit ![0, 0, 0] S1x768x128.size inb) w []) j
  rw [View.readAt_apply] at e
  refine Eq.trans ?_ e
  congr 1
  funext a
  apply Fin.ext
  fin_cases a <;> simp [LoadRect.idx, Rect.unit, Rect.toLoadRect]

theorem owns_pts (c : Thread nD τ) {sp : Space} {sh : Shape} {e : EltTy} (M : Memref sig c.2.kind sp sh e) :
    (iprop(∃ d, owns c M fullShare d) : sProp 𝕄) ⊢ iprop(∃ f, M.view.loc c ↦[M.view.set]{fullShare} f) := by
  unfold owns
  iintro ⟨%d, %f, -, H⟩
  iexists f
  iexact H

/-- The body at an even query tile. -/
theorem soundA (c : Dev nD) (i : grid0.Coords) (arg3 : Memref sig .tc .vmem S1x2x768x128 .bf16) (harg3 : arg3.IsWhole) (arg4 : Memref sig .tc .vmem S1x2x8448x128 .bf16) (harg4 : arg4.IsWhole) (arg5 : Memref sig .tc .vmem S1x2x128x8448 .bf16) (harg5 : arg5.IsWhole) (arg6 : Memref sig .tc .vmem S1x768x128 .bf16) (harg6 : arg6.IsWhole) (arg7 : Memref sig .tc .vmem S2x768x768 .f32) (harg7 : arg7.IsWhole) (arg8 : Memref sig .tc .vmem S2x768x768 .f32) (harg8 : arg8.IsWhole) (arg9 : Memref sig .tc .vmem S2x1x768 .f32) (harg9 : arg9.IsWhole) (arg10 : Memref sig .tc .vmem S2x128x768 .f32) (harg10 : arg10.IsWhole) (hc0 : cond0_0 i) (hc1 : ¬cond0_1 i)
    (x0 : Vec Ideal S1x2x768x128 .bf16) (x1 : Vec Ideal S1x2x8448x128 .bf16) (x2 : Vec Ideal S1x2x128x8448 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ (∃ X, ⌜Stored x0 x1 x2 ((i 2).val * 768) X⌝ ∗ owns (c : Thread nD τ) arg6 fullShare X)
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)) -∗ K ⟨⟩))
      ⊢ wp frame (wpE (defs₀ (F := Ideal)) Variants.none c none) E (cc0_prompt_attn i arg3 harg3 arg4 harg4 arg5 harg5 arg6 harg6 arg7 harg7 arg8 harg8 arg9 harg9 arg10 harg10) K := by
  refine (BIClass.sep_mono .rfl <| BIClass.sep_mono .rfl <| BIClass.sep_mono .rfl <| BIClass.sep_mono .rfl <| BIClass.sep_mono (owns_pts _ _) <| BIClass.sep_mono (owns_pts _ _) <|
    BIClass.sep_mono (owns_pts _ _) <| BIClass.sep_mono (owns_pts _ _) .rfl).trans ?_
  iintro ⟨H0, H1, H2, H3, ⟨%g7, HS0⟩, ⟨%g8, HS1⟩, ⟨%g9, HS2⟩, ⟨%g10, HS3⟩, Hk⟩
  iapply ((Body.runA (F := Ideal) c i arg3 harg3 arg4 harg4 arg5 harg5 arg6 harg6 arg7 harg7 arg8 harg8 arg9 harg9 arg10 harg10 hc0 hc1 x0 x1 x2 g7 g8 g9 g10).2 E K)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, ⟨%f, H3⟩, HS0, HS1, HS2, HS3⟩
  iapply Hk
  isplitl [H0]; · iexact H0
  isplitl [H1]; · iexact H1
  isplitl [H2]; · iexact H2
  isplitl [H3]
  · iexists (arg6.view.read (Elt Ideal) (arg6.view.writes (Elt Ideal) f (Body.runA (F := Ideal) c i arg3 harg3 arg4 harg4 arg5 harg5 arg6 harg6 arg7 harg7 arg8 harg8 arg9 harg9 arg10 harg10 hc0 hc1 x0 x1 x2 g7 g8 g9 g10).1))
    isplitr
    · ipureintro
      intro hs Q d
      obtain ⟨w, hL, hw⟩ := blockA c i arg3 harg3 arg4 harg4 arg5 harg5 arg6 harg6 arg7 harg7 arg8 harg8 arg9 harg9 arg10 harg10 x0 x1 x2 hs hc0 hc1 g7 g8 g9 g10
      rw [hL, read_whole]
      exact hw Q d
    · unfold owns
      iexists _
      isplitr
      · ipureintro; rfl
      iexact H3
  isplitl [HS0]; · iexact HS0
  isplitl [HS1]; · iexact HS1
  isplitl [HS2]; · iexact HS2
  iexact HS3

/-- The body at an odd query tile. -/
theorem soundB (c : Dev nD) (i : grid0.Coords) (arg3 : Memref sig .tc .vmem S1x2x768x128 .bf16) (harg3 : arg3.IsWhole) (arg4 : Memref sig .tc .vmem S1x2x8448x128 .bf16) (harg4 : arg4.IsWhole) (arg5 : Memref sig .tc .vmem S1x2x128x8448 .bf16) (harg5 : arg5.IsWhole) (arg6 : Memref sig .tc .vmem S1x768x128 .bf16) (harg6 : arg6.IsWhole) (arg7 : Memref sig .tc .vmem S2x768x768 .f32) (harg7 : arg7.IsWhole) (arg8 : Memref sig .tc .vmem S2x768x768 .f32) (harg8 : arg8.IsWhole) (arg9 : Memref sig .tc .vmem S2x1x768 .f32) (harg9 : arg9.IsWhole) (arg10 : Memref sig .tc .vmem S2x128x768 .f32) (harg10 : arg10.IsWhole) (hc0 : ¬cond0_0 i) (hc1 : cond0_1 i)
    (x0 : Vec Ideal S1x2x768x128 .bf16) (x1 : Vec Ideal S1x2x8448x128 .bf16) (x2 : Vec Ideal S1x2x128x8448 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ (∃ X, ⌜Stored x0 x1 x2 ((i 2).val * 768) X⌝ ∗ owns (c : Thread nD τ) arg6 fullShare X)
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)) -∗ K ⟨⟩))
      ⊢ wp frame (wpE (defs₀ (F := Ideal)) Variants.none c none) E (cc0_prompt_attn i arg3 harg3 arg4 harg4 arg5 harg5 arg6 harg6 arg7 harg7 arg8 harg8 arg9 harg9 arg10 harg10) K := by
  refine (BIClass.sep_mono .rfl <| BIClass.sep_mono .rfl <| BIClass.sep_mono .rfl <| BIClass.sep_mono .rfl <| BIClass.sep_mono (owns_pts _ _) <| BIClass.sep_mono (owns_pts _ _) <|
    BIClass.sep_mono (owns_pts _ _) <| BIClass.sep_mono (owns_pts _ _) .rfl).trans ?_
  iintro ⟨H0, H1, H2, H3, ⟨%g7, HS0⟩, ⟨%g8, HS1⟩, ⟨%g9, HS2⟩, ⟨%g10, HS3⟩, Hk⟩
  iapply ((Body.runB (F := Ideal) c i arg3 harg3 arg4 harg4 arg5 harg5 arg6 harg6 arg7 harg7 arg8 harg8 arg9 harg9 arg10 harg10 hc0 hc1 x0 x1 x2 g7 g8 g9 g10).2 E K)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, ⟨%f, H3⟩, HS0, HS1, HS2, HS3⟩
  iapply Hk
  isplitl [H0]; · iexact H0
  isplitl [H1]; · iexact H1
  isplitl [H2]; · iexact H2
  isplitl [H3]
  · iexists (arg6.view.read (Elt Ideal) (arg6.view.writes (Elt Ideal) f (Body.runB (F := Ideal) c i arg3 harg3 arg4 harg4 arg5 harg5 arg6 harg6 arg7 harg7 arg8 harg8 arg9 harg9 arg10 harg10 hc0 hc1 x0 x1 x2 g7 g8 g9 g10).1))
    isplitr
    · ipureintro
      intro hs Q d
      obtain ⟨w, hL, hw⟩ := blockB c i arg3 harg3 arg4 harg4 arg5 harg5 arg6 harg6 arg7 harg7 arg8 harg8 arg9 harg9 arg10 harg10 x0 x1 x2 hs hc0 hc1 g7 g8 g9 g10
      rw [hL, read_whole]
      exact hw Q d
    · unfold owns
      iexists _
      isplitr
      · ipureintro; rfl
      iexact H3
  isplitl [HS0]; · iexact HS0
  isplitl [HS1]; · iexact HS1
  isplitl [HS2]; · iexact HS2
  iexact HS3

variable (m : (ℓ : Loc nD τ sig) → Buf (Elt Ideal) ℓ) (ρ : Dev nD → PrngReg)

/-- The output's window is the one held to a predicate. -/
def held : Fin 4 → Bool := fun w => w.val == 3

/-- The predicate: the values that the body stores. -/
def Rl (c : Dev nD) (w : Fin cfg0.W) (t : Fin cfg0.N) : ((cfg0.win w).block.Idx → Elt Ideal (cfg0.win w).elt) → Prop :=
  match w with
  | ⟨3, _⟩ => Stored (iblk m c 0 t) (iblk m c 1 t) (iblk m c 2 t) ((grid0.coords t 2).val * 768)
  | _ => fun _ => True

/-- The pipeline's data: inputs stay at their blocks; of the output nothing exact is said. -/
def dat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dat m c).A w = V m c (Pipeline.arrRef spec0 w) := by dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d

/-- The relational data of the run. -/
abbrev rdat (c : Dev nD) : RDat τ (Elt Ideal) Unit ℕ (UR sig nD τ) ℕ cfg0 c := (dat m c).toRRel held (Rl m c)

/-- What the body finds at point `t`. -/
def bodyPre (c : Dev nD) (t : Fin cfg0.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, ⌜(rdat m c).Finds 3 t d⌝ ∗ owns (c : Thread nD τ) (ms0_3 t) fullShare d))

/-- What it leaves. -/
def bodyPost (c : Dev nD) (t : Fin cfg0.N) : sProp 𝕄 :=
  iprop((dat m c).Φ t.succ ∗ (dat m c).owesAt () t.succ
    ∗ owns (c : Thread nD τ) (ms0_0 t) fullShare ((dat m c).after 0 t)
    ∗ owns (c : Thread nD τ) (ms0_1 t) fullShare ((dat m c).after 1 t)
    ∗ owns (c : Thread nD τ) (ms0_2 t) fullShare ((dat m c).after 2 t)
    ∗ (∃ X, ⌜Rl m c 3 t X⌝ ∗ owns (c : Thread nD τ) (ms0_3 t) fullShare X))

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dat m c).Φ t.succ = (dat m c).Φ t.castSucc from rfl,
    show (dat m c).owesAt () t.succ = (dat m c).owesAt () t.castSucc from rfl, after_0, after_1, after_2]
  rw [show (dat m c).Φ t.castSucc = Pipeline.ΦA spec0 c from rfl, PhiA0_eq]
  have hN : t.val < 88 := lt_of_lt_of_eq t.isLt (show cfg0.N = 88 from N_0)
  by_cases h0 : ¬(t.val % 11 = 1 ∨ t.val % 11 = 3 ∨ t.val % 11 = 5 ∨ t.val % 11 = 7 ∨ t.val % 11 = 9)
  · by_cases h1 : (t.val % 11 = 1 ∨ t.val % 11 = 3 ∨ t.val % 11 = 5 ∨ t.val % 11 = 7 ∨ t.val % 11 = 9)
    · exact absurd h1 h0
    · iintro ⟨⟨⟨HS0, HS1, HS2, HS3⟩, Hg⟩, Ho, ⟨%d0, H0⟩, ⟨%d1, H1⟩, ⟨%d2, H2⟩, ⟨%d3, -, H3⟩⟩
      iapply (soundA c (grid0.coords t) _ (hs0_0 t) _ (hs0_1 t) _ (hs0_2 t) _ (hs0_3 t) _ (Memref.isWhole_whole _) _ (Memref.isWhole_whole _) _ (Memref.isWhole_whole _) _ (Memref.isWhole_whole _) ((hcond0_0 t).mpr h0) (fun h => h1 ((hcond0_1 t).mp h)) (iblk m c 0 t) (iblk m c 1 t) (iblk m c 2 t) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      iexact H3
  · by_cases h1 : (t.val % 11 = 1 ∨ t.val % 11 = 3 ∨ t.val % 11 = 5 ∨ t.val % 11 = 7 ∨ t.val % 11 = 9)
    · iintro ⟨⟨⟨HS0, HS1, HS2, HS3⟩, Hg⟩, Ho, ⟨%d0, H0⟩, ⟨%d1, H1⟩, ⟨%d2, H2⟩, ⟨%d3, -, H3⟩⟩
      iapply (soundB c (grid0.coords t) _ (hs0_0 t) _ (hs0_1 t) _ (hs0_2 t) _ (hs0_3 t) _ (Memref.isWhole_whole _) _ (Memref.isWhole_whole _) _ (Memref.isWhole_whole _) _ (Memref.isWhole_whole _) (fun h => h0 ((hcond0_0 t).mp h)) ((hcond0_1 t).mpr h1) (iblk m c 0 t) (iblk m c 1 t) (iblk m c 2 t) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      iexact H3
    · exact absurd h1 h0

theorem defs_row (t : Fin cfg0.N) :
    defs₀ (F := Ideal) .tc cfg0.body (cfg0.bodyArgs t (cfg0.slots t)) = bodyAt0 t := by
  unfold defs₀; rw [Defs.onTc_tc]

theorem obligation (c : Dev nD) :
    Pipeline.BodyObligationRel (dat m c) (defs₀ (F := Ideal)) Variants.none () Set.univ held (Rl m c) := fun t => by
  rw [bigSep_W0, bigSep_W0, defs_row]
  exact triple_restated (sound_body m c t) rfl .rfl fun _ => .rfl

set_option backward.isDefEq.respectTransparency.types false in
/-- The run, of the relational data, every counter at zero at the end. -/
theorem run : θ_run defs (onTc (τ := τ) (main (F := Ideal))) (s₀ m ρ)
    (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := fun c => (obligation m c).toRRel) (hshare := fun c => (dat m c).share_full fun _ => rfl)
    (howed := fun _ _ => rfl) (V := V m) (hmain := hmain m Variants.none) (hA := A_eq m) (hΦ := fun _ _ => rfl)

end Cert.KernelIdeal.Region

end
-- ==== Proof.Out.lean ====
/- What the output array holds at the end of a run, from the packed queries, keys and values. -/
module

public import proofs.«01_k».proof.Proof.Region
public import Idealize.ShloMosaic.Lib.Pointwise

@[expose] public section

noncomputable section

namespace Cert.KernelIdeal.Out

open Idealize.ShloMosaic
open Idealize.ShloMosaic.Pipeline
open Cert.KernelIdeal Cert.KernelIdeal.Gen Cert.KernelIdeal.Reads Cert.KernelIdeal.Block Cert.KernelIdeal.Region
open Cert.KernelIdeal.Diag Cert.Softmax

variable (m : (ℓ : Loc nD τ sig) → Buf (Elt Ideal) ℓ) (c : Dev nD)

/-- The packed queries, keys and transposed values, as the call finds them. -/
def qA : S2x8x8448x128.Idx → EReal := V m c main_v31
def kA : S2x8x8448x128.Idx → EReal := V m c main_v43
def vA : S2x8x128x8448.Idx → EReal := V m c main_v55

/-- The score of key `j` for row `r` of head `h`, and lane `d` of the values at key `j`. -/
def S (b : Fin 2) (h : Fin 8) (r : Fin 8448) (j : ℕ) : EReal :=
  if hj : j < 8448 then ∑ l : Fin 128, kA m c (ix4 b h ⟨j, hj⟩ l) * qA m c (ix4 b h r l) else 0
def W (b : Fin 2) (h : Fin 8) (d : Fin 128) (j : ℕ) : EReal :=
  if hj : j < 8448 then vA m c (ix4 b h d ⟨j, hj⟩) else 0

/-- Lane `d` of the accumulated weighted values of head `h` at row `r`. -/
def acc (b : Fin 2) (h : Fin 8) (r : Fin 8448) (d : Fin 128) : EReal :=
  mix (S m c b h r) (W m c b h d) (r.val + 1) (peak (S m c b h r) (r.val + 1))

/-- The even and the odd head of the pair that column `l` belongs to. -/
def headE (l : Fin 512) : Fin 8 := ⟨2 * (l.val / 128), by omega⟩
def headO (l : Fin 512) : Fin 8 := ⟨2 * (l.val / 128) + 1, by omega⟩
def lane (l : Fin 512) : Fin 128 := ⟨l.val % 128, by omega⟩

/-- The output at row `r`, column `l`. -/
def G (b : Fin 2) (r : Fin 8448) (l : Fin 512) : EReal :=
  if l.val % 128 < 64 then Ideal.div (acc m c b (headE l) r (lane l)) (acc m c b (headE l) r 64)
  else Ideal.div (acc m c b (headO l) r (lane l)) (acc m c b (headO l) r 0)

theorem idx (t : Fin cfg0.N) :
    (win0_0.index t = ![(grid0.coords t 0).val, (grid0.coords t 1).val, (grid0.coords t 2).val, 0]
    ∧ win0_1.index t = ![(grid0.coords t 0).val, (grid0.coords t 1).val, 0, 0])
    ∧ win0_2.index t = ![(grid0.coords t 0).val, (grid0.coords t 1).val, 0, 0]
    ∧ win0_3.index t = ![(grid0.coords t 0).val, (grid0.coords t 2).val, (grid0.coords t 1).val] := by
  revert t; decide +kernel

theorem coords_lt (t : Fin cfg0.N) :
    (grid0.coords t 0).val < 2 ∧ (grid0.coords t 1).val < 4 ∧ (grid0.coords t 2).val < 11 := by
  revert t; decide +kernel

theorem q_read (t : Fin cfg0.N) (b : Fin 2) (h : Fin 8) (r : Fin 8448) (hh : Fin 2) (q : Fin 768) (l : Fin 128)
    (hb : (grid0.coords t 0).val = b.val) (hr : (grid0.coords t 2).val * 768 + q.val = r.val)
    (e : (grid0.coords t 1).val * 2 + hh.val = h.val) :
    iblk m c 0 t (ix4 (0 : Fin 1) hh q l) = qA m c (ix4 b h r l) := by
  unfold qA
  blk_ext [iblk, (idx t).1.1]

theorem k_read (t : Fin cfg0.N) (b : Fin 2) (h : Fin 8) (hh : Fin 2) (j : Fin 8448) (l : Fin 128)
    (hb : (grid0.coords t 0).val = b.val)
    (e : (grid0.coords t 1).val * 2 + hh.val = h.val) :
    iblk m c 1 t (ix4 (0 : Fin 1) hh j l) = kA m c (ix4 b h j l) := by
  unfold kA
  blk_ext [iblk, (idx t).1.2]

theorem v_read (t : Fin cfg0.N) (b : Fin 2) (h : Fin 8) (hh : Fin 2) (d : Fin 128) (j : Fin 8448)
    (hb : (grid0.coords t 0).val = b.val)
    (e : (grid0.coords t 1).val * 2 + hh.val = h.val) :
    iblk m c 2 t (ix4 (0 : Fin 1) hh d j) = vA m c (ix4 b h d j) := by
  unfold vA
  blk_ext [iblk, (idx t).2.1]

section reads

variable (t : Fin cfg0.N) (b : Fin 2) (h : Fin 8) (r : Fin 8448) (hh : Fin 2) (q : Fin 768)
    (hb : (grid0.coords t 0).val = b.val) (hr : (grid0.coords t 2).val * 768 + q.val = r.val)
    (e : (grid0.coords t 1).val * 2 + hh.val = h.val)

include hb hr e in
theorem sc_eq : sc (iblk m c 0 t) (iblk m c 1 t) hh q = S m c b h r := by
  funext j
  unfold sc S
  split
  · refine Finset.sum_congr rfl fun l _ => ?_
    rw [q_read m c t b h r hh q l hb hr e, k_read m c t b h hh _ l hb e]
  · rfl

include hb e in
theorem vl_eq (d : Fin 128) : vl (iblk m c 2 t) hh d = W m c b h d := by
  funext j
  unfold vl W
  split
  · rw [v_read m c t b h hh d _ hb e]
  · rfl

include hb hr e in
theorem causal_eq (d : Fin 128) :
    causal (sc (iblk m c 0 t) (iblk m c 1 t) hh) (vl (iblk m c 2 t) hh) ((grid0.coords t 2).val * 768) q d = acc m c b h r d := by
  unfold causal acc
  rw [sc_eq m c t b h r hh q hb hr e, vl_eq m c t b h hh hb e, hr]

end reads

theorem outOf_eq (t : Fin cfg0.N) (b : Fin 2) (r : Fin 8448) (l : Fin 512) (q : Fin 768) (d : Fin 128)
    (hb : (grid0.coords t 0).val = b.val) (hr : (grid0.coords t 2).val * 768 + q.val = r.val)
    (hl : (grid0.coords t 1).val * 128 + d.val = l.val) :
    outOf (iblk m c 0 t) (iblk m c 1 t) (iblk m c 2 t) ((grid0.coords t 2).val * 768) q d = G m c b r l := by
  have hd : l.val % 128 = d.val := by omega
  have hp : l.val / 128 = (grid0.coords t 1).val := by omega
  have el : lane l = d := Fin.ext hd
  have e0 : (grid0.coords t 1).val * 2 + (0 : Fin 2).val = (headE l).val := by simp only [headE, hp, Fin.val_zero]; omega
  have e1 : (grid0.coords t 1).val * 2 + (1 : Fin 2).val = (headO l).val := by simp only [headO, hp, Fin.val_one]; omega
  unfold outOf G
  rw [hd, el, causal_eq m c t b (headE l) r 0 q hb hr e0, causal_eq m c t b (headE l) r 0 q hb hr e0,
    causal_eq m c t b (headO l) r 1 q hb hr e1, causal_eq m c t b (headO l) r 1 q hb hr e1]

theorem G_congr {b b' : Fin 2} {r r' : Fin 8448} {l l' : Fin 512} (h0 : b.val = b'.val) (h1 : r.val = r'.val) (h2 : l.val = l'.val) :
    G m c b r l = G m c b' r' l' := by
  obtain rfl := Fin.ext h0
  obtain rfl := Fin.ext h1
  obtain rfl := Fin.ext h2
  rfl

theorem emb0 (t : Fin cfg0.N) (y : ((cfg0.win 3).xblock (cfg0.grid.coords t)).Idx) :
    ((win0_3.blk t).view.emb y 0).val = (grid0.coords t 0).val := by
  blk_simp [(idx t).2.2]
theorem emb1 (t : Fin cfg0.N) (y : ((cfg0.win 3).xblock (cfg0.grid.coords t)).Idx) :
    ((win0_3.blk t).view.emb y 1).val = (grid0.coords t 2).val * 768 + (y 1).val := by
  blk_simp [(idx t).2.2]
theorem emb2 (t : Fin cfg0.N) (y : ((cfg0.win 3).xblock (cfg0.grid.coords t)).Idx) :
    ((win0_3.blk t).view.emb y 2).val = (grid0.coords t 1).val * 128 + (y 2).val := by
  blk_simp [(idx t).2.2]

/-- No score is `⊤`. -/
def Below : Prop := ∀ b h r j, S m c b h r j ≠ ⊤

theorem scores_below (hS : Below m c) (t : Fin cfg0.N) (hh : Fin 2) (q : Fin 768) (j : ℕ) :
    sc (iblk m c 0 t) (iblk m c 1 t) hh q j ≠ ⊤ := by
  obtain ⟨h0, h1, h2⟩ := coords_lt t
  have := hh.isLt
  have := q.isLt
  rw [sc_eq m c t ⟨_, h0⟩ ⟨(grid0.coords t 1).val * 2 + hh.val, by omega⟩ ⟨(grid0.coords t 2).val * 768 + q.val, by omega⟩ hh q
    rfl rfl rfl]
  exact hS _ _ _ _

variable {m c} in
theorem arr_eq (hS : Below m c) (after : (w : Fin cfg0.W) → (u : Fin cfg0.N) → ((cfg0.win w).block.Idx → Elt Ideal (cfg0.win w).elt))
    (hL : ∀ u, (rdat m c).Leaves 3 u (after 3 u)) (j0 : Fin 2) (j1 : Fin 8448) (j2 : Fin 512) :
    ((rdat m c).withAfter after).arrAt 3 cfg0.N (ix3 j0 j1 j2) = G m c j0 j1 j2 := by
  have key : ((rdat m c).withAfter after).arrAt 3 cfg0.N = fun j : S2x8448x512.Idx => G m c (j 0) (j 1) (j 2) := by
    refine Dat.arrAt_eq_of_covers _ 3 _ (by decide +kernel) fun t hf y => ?_
    have hx : Rl m c 3 t (after 3 t) := Dat.toRRel_leaves (dat m c) rfl (hL t)
    obtain ⟨h0, h1, h2⟩ := coords_lt t
    have hy0 : (y 0).val < 1 := (y 0).isLt
    have hy1 : (y 1).val < 768 := (y 1).isLt
    have hy2 : (y 2).val < 128 := (y 2).isLt
    have ey : y = ix3 (0 : Fin 1) ⟨(y 1).val, hy1⟩ ⟨(y 2).val, hy2⟩ := by
      funext a
      match a with
      | ⟨0, _⟩ => exact Fin.ext (Nat.lt_one_iff.mp hy0)
      | ⟨1, _⟩ => rfl
      | ⟨2, _⟩ => rfl
    have hv := (hx (scores_below m c hS t) ⟨(y 1).val, hy1⟩ ⟨(y 2).val, hy2⟩).trans
      (outOf_eq m c t ⟨_, h0⟩ ⟨(grid0.coords t 2).val * 768 + (y 1).val, by omega⟩
        ⟨(grid0.coords t 1).val * 128 + (y 2).val, by omega⟩ _ _ rfl rfl rfl)
    blk_simp [(idx t).2.2]
    exact ((congrArg (after 3 t) ey).trans hv).trans (G_congr m c (emb0 t y).symm (emb1 t y).symm (emb2 t y).symm)
  rw [key]
  rfl

/-- The arguments end as they began. -/
def Kept (M : (ℓ : Loc nD τ sig) → Buf (Elt Ideal) ℓ) : Prop :=
  ∀ c : Dev nD, M ((c.tc : Thread nD τ).loc main_arg0) = m ((c.tc : Thread nD τ).loc main_arg0)
      ∧ M ((c.tc : Thread nD τ).loc main_arg1) = m ((c.tc : Thread nD τ).loc main_arg1)
      ∧ M ((c.tc : Thread nD τ).loc main_arg2) = m ((c.tc : Thread nD τ).loc main_arg2)
      ∧ M ((c.tc : Thread nD τ).loc main_arg3) = m ((c.tc : Thread nD τ).loc main_arg3)

theorem run_out (ρ : Dev nD → PrngReg) :
    θ_run defs (onTc (τ := τ) (main (F := Ideal))) (s₀ m ρ)
      (fun r => (Kept m r.2.mem ∧ r.2.sem = fun _ => 0) ∧ ∀ c, Below m c → ∀ j0 j1 j2,
        r.2.mem ((c.tc : Thread nD τ).loc main_v56) (ix3 j0 j1 j2) = G m c j0 j1 j2) :=
  (θ_run defs _ _).mono (fun r h => by
    refine ⟨⟨fun c => ⟨?_, ?_, ?_, ?_⟩, h.2⟩, fun c hS j0 j1 j2 => ?_⟩
    · exact ((h.1 c).2 main_arg0 (Pipeline.mem_restRefs_of main_arg0 (by decide) (by decide))).trans (V_main_arg0 m c)
    · exact ((h.1 c).2 main_arg1 (Pipeline.mem_restRefs_of main_arg1 (by decide) (by decide))).trans (V_main_arg1 m c)
    · exact ((h.1 c).2 main_arg2 (Pipeline.mem_restRefs_of main_arg2 (by decide) (by decide))).trans (V_main_arg2 m c)
    · exact ((h.1 c).2 main_arg3 (Pipeline.mem_restRefs_of main_arg3 (by decide) (by decide))).trans (V_main_arg3 m c)
    · obtain ⟨after, hL, hA⟩ := RDat.FramePost.exists_exact h.1 c
      have hflush : ∀ u : Fin cfg0.N, (cfg0.win 3).flush u = true := by decide +kernel
      exact (congrFun (hA 3) _).trans (arr_eq hS after (fun u => hL 3 u (hflush u)) j0 j1 j2)) (Region.run m ρ)

end Cert.KernelIdeal.Out

end
-- ==== Proof.Packed.lean ====
/- The packed queries, keys and values read at an index, from the arguments. -/
module

public import proofs.«01_k».proof.Proof.Out

@[expose] public section

noncomputable section

namespace Cert.KernelIdeal.Packed

open Idealize.ShloMosaic
open Cert.KernelIdeal Cert.KernelIdeal.Gen Cert.KernelIdeal.Out Cert.Softmax

variable (m : (ℓ : Loc nD τ sig) → Buf (Elt Ideal) ℓ) (c : Dev nD)

/-- The arguments. -/
abbrev aq : S2x8208x8x64.Idx → EReal := m ((c.tc : Thread nD τ).loc main_arg0)
abbrev ak : S2x8208x8x64.Idx → EReal := m ((c.tc : Thread nD τ).loc main_arg1)
abbrev av : S2x8208x8x64.Idx → EReal := m ((c.tc : Thread nD τ).loc main_arg2)
abbrev af : S2x8208x8.Idx → EReal := m ((c.tc : Thread nD τ).loc main_arg3)

/-- The word that the program computes for "head `h` is even". -/
def evenW (h : Fin 8) : BitVec 1 :=
  IntOp.cmpi .eq
    (Scalar.select
      (IntOp.andi
        (IntOp.cmpi .ne
          (IntOp.cmpi .slt
            (IntOp.remsi .host (BitVec.ofNat 32 h.val) (Scalar.select (IntOp.cmpi .eq 2#32 0#32) (1#32) 2#32)) 0#32)
          (IntOp.cmpi .slt (Scalar.select (IntOp.cmpi .eq 2#32 0#32) (1#32) 2#32) 0#32))
        (IntOp.cmpi .ne
          (IntOp.remsi .host (BitVec.ofNat 32 h.val) (Scalar.select (IntOp.cmpi .eq 2#32 0#32) (1#32) 2#32)) 0#32))
      (IntOp.addi
        (IntOp.remsi .host (BitVec.ofNat 32 h.val) (Scalar.select (IntOp.cmpi .eq 2#32 0#32) (1#32) 2#32))
        (Scalar.select (IntOp.cmpi .eq 2#32 0#32) (1#32) 2#32))
      (IntOp.remsi .host (BitVec.ofNat 32 h.val) (Scalar.select (IntOp.cmpi .eq 2#32 0#32) (1#32) 2#32)))
    0#32

theorem evenW_eq (h : Fin 8) : evenW h = if h.val % 2 = 0 then 1#1 else 0#1 := by
  revert h; decide +kernel

theorem zero_word : (FloatOps.sitofp (F := Ideal) FTy.f32 0#32 : EReal) = 0 := by
  show (((0#32).toInt : ℝ) : EReal) = 0
  simp

/-- The buffers after the padding of the arguments, after the parts of the forget values, after the packing of the queries. -/
def st1 : Valuation τ sig (Elt Ideal) :=
  StableHlo.after (List.flatten [hostOps0, hostOps0_1, hostOps0_2, hostOps0_3, hostOps0_4, hostOps0_5, hostOps0_6, hostOps0_7]) fun b => m (c, b)
def st2a : Valuation τ sig (Elt Ideal) := StableHlo.after (List.take 13 hostOps0_8) (st1 m c)
def st2b : Valuation τ sig (Elt Ideal) := StableHlo.after (List.take 1 (List.drop 13 hostOps0_8)) (st2a m c)
def st2 : Valuation τ sig (Elt Ideal) := StableHlo.after (List.drop 14 hostOps0_8) (st2b m c)
def st3 : Valuation τ sig (Elt Ideal) :=
  StableHlo.after (List.flatten [hostOps0_9, hostOps0_10, hostOps0_11, hostOps0_12, hostOps0_13, hostOps0_14, hostOps0_15]) (st2 m c)
def st4 : Valuation τ sig (Elt Ideal) :=
  StableHlo.after (List.flatten [hostOps0_16, hostOps0_17, hostOps0_18, hostOps0_19, hostOps0_20, hostOps0_21, hostOps0_22]) (st3 m c)
def st5 : Valuation τ sig (Elt Ideal) :=
  StableHlo.after (List.flatten [hostOps0_23, hostOps0_24, hostOps0_25, hostOps0_26, hostOps0_27, hostOps0_28, hostOps0_29]) (st4 m c)

theorem after_app (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons o l ih => exact ih _

theorem V_eq (b : Ref sig .tc) : V m c b = st5 m c (Proc.tc.devRef b) := by
  unfold V st5 st4 st3 st2 st2b st2a st1
  rw [← after_app, ← after_app, ← after_app, ← after_app, ← after_app, ← after_app]
  rfl

/-- A head's tile: data on the lower lanes and extra lanes after it for an even head, the other way round for an odd one. -/
def pk (h : Fin 8) (x a : Fin 64 → EReal) (l : Fin 128) : EReal :=
  if hl : l.val < 64 then (if h.val % 2 = 0 then x ⟨l.val, hl⟩ else a ⟨l.val, hl⟩)
  else (if h.val % 2 = 0 then a ⟨l.val - 64, by omega⟩ else x ⟨l.val - 64, by omega⟩)

/-- The first few of the extra lanes are given, the others zero. -/
def aux (n : ℕ) (g : Fin n → EReal) (e : Fin 64) : EReal := if he : e.val < n then g ⟨e.val, he⟩ else 0

/-- The three parts that a forget value is split into; between exact numbers all but the first are differences. -/
def part (x : EReal) (e : Fin 3) : EReal := if e.val = 0 then x else if e.val = 1 then x - x else (x - x) - (x - x)

theorem sel_even (h : Fin 8) (x y : EReal) : Scalar.select (evenW h) x y = if h.val % 2 = 0 then x else y := by
  rw [evenW_eq]
  split <;> rfl

/-- The arguments padded with zeros. -/
def padded (x : S2x8208x8x64.Idx → EReal) (b : Fin 2) (r : Fin 8448) (h : Fin 8) (e : Fin 64) : EReal :=
  if hr : r.val < 8208 then x (ix4 b ⟨r.val, hr⟩ h e) else 0
def padf (x : S2x8208x8.Idx → EReal) (b : Fin 2) (r : Fin 8448) (h : Fin 8) : EReal :=
  if hr : r.val < 8208 then x (ix3 b ⟨r.val, hr⟩ h) else 0

set_option maxRecDepth 65536 in
set_option maxHeartbeats 4000000 in
theorem st1_v0 (b : Fin 2) (r : Fin 8448) (h : Fin 8) (e : Fin 64) :
    st1 m c (Proc.tc.devRef main_v0) (ix4 b r h e) = padded (aq m c) b r h e := by
  simp only [st1, hostOps0, hostOps0_1, hostOps0_2, hostOps0_3, hostOps0_4, hostOps0_5, hostOps0_6, hostOps0_7, List.flatten_cons, List.flatten_nil,
    List.append_nil, List.cons_append, List.nil_append]
  simp only [StableHlo.TRef.binary, StableHlo.TRef.ternary, StableHlo.TRef.unary, StableHlo.TRef.nullary, StableHlo.TRef.toBuf,
    StableHlo.TRef.ofBuf, cast_eq]
  after_results_simp
  after_results_loop
  pointwise
  unfold padded
  simp only [zero_word]

set_option maxRecDepth 65536 in
set_option maxHeartbeats 4000000 in
theorem st1_v1 (b : Fin 2) (r : Fin 8448) (h : Fin 8) (e : Fin 64) :
    st1 m c (Proc.tc.devRef main_v1) (ix4 b r h e) = padded (ak m c) b r h e := by
  simp only [st1, hostOps0, hostOps0_1, hostOps0_2, hostOps0_3, hostOps0_4, hostOps0_5, hostOps0_6, hostOps0_7, List.flatten_cons, List.flatten_nil,
    List.append_nil, List.cons_append, List.nil_append]
  simp only [StableHlo.TRef.binary, StableHlo.TRef.ternary, StableHlo.TRef.unary, StableHlo.TRef.nullary, StableHlo.TRef.toBuf,
    StableHlo.TRef.ofBuf, cast_eq]
  after_results_simp
  after_results_loop
  pointwise
  unfold padded
  simp only [zero_word]

set_option maxRecDepth 65536 in
set_option maxHeartbeats 4000000 in
theorem st1_v2 (b : Fin 2) (r : Fin 8448) (h : Fin 8) (e : Fin 64) :
    st1 m c (Proc.tc.devRef main_v2) (ix4 b r h e) = padded (av m c) b r h e := by
  simp only [st1, hostOps0, hostOps0_1, hostOps0_2, hostOps0_3, hostOps0_4, hostOps0_5, hostOps0_6, hostOps0_7, List.flatten_cons, List.flatten_nil,
    List.append_nil, List.cons_append, List.nil_append]
  simp only [StableHlo.TRef.binary, StableHlo.TRef.ternary, StableHlo.TRef.unary, StableHlo.TRef.nullary, StableHlo.TRef.toBuf,
    StableHlo.TRef.ofBuf, cast_eq]
  after_results_simp
  after_results_loop
  pointwise
  unfold padded
  simp only [zero_word]

set_option maxRecDepth 65536 in
set_option maxHeartbeats 4000000 in
theorem st1_v3 (b : Fin 2) (r : Fin 8448) (h : Fin 8) :
    st1 m c (Proc.tc.devRef main_v3) (ix3 b r h) = padf (af m c) b r h := by
  simp only [st1, hostOps0, hostOps0_1, hostOps0_2, hostOps0_3, hostOps0_4, hostOps0_5, hostOps0_6, hostOps0_7, List.flatten_cons, List.flatten_nil,
    List.append_nil, List.cons_append, List.nil_append]
  simp only [StableHlo.TRef.binary, StableHlo.TRef.ternary, StableHlo.TRef.unary, StableHlo.TRef.nullary, StableHlo.TRef.toBuf,
    StableHlo.TRef.ofBuf, cast_eq]
  after_results_simp
  after_results_loop
  pointwise
  unfold padf
  simp only [zero_word]

set_option maxRecDepth 65536 in
set_option maxHeartbeats 4000000 in
theorem st2a_v0 : st2a m c (Proc.tc.devRef main_v0) = st1 m c (Proc.tc.devRef main_v0) := by
  simp only [st2a, hostOps0_8, List.take_succ_cons, List.take_zero]
  after_results_simp

set_option maxRecDepth 65536 in
set_option maxHeartbeats 4000000 in
theorem st2b_v0 : st2b m c (Proc.tc.devRef main_v0) = st2a m c (Proc.tc.devRef main_v0) := by
  simp only [st2b, hostOps0_8, List.take_succ_cons, List.take_zero, List.drop_succ_cons, List.drop_zero]
  after_results_simp

set_option maxRecDepth 65536 in
set_option maxHeartbeats 4000000 in
theorem st2a_v1 : st2a m c (Proc.tc.devRef main_v1) = st1 m c (Proc.tc.devRef main_v1) := by
  simp only [st2a, hostOps0_8, List.take_succ_cons, List.take_zero]
  after_results_simp

set_option maxRecDepth 65536 in
set_option maxHeartbeats 4000000 in
theorem st2b_v1 : st2b m c (Proc.tc.devRef main_v1) = st2a m c (Proc.tc.devRef main_v1) := by
  simp only [st2b, hostOps0_8, List.take_succ_cons, List.take_zero, List.drop_succ_cons, List.drop_zero]
  after_results_simp

set_option maxRecDepth 65536 in
set_option maxHeartbeats 4000000 in
theorem st2a_v2 : st2a m c (Proc.tc.devRef main_v2) = st1 m c (Proc.tc.devRef main_v2) := by
  simp only [st2a, hostOps0_8, List.take_succ_cons, List.take_zero]
  after_results_simp

set_option maxRecDepth 65536 in
set_option maxHeartbeats 4000000 in
theorem st2b_v2 : st2b m c (Proc.tc.devRef main_v2) = st2a m c (Proc.tc.devRef main_v2) := by
  simp only [st2b, hostOps0_8, List.take_succ_cons, List.take_zero, List.drop_succ_cons, List.drop_zero]
  after_results_simp

set_option maxRecDepth 65536 in
set_option maxHeartbeats 4000000 in
theorem st2_v1 : st2 m c (Proc.tc.devRef main_v1) = st1 m c (Proc.tc.devRef main_v1) := by
  rw [← st2a_v1, ← st2b_v1]
  simp only [st2, hostOps0_8, List.drop_succ_cons, List.drop_zero]
  after_results_simp

set_option maxRecDepth 65536 in
set_option maxHeartbeats 4000000 in
theorem st2_v2 : st2 m c (Proc.tc.devRef main_v2) = st1 m c (Proc.tc.devRef main_v2) := by
  rw [← st2a_v2, ← st2b_v2]
  simp only [st2, hostOps0_8, List.drop_succ_cons, List.drop_zero]
  after_results_simp

set_option maxRecDepth 65536 in
set_option maxHeartbeats 4000000 in
theorem st2a_v14 (b : Fin 2) (r : Fin 8448) (h : Fin 8) :
    st2a m c (Proc.tc.devRef main_v14) (ix4 b r h (0 : Fin 1)) = padf (af m c) b r h := by
  simp only [st2a, hostOps0_8, List.take_succ_cons, List.take_zero]
  after_results_simp
  pointwise
  rw [st1_v3]

set_option maxRecDepth 65536 in
set_option maxHeartbeats 4000000 in
theorem st2a_v15 (b : Fin 2) (r : Fin 8448) (h : Fin 8) :
    st2a m c (Proc.tc.devRef main_v15) (ix4 b r h (0 : Fin 1)) = padf (af m c) b r h - padf (af m c) b r h := by
  simp only [st2a, hostOps0_8, List.take_succ_cons, List.take_zero]
  after_results_simp
  pointwise
  rw [st1_v3]

set_option maxRecDepth 65536 in
set_option maxHeartbeats 4000000 in
theorem st2a_v16 (b : Fin 2) (r : Fin 8448) (h : Fin 8) :
    st2a m c (Proc.tc.devRef main_v16) (ix4 b r h (0 : Fin 1)) = (padf (af m c) b r h - padf (af m c) b r h) - (padf (af m c) b r h - padf (af m c) b r h) := by
  simp only [st2a, hostOps0_8, List.take_succ_cons, List.take_zero]
  after_results_simp
  pointwise
  rw [st1_v3]

theorem st2b_v17 (b : Fin 2) (r : Fin 8448) (h : Fin 8) (e : Fin 3) :
    st2b m c (Proc.tc.devRef main_v17) (ix4 b r h e) = part (padf (af m c) b r h) e := by
  unfold st2b
  simp only [hostOps0_8, List.take_succ_cons, List.take_zero, List.drop_succ_cons, List.drop_zero, StableHlo.after_cons, StableHlo.after_nil]
  rw [StableHlo.nary_result]
  show concatenate S2x8448x8x3 3
      [⟨S2x8448x8x1, st2a m c (Proc.tc.devRef main_v14)⟩, ⟨S2x8448x8x1, st2a m c (Proc.tc.devRef main_v15)⟩,
        ⟨S2x8448x8x1, st2a m c (Proc.tc.devRef main_v16)⟩]
      concatenates_S2x8448x8x1_S2x8448x8x1_S2x8448x8x1_S2x8448x8x3_d3 (ix4 b r h e) = _
  pointwise
  unfold part
  match e with
  | ⟨0, _⟩ => exact st2a_v14 m c b r h
  | ⟨1, _⟩ => exact st2a_v15 m c b r h
  | ⟨2, _⟩ => exact st2a_v16 m c b r h

set_option maxRecDepth 65536 in
set_option maxHeartbeats 4000000 in
theorem st2_v20 (b : Fin 2) (r : Fin 8448) (h : Fin 8) (e : Fin 64) :
    st2 m c (Proc.tc.devRef main_v20) (ix4 b r h e) = padded (aq m c) b r h e * Ideal.ofBits .f32 0x3E000000#32 := by
  simp only [st2, hostOps0_8, List.drop_succ_cons, List.drop_zero]
  after_results_simp
  pointwise
  rw [st2b_v0, st2a_v0, st1_v0]

set_option maxRecDepth 65536 in
set_option maxHeartbeats 4000000 in
theorem st2_v17 : st2 m c (Proc.tc.devRef main_v17) = st2b m c (Proc.tc.devRef main_v17) := by
  simp only [st2, hostOps0_8, List.drop_succ_cons, List.drop_zero]
  after_results_simp

set_option maxRecDepth 65536 in
set_option maxHeartbeats 4000000 in
theorem st2_v18 (b : Fin 2) (r : Fin 8448) (h : Fin 8) (e : Fin 3) :
    st2 m c (Proc.tc.devRef main_v18) (ix4 b r h e) = (1 : EReal) := by
  simp only [st2, hostOps0_8, List.drop_succ_cons, List.drop_zero]
  after_results_simp
  pointwise

set_option maxRecDepth 65536 in
set_option maxHeartbeats 4000000 in
theorem st2_v21 (b : Fin 2) (r : Fin 8448) (h : Fin 8) (e : Fin 6) :
    st2 m c (Proc.tc.devRef main_v21) (ix4 b r h e) = (if he : e.val < 3 then part (padf (af m c) b r h) ⟨e.val, he⟩ else 1) := by
  simp only [st2, hostOps0_8, List.drop_succ_cons, List.drop_zero]
  after_results_simp
  pointwise
  split
  · exact st2b_v17 m c b r h _
  · rfl

set_option maxRecDepth 65536 in
set_option maxHeartbeats 4000000 in
theorem st2_c4 : st2 m c (Proc.tc.devRef main_c_4) = constantI S_ 32 0#32 := by
  simp only [st2, hostOps0_8, List.drop_succ_cons, List.drop_zero]
  after_results_simp

set_option maxRecDepth 65536 in
set_option maxHeartbeats 4000000 in
theorem st3_v1 : st3 m c (Proc.tc.devRef main_v1) = st2 m c (Proc.tc.devRef main_v1) := by
  simp only [st3, hostOps0_9, hostOps0_10, hostOps0_11, hostOps0_12, hostOps0_13, hostOps0_14, hostOps0_15, List.flatten_cons, List.flatten_nil,
    List.append_nil, List.cons_append, List.nil_append]
  simp only [StableHlo.TRef.binary, StableHlo.TRef.ternary, StableHlo.TRef.unary, StableHlo.TRef.nullary, StableHlo.TRef.toBuf,
    StableHlo.TRef.ofBuf, cast_eq]
  after_results_simp
  after_results_loop

set_option maxRecDepth 65536 in
set_option maxHeartbeats 4000000 in
theorem st3_v2 : st3 m c (Proc.tc.devRef main_v2) = st2 m c (Proc.tc.devRef main_v2) := by
  simp only [st3, hostOps0_9, hostOps0_10, hostOps0_11, hostOps0_12, hostOps0_13, hostOps0_14, hostOps0_15, List.flatten_cons, List.flatten_nil,
    List.append_nil, List.cons_append, List.nil_append]
  simp only [StableHlo.TRef.binary, StableHlo.TRef.ternary, StableHlo.TRef.unary, StableHlo.TRef.nullary, StableHlo.TRef.toBuf,
    StableHlo.TRef.ofBuf, cast_eq]
  after_results_simp
  after_results_loop

set_option maxRecDepth 65536 in
set_option maxHeartbeats 4000000 in
theorem st4_v2 : st4 m c (Proc.tc.devRef main_v2) = st3 m c (Proc.tc.devRef main_v2) := by
  simp only [st4, hostOps0_16, hostOps0_17, hostOps0_18, hostOps0_19, hostOps0_20, hostOps0_21, hostOps0_22, List.flatten_cons, List.flatten_nil,
    List.append_nil, List.cons_append, List.nil_append]
  simp only [StableHlo.TRef.binary, StableHlo.TRef.ternary, StableHlo.TRef.unary, StableHlo.TRef.nullary, StableHlo.TRef.toBuf,
    StableHlo.TRef.ofBuf, cast_eq]
  after_results_simp
  after_results_loop

set_option maxRecDepth 65536 in
set_option maxHeartbeats 4000000 in
theorem st4_v31 : st4 m c (Proc.tc.devRef main_v31) = st3 m c (Proc.tc.devRef main_v31) := by
  simp only [st4, hostOps0_16, hostOps0_17, hostOps0_18, hostOps0_19, hostOps0_20, hostOps0_21, hostOps0_22, List.flatten_cons, List.flatten_nil,
    List.append_nil, List.cons_append, List.nil_append]
  simp only [StableHlo.TRef.binary, StableHlo.TRef.ternary, StableHlo.TRef.unary, StableHlo.TRef.nullary, StableHlo.TRef.toBuf,
    StableHlo.TRef.ofBuf, cast_eq]
  after_results_simp
  after_results_loop

set_option maxRecDepth 65536 in
set_option maxHeartbeats 4000000 in
theorem st5_v31 : st5 m c (Proc.tc.devRef main_v31) = st4 m c (Proc.tc.devRef main_v31) := by
  simp only [st5, hostOps0_23, hostOps0_24, hostOps0_25, hostOps0_26, hostOps0_27, hostOps0_28, hostOps0_29, List.flatten_cons, List.flatten_nil,
    List.append_nil, List.cons_append, List.nil_append]
  simp only [StableHlo.TRef.binary, StableHlo.TRef.ternary, StableHlo.TRef.unary, StableHlo.TRef.nullary, StableHlo.TRef.toBuf,
    StableHlo.TRef.ofBuf, cast_eq]
  after_results_simp
  after_results_loop

set_option maxRecDepth 65536 in
set_option maxHeartbeats 4000000 in
theorem st5_v43 : st5 m c (Proc.tc.devRef main_v43) = st4 m c (Proc.tc.devRef main_v43) := by
  simp only [st5, hostOps0_23, hostOps0_24, hostOps0_25, hostOps0_26, hostOps0_27, hostOps0_28, hostOps0_29, List.flatten_cons, List.flatten_nil,
    List.append_nil, List.cons_append, List.nil_append]
  simp only [StableHlo.TRef.binary, StableHlo.TRef.ternary, StableHlo.TRef.unary, StableHlo.TRef.nullary, StableHlo.TRef.toBuf,
    StableHlo.TRef.ofBuf, cast_eq]
  after_results_simp
  after_results_loop

set_option maxRecDepth 65536 in
set_option maxHeartbeats 4000000 in
theorem st3_c7 : st3 m c (Proc.tc.devRef main_c_7) = constantI S_ 32 0#32 := by
  simp only [st3, hostOps0_9, hostOps0_10, hostOps0_11, hostOps0_12, hostOps0_13, hostOps0_14, hostOps0_15, List.flatten_cons, List.flatten_nil,
    List.append_nil, List.cons_append, List.nil_append]
  simp only [StableHlo.TRef.binary, StableHlo.TRef.ternary, StableHlo.TRef.unary, StableHlo.TRef.nullary, StableHlo.TRef.toBuf,
    StableHlo.TRef.ofBuf, cast_eq]
  after_results_simp

set_option maxRecDepth 65536 in
set_option maxHeartbeats 4000000 in
theorem st4_c11 : st4 m c (Proc.tc.devRef main_c_11) = constantI S_ 32 0#32 := by
  simp only [st4, hostOps0_16, hostOps0_17, hostOps0_18, hostOps0_19, hostOps0_20, hostOps0_21, hostOps0_22, List.flatten_cons, List.flatten_nil,
    List.append_nil, List.cons_append, List.nil_append]
  simp only [StableHlo.TRef.binary, StableHlo.TRef.ternary, StableHlo.TRef.unary, StableHlo.TRef.nullary, StableHlo.TRef.toBuf,
    StableHlo.TRef.ofBuf, cast_eq]
  after_results_simp

set_option maxRecDepth 65536 in
set_option maxHeartbeats 4000000 in
theorem st4_v44 (b : Fin 2) (r : Fin 8448) (h : Fin 8) (e : Fin 1) : st4 m c (Proc.tc.devRef main_v44) (ix4 b r h e) = (1 : EReal) := by
  simp only [st4, hostOps0_16, hostOps0_17, hostOps0_18, hostOps0_19, hostOps0_20, hostOps0_21, hostOps0_22, List.flatten_cons, List.flatten_nil,
    List.append_nil, List.cons_append, List.nil_append]
  simp only [StableHlo.TRef.binary, StableHlo.TRef.ternary, StableHlo.TRef.unary, StableHlo.TRef.nullary, StableHlo.TRef.toBuf,
    StableHlo.TRef.ofBuf, cast_eq]
  after_results_simp
  pointwise

set_option maxRecDepth 65536 in
set_option maxHeartbeats 4000000 in
theorem st3_v31 (b : Fin 2) (h : Fin 8) (r : Fin 8448) (l : Fin 128) : st3 m c (Proc.tc.devRef main_v31) (ix4 b h r l)
    = pk h (fun e => st2 m c (Proc.tc.devRef main_v20) (ix4 b r h e)) (aux 6 fun e => st2 m c (Proc.tc.devRef main_v21) (ix4 b r h e)) l := by
  simp only [st3, hostOps0_9, hostOps0_10, hostOps0_11, hostOps0_12, hostOps0_13, hostOps0_14, hostOps0_15, List.flatten_cons, List.flatten_nil,
    List.append_nil, List.cons_append, List.nil_append]
  simp only [StableHlo.TRef.binary, StableHlo.TRef.ternary, StableHlo.TRef.unary, StableHlo.TRef.nullary, StableHlo.TRef.toBuf,
    StableHlo.TRef.ofBuf, cast_eq]
  after_results_simp
  after_results_loop
  rw [st2_c4]
  pointwise
  simp only [id_eq, constantI]
  rw [← evenW]
  simp only [sel_even, zero_word]
  unfold pk aux
  rfl

set_option maxRecDepth 65536 in
set_option maxHeartbeats 4000000 in
theorem st4_v43 (b : Fin 2) (h : Fin 8) (r : Fin 8448) (l : Fin 128) : st4 m c (Proc.tc.devRef main_v43) (ix4 b h r l)
    = pk h (fun e => st3 m c (Proc.tc.devRef main_v1) (ix4 b r h e)) (aux 6 fun e => st3 m c (Proc.tc.devRef main_v33) (ix4 b r h e)) l := by
  simp only [st4, hostOps0_16, hostOps0_17, hostOps0_18, hostOps0_19, hostOps0_20, hostOps0_21, hostOps0_22, List.flatten_cons, List.flatten_nil,
    List.append_nil, List.cons_append, List.nil_append]
  simp only [StableHlo.TRef.binary, StableHlo.TRef.ternary, StableHlo.TRef.unary, StableHlo.TRef.nullary, StableHlo.TRef.toBuf,
    StableHlo.TRef.ofBuf, cast_eq]
  after_results_simp
  after_results_loop

  pointwise
  rw [st3_c7]
  simp only [id_eq, constantI]
  rw [← evenW]
  simp only [sel_even, zero_word]
  unfold pk aux
  rfl

set_option maxRecDepth 65536 in
set_option maxHeartbeats 4000000 in
theorem st5_v55 (b : Fin 2) (h : Fin 8) (d : Fin 128) (r : Fin 8448) : st5 m c (Proc.tc.devRef main_v55) (ix4 b h d r)
    = pk h (fun e => st4 m c (Proc.tc.devRef main_v2) (ix4 b r h e)) (aux 1 fun e => st4 m c (Proc.tc.devRef main_v44) (ix4 b r h e)) d := by
  simp only [st5, hostOps0_23, hostOps0_24, hostOps0_25, hostOps0_26, hostOps0_27, hostOps0_28, hostOps0_29, List.flatten_cons, List.flatten_nil,
    List.append_nil, List.cons_append, List.nil_append]
  simp only [StableHlo.TRef.binary, StableHlo.TRef.ternary, StableHlo.TRef.unary, StableHlo.TRef.nullary, StableHlo.TRef.toBuf,
    StableHlo.TRef.ofBuf, cast_eq]
  after_results_simp
  after_results_loop

  pointwise
  rw [st4_c11]
  simp only [id_eq, constantI]
  rw [← evenW]
  simp only [sel_even, zero_word]
  unfold pk aux
  rfl

set_option maxRecDepth 65536 in
set_option maxHeartbeats 4000000 in
theorem st3_v33 (b : Fin 2) (r : Fin 8448) (h : Fin 8) (e : Fin 6) :
    st3 m c (Proc.tc.devRef main_v33) (ix4 b r h e) = (if he : e.val < 3 then (1 : EReal) else -part (padf (af m c) b r h) ⟨e.val - 3, by omega⟩) := by
  simp only [st3, hostOps0_9, hostOps0_10, hostOps0_11, hostOps0_12, hostOps0_13, hostOps0_14, hostOps0_15, List.flatten_cons, List.flatten_nil,
    List.append_nil, List.cons_append, List.nil_append]
  simp only [StableHlo.TRef.binary, StableHlo.TRef.ternary, StableHlo.TRef.unary, StableHlo.TRef.nullary, StableHlo.TRef.toBuf,
    StableHlo.TRef.ofBuf, cast_eq]
  after_results_simp
  after_results_loop
  pointwise
  split
  · exact st2_v18 m c b r h _
  · exact congrArg (fun x : EReal => -x) ((congrFun (st2_v17 m c) _).trans (st2b_v17 m c b r h _))

theorem q_at (b : Fin 2) (h : Fin 8) (r : Fin 8448) (l : Fin 128) : qA m c (ix4 b h r l)
    = pk h (fun e => padded (aq m c) b r h e * Ideal.ofBits .f32 0x3E000000#32)
        (aux 6 fun e => if he : e.val < 3 then part (padf (af m c) b r h) ⟨e.val, he⟩ else 1) l := by
  refine ((congrFun (V_eq m c main_v31) _).trans ((congrFun ((st5_v31 m c).trans (st4_v31 m c)) _).trans (st3_v31 m c b h r l))).trans ?_
  exact congrArg₂ (fun x y => pk h x y l) (funext fun e => st2_v20 m c b r h e) (congrArg (aux 6) (funext fun e => st2_v21 m c b r h e))

theorem k_at (b : Fin 2) (h : Fin 8) (r : Fin 8448) (l : Fin 128) : kA m c (ix4 b h r l)
    = pk h (padded (ak m c) b r h)
        (aux 6 fun e => if he : e.val < 3 then (1 : EReal) else -part (padf (af m c) b r h) ⟨e.val - 3, by omega⟩) l := by
  refine ((congrFun (V_eq m c main_v43) _).trans ((congrFun (st5_v43 m c) _).trans (st4_v43 m c b h r l))).trans ?_
  exact congrArg₂ (fun x y => pk h x y l)
    (funext fun e => (congrFun ((st3_v1 m c).trans (st2_v1 m c)) _).trans (st1_v1 m c b r h e))
    (congrArg (aux 6) (funext fun e => st3_v33 m c b r h e))

theorem v_at (b : Fin 2) (h : Fin 8) (d : Fin 128) (r : Fin 8448) : vA m c (ix4 b h d r)
    = pk h (padded (av m c) b r h) (aux 1 fun _ => 1) d := by
  refine ((congrFun (V_eq m c main_v55) _).trans (st5_v55 m c b h d r)).trans ?_
  exact congrArg₂ (fun x y => pk h x y d)
    (funext fun e => (congrFun ((st4_v2 m c).trans ((st3_v2 m c).trans (st2_v2 m c))) _).trans (st1_v2 m c b r h e))
    (congrArg (aux 1) (funext fun e => st4_v44 m c b r h e))

end Cert.KernelIdeal.Packed

end
-- ==== Proof.Score.lean ====
/- The kernel's scores and values as the arguments' numbers. -/
module

public import proofs.«01_k».proof.Proof.Packed
public import Idealize.ShloMosaic.Lib.IdealHost

@[expose] public section

noncomputable section

namespace Cert.KernelIdeal.Score

open Idealize.ShloMosaic
open Cert.KernelIdeal Cert.KernelIdeal.Gen Cert.KernelIdeal.Out Cert.KernelIdeal.Packed Cert.Softmax

/-- The constant that scales the scores. -/
abbrev c8 : EReal := Ideal.ofBits .f32 0x3E000000#32

theorem c8_real : ∃ x : ℝ, c8 = (x : EReal) := by
  unfold c8 Ideal.ofBits
  simp only [Ideal.ieee]
  norm_num
  exact ⟨_, rfl⟩

theorem sum_pk (h : Fin 8) (x y a a' : Fin 64 → EReal) :
    (∑ l : Fin 128, pk h x a l * pk h y a' l) = (∑ e, x e * y e) + ∑ e, a e * a' e := by
  rw [show (∑ l : Fin 128, pk h x a l * pk h y a' l) = ∑ l : Fin (64 + 64), pk h x a l * pk h y a' l from rfl, Fin.sum_univ_add]
  have h1 : ∀ (x a : Fin 64 → EReal) (e : Fin 64), pk h x a (Fin.castAdd 64 e) = if h.val % 2 = 0 then x e else a e := fun x a e => by
    unfold pk
    rw [dif_pos (show (Fin.castAdd 64 e).val < 64 from e.isLt)]
    rfl
  have h2 : ∀ (x a : Fin 64 → EReal) (e : Fin 64), pk h x a (Fin.natAdd 64 e) = if h.val % 2 = 0 then a e else x e := fun x a e => by
    unfold pk
    have hv : (Fin.natAdd 64 e).val = 64 + e.val := rfl
    rw [dif_neg (by rw [hv]; omega)]
    have he : (⟨(Fin.natAdd 64 e).val - 64, by omega⟩ : Fin 64) = e := Fin.ext (by simp)
    rw [he]
  simp only [h1, h2]
  split
  · rfl
  · exact add_comm _ _

theorem sum_aux (g g' : Fin 6 → EReal) : (∑ e : Fin 64, aux 6 g e * aux 6 g' e) = ∑ e, g e * g' e := by
  rw [show (∑ e : Fin 64, aux 6 g e * aux 6 g' e) = ∑ e : Fin (6 + 58), aux 6 g e * aux 6 g' e from rfl, Fin.sum_univ_add]
  have h1 : ∀ (g : Fin 6 → EReal) (e : Fin 6), aux 6 g (Fin.castAdd 58 e) = g e := fun g e => by
    unfold aux
    rw [dif_pos (show (Fin.castAdd 58 e).val < 6 from e.isLt)]
    rfl
  have h2 : ∀ (g : Fin 6 → EReal) (e : Fin 58), aux 6 g (Fin.natAdd 6 e) = 0 := fun g e => by
    unfold aux
    exact dif_neg (by have : (Fin.natAdd 6 e).val = 6 + e.val := rfl
                      rw [this]; omega)
  simp only [h1, h2, mul_zero, Finset.sum_const_zero, add_zero]

/-- The six extra products sum to the difference of two forget values. -/
theorem sum_parts (f g : ℝ) :
    (∑ e : Fin 6, (if he : e.val < 3 then (1 : EReal) else -part (g : EReal) ⟨e.val - 3, by omega⟩)
        * (if he : e.val < 3 then part (f : EReal) ⟨e.val, he⟩ else 1)) = (f : EReal) - (g : EReal) := by
  have h0 : ∀ x : ℝ, (x : EReal) - (x : EReal) = 0 := fun x => by rw [← EReal.coe_sub, sub_self, EReal.coe_zero]
  simp only [Fin.sum_univ_succ, Fin.sum_univ_zero, part]
  norm_num [h0]
  rw [sub_eq_add_neg]

variable (m : (ℓ : Loc nD τ sig) → Buf (Elt Ideal) ℓ) (c : Dev nD)

/-- The queries, keys and forget values are real numbers. -/
def Reals : Prop :=
  (∀ i, ∃ x : ℝ, aq m c i = (x : EReal)) ∧ (∀ i, ∃ x : ℝ, ak m c i = (x : EReal)) ∧ ∀ i, ∃ x : ℝ, af m c i = (x : EReal)

theorem padded_real {x : S2x8208x8x64.Idx → EReal} (hx : ∀ i, ∃ y : ℝ, x i = (y : EReal)) (b : Fin 2) (r : Fin 8448) (h : Fin 8) :
    ∃ y : Fin 64 → ℝ, ∀ e, padded x b r h e = (y e : EReal) := by
  choose y hy using hx
  refine ⟨fun e => if hr : r.val < 8208 then y (ix4 b ⟨r.val, hr⟩ h e) else 0, fun e => ?_⟩
  unfold padded
  split
  · exact hy _
  · rfl

theorem padf_real {x : S2x8208x8.Idx → EReal} (hx : ∀ i, ∃ y : ℝ, x i = (y : EReal)) (b : Fin 2) (r : Fin 8448) (h : Fin 8) :
    ∃ y : ℝ, padf x b r h = (y : EReal) := by
  unfold padf
  split
  · exact hx _
  · exact ⟨0, rfl⟩

/-- The score of key `j` for row `r`, from the padded arguments. -/
def score (b : Fin 2) (h : Fin 8) (r j : Fin 8448) : EReal :=
  (∑ e, padded (aq m c) b r h e * padded (ak m c) b j h e) * c8 + (padf (af m c) b r h - padf (af m c) b j h)

theorem score_both (hR : Reals m c) (b : Fin 2) (h : Fin 8) (r j : Fin 8448) :
    S m c b h r j.val = score m c b h r j ∧ ∃ x : ℝ, score m c b h r j = (x : EReal) := by
  obtain ⟨q, hq⟩ := padded_real hR.1 b r h
  obtain ⟨k, hk⟩ := padded_real hR.2.1 b j h
  obtain ⟨f, hf⟩ := padf_real hR.2.2 b r h
  obtain ⟨g, hg⟩ := padf_real hR.2.2 b j h
  obtain ⟨t, ht⟩ := c8_real
  have e2 : score m c b h r j = ((∑ e, q e * k e) * t + (f - g) : ℝ) := by
    unfold score
    simp only [hq, hk, hf, hg]
    rw [ht, EReal.coe_add, EReal.coe_mul, EReal.coe_sub, coe_sum]
    simp only [EReal.coe_mul]
  refine ⟨?_, _, e2⟩
  rw [e2]
  unfold S
  rw [dif_pos j.isLt]
  have e3 : ∀ l : Fin 128, kA m c (ix4 b h ⟨j.val, j.isLt⟩ l) * qA m c (ix4 b h r l)
      = pk h (fun e => (k e : EReal)) (aux 6 fun e => if he : e.val < 3 then (1 : EReal) else -part (g : EReal) ⟨e.val - 3, by omega⟩) l
        * pk h (fun e => (q e : EReal) * (t : EReal)) (aux 6 fun e => if he : e.val < 3 then part (f : EReal) ⟨e.val, he⟩ else 1) l := fun l => by
    rw [q_at, k_at]
    have := ht
    unfold c8 at this
    simp only [hf, hg, this, hq]
    rw [show padded (ak m c) b ⟨j.val, j.isLt⟩ h = fun e => (k e : EReal) from funext hk]
  rw [Finset.sum_congr rfl fun l _ => e3 l, sum_pk, sum_aux, sum_parts, EReal.coe_add, EReal.coe_sub]
  congr 1
  rw [Finset.sum_mul, coe_sum]
  refine Finset.sum_congr rfl fun e _ => ?_
  rw [← EReal.coe_mul, ← EReal.coe_mul]
  congr 1
  ring

theorem S_real (hR : Reals m c) (b : Fin 2) (h : Fin 8) (r : Fin 8448) (j : ℕ) : ∃ x : ℝ, S m c b h r j = (x : EReal) := by
  by_cases hj : j < 8448
  · obtain ⟨e, x, hx⟩ := score_both m c hR b h r ⟨j, hj⟩
    exact ⟨x, e.trans hx⟩
  · exact ⟨0, by unfold S; rw [dif_neg hj]; rfl⟩

theorem S_ne_top (hR : Reals m c) (b : Fin 2) (h : Fin 8) (r : Fin 8448) (j : ℕ) : S m c b h r j ≠ ⊤ := by
  obtain ⟨x, hx⟩ := S_real m c hR b h r j
  rw [hx]; exact EReal.coe_ne_top x

theorem S_ne_bot (hR : Reals m c) (b : Fin 2) (h : Fin 8) (r : Fin 8448) (j : ℕ) : S m c b h r j ≠ ⊥ := by
  obtain ⟨x, hx⟩ := S_real m c hR b h r j
  rw [hx]; exact EReal.coe_ne_bot x

theorem below (hR : Reals m c) : Below m c := fun b h r j => S_ne_top m c hR b h r j

/-- Head `h`'s value lane `e` of key `j`. -/
def val (b : Fin 2) (h : Fin 8) (e : Fin 64) (j : ℕ) : EReal := if hj : j < 8448 then padded (av m c) b ⟨j, hj⟩ h e else 0

theorem W_eq (b : Fin 2) (h : Fin 8) (d : Fin 128) (j : ℕ) (hj : j < 8448) :
    W m c b h d j = pk h (padded (av m c) b ⟨j, hj⟩ h) (aux 1 fun _ => 1) d := by
  unfold W
  rw [dif_pos hj, v_at]

/-- The output at a row and a column: head `l / 64`'s weighted mean of value lane `l % 64`. -/
theorem G_eq (b : Fin 2) (r : Fin 8448) (l : Fin 512) :
    G m c b r l = Ideal.div (mix (S m c b ⟨l.val / 64, by omega⟩ r) (val m c b ⟨l.val / 64, by omega⟩ ⟨l.val % 64, by omega⟩) (r.val + 1)
          (peak (S m c b ⟨l.val / 64, by omega⟩ r) (r.val + 1)))
        (mix (S m c b ⟨l.val / 64, by omega⟩ r) (fun _ => 1) (r.val + 1) (peak (S m c b ⟨l.val / 64, by omega⟩ r) (r.val + 1))) := by
  have hr := r.isLt
  unfold G
  split
  · rename_i hl
    have eh : headE l = ⟨l.val / 64, by omega⟩ := Fin.ext (by show 2 * (l.val / 128) = l.val / 64; omega)
    rw [eh]
    unfold acc
    have ev : (⟨l.val / 64, by omega⟩ : Fin 8).val % 2 = 0 := by show l.val / 64 % 2 = 0; omega
    congr 1
    · refine mix_congr (fun _ _ => rfl) fun j hj => ?_
      rw [W_eq m c b _ _ j (by omega)]
      unfold pk val
      rw [dif_pos (show (lane l).val < 64 from hl), if_pos ev, dif_pos (show j < 8448 by omega)]
      congr 1
      exact Fin.ext (by show l.val % 128 = l.val % 64; omega)
    · refine mix_congr (fun _ _ => rfl) fun j hj => ?_
      rw [W_eq m c b _ _ j (by omega)]
      unfold pk
      rw [dif_neg (by decide), if_pos ev]
      rfl
  · rename_i hl
    have eh : headO l = ⟨l.val / 64, by omega⟩ := Fin.ext (by show 2 * (l.val / 128) + 1 = l.val / 64; omega)
    rw [eh]
    unfold acc
    have ev : ¬(⟨l.val / 64, by omega⟩ : Fin 8).val % 2 = 0 := by show ¬l.val / 64 % 2 = 0; omega
    congr 1
    · refine mix_congr (fun _ _ => rfl) fun j hj => ?_
      rw [W_eq m c b _ _ j (by omega)]
      unfold pk val
      rw [dif_neg (show ¬(lane l).val < 64 from hl), if_neg ev, dif_pos (show j < 8448 by omega)]
      congr 1
      exact Fin.ext (by show l.val % 128 - 64 = l.val % 64; omega)
    · refine mix_congr (fun _ _ => rfl) fun j hj => ?_
      rw [W_eq m c b _ _ j (by omega)]
      unfold pk
      rw [dif_pos (by decide), if_neg ev]
      rfl

end Cert.KernelIdeal.Score

end
-- ==== Proof.Ref.lean ====
/- The reference's result read at an index. -/
module

public import proofs.«01_k».proof.Proof.Gen.ReferenceIdeal.Run
public import proofs.«01_k».proof.Proof.Softmax
public import Idealize.ShloMosaic.Lib.IdealHost
public import Idealize.ShloMosaic.Lib.Pointwise
public import Idealize.ShloMosaic.Lib.WordCmp

@[expose] public section

noncomputable section

namespace Cert.ReferenceIdeal.Result

open Idealize.ShloMosaic
open Cert.ReferenceIdeal Cert.ReferenceIdeal.Gen Cert.ReferenceIdeal.Value Cert.Softmax

variable (m : (ℓ : Loc nD τ sig) → Buf (Elt Ideal) ℓ) (c : Dev nD)

/-- The arguments. -/
abbrev rq : S2x8208x8x64.Idx → EReal := m ((c.tc : Thread nD τ).loc main_arg0)
abbrev rk : S2x8208x8x64.Idx → EReal := m ((c.tc : Thread nD τ).loc main_arg1)
abbrev rv : S2x8208x8x64.Idx → EReal := m ((c.tc : Thread nD τ).loc main_arg2)
abbrev rf : S2x8208x8.Idx → EReal := m ((c.tc : Thread nD τ).loc main_arg3)

/-- The reference's score of key `j` for row `r`. -/
def rscore (b : Fin 2) (h : Fin 8) (r j : Fin 8208) : EReal :=
  (∑ e, rq m c (ix4 b r h e) * rk m c (ix4 b j h e)) * Ideal.ofBits .f32 0x3E000000#32
    + (rf m c (ix3 b r h) - rf m c (ix3 b j h))

theorem lowest : Ideal.ofBits FTy.f32 4286578688#32 = ⊥ := by simp [Ideal.ofBits, Ideal.ieee]

theorem causal (a b : Fin 8208) (x : EReal) :
    Scalar.select (IntOp.cmpi CmpIPredicate.sle (BitVec.ofNat 32 a.val) (BitVec.ofNat 32 b.val)) x
      (id (constant (F := Ideal) S_ FTy.f32 4286578688#32) ix0 : EReal) = if a.val ≤ b.val then x else ⊥ := by
  rw [show (id (constant (F := Ideal) S_ FTy.f32 4286578688#32) ix0 : EReal) = ⊥ from lowest]
  unfold Scalar.select
  refine if_congr ?_ rfl rfl
  exact WordCmp.cmpi_sle_ofNat_eq_one_iff (w := 32) (by omega) (by omega)

/-- The reference's arrays by name: the masked scores, their row maxima, the weights, the weights' sums, the divided
    weights and the result. -/
def scT (q k : FVec Ideal S2x8208x8x64 .f32) (f : FVec Ideal S2x8208x8 .f32) : FVec Ideal S2x8x8208x8208 .f32 :=
  select (broadcastInDim S2x8x8208x8208 ![2, 3] bcast_S8208x8208_S2x8x8208x8208_2_3 (cmpi .sle (broadcastInDim S8208x8208 ![0, 1]
    bcast_S1x8208_S8208x8208_0_1 (broadcastInDim S1x8208 ![1] bcast_S8208_S1x8208_1 (iotaInDim S8208 32 0))) (broadcastInDim S8208x8208 ![0, 1]
    bcast_S8208x1_S8208x8208_0_1 (broadcastInDim S8208x1 ![0] bcast_S8208_S8208x1_0 (iotaInDim S8208 32 0))))) (addf (mulf (Host.dotGeneral
    dot_S2x8208x8x64_S2x8208x8x64_S2x8x8208x8208_3_3_1_1_02_02 none q k) (broadcastInDim S2x8x8208x8208 ![] bcast_S_S2x8x8208x8208 (constant S_
    .f32 0x3E000000#32))) (subf (broadcastInDim S2x8x8208x8208 ![0, 1, 2, 3] bcast_S2x8x8208x1_S2x8x8208x8208_0_1_2_3 (broadcastInDim
    S2x8x8208x1 ![0, 1, 2] bcast_S2x8x8208_S2x8x8208x1_0_1_2 (transpose S2x8x8208 [0, 2, 1] f transposes_S2x8208x8_S2x8x8208_0_2_1)))
    (broadcastInDim S2x8x8208x8208 ![0, 1, 2, 3] bcast_S2x8x1x8208_S2x8x8208x8208_0_1_2_3 (broadcastInDim S2x8x1x8208 ![0, 1, 3]
    bcast_S2x8x8208_S2x8x1x8208_0_1_3 (transpose S2x8x8208 [0, 2, 1] f transposes_S2x8208x8_S2x8x8208_0_2_1))))) (broadcastInDim S2x8x8208x8208
    ![] bcast_S_S2x8x8208x8208 (id (constant S_ .f32 0xFF800000#32)))
def mxT (s : FVec Ideal S2x8x8208x8208 .f32) : FVec Ideal S2x8x8208 .f32 :=
  maximumf (broadcastInDim S2x8x8208 ![] bcast_S_S2x8x8208 (constant S_ .f32 0xFF800000#32)) (Host.reduce FloatOps.maximumf s (constant S_
    .f32 0xFF800000#32) reducesTo_S2x8x8208x8208_S2x8x8208_d3 h_S_)
def exT (s : FVec Ideal S2x8x8208x8208 .f32) : FVec Ideal S2x8x8208x8208 .f32 :=
  Host.exp (subf s (broadcastInDim S2x8x8208x8208 ![0, 1, 2, 3] bcast_S2x8x8208x1_S2x8x8208x8208_0_1_2_3 (broadcastInDim S2x8x8208x1 ![0, 1,
    2] bcast_S2x8x8208_S2x8x8208x1_0_1_2 (mxT s))))
def smT (e : FVec Ideal S2x8x8208x8208 .f32) : FVec Ideal S2x8x8208 .f32 :=
  Host.reduceAdd e (constant S_ .f32 0x00000000#32) reducesTo_S2x8x8208x8208_S2x8x8208_d3 h_S_
def pT (e : FVec Ideal S2x8x8208x8208 .f32) : FVec Ideal S2x8x8208x8208 .f32 :=
  Host.divf e (broadcastInDim S2x8x8208x8208 ![0, 1, 2, 3] bcast_S2x8x8208x1_S2x8x8208x8208_0_1_2_3 (broadcastInDim S2x8x8208x1 ![0, 1, 2]
    bcast_S2x8x8208_S2x8x8208x1_0_1_2 (smT e)))
def outT (v : FVec Ideal S2x8208x8x64 .f32) (p : FVec Ideal S2x8x8208x8208 .f32) : FVec Ideal S2x8448x512 .bf16 :=
  truncf .bf16 (pad S2x8448x512 ![0, 0, 0] ![0, 240, 0] ![0, 0, 0] (shapeCast _ (transpose S2x8208x8x64 [0, 3, 1, 2] (Host.dotGeneral
    dot_S2x8208x8x64_S2x8x8208x8208_S2x8x64x8208_1_3_3_2_02_01 none v p) transposes_S2x8x64x8208_S2x8208x8x64_0_3_1_2)
    shapeCasts_S2x8208x8x64_S2x8208x512) (sitofp .f32 (constantI S_ 32 0#32)) pads_S2x8208x512_S2x8448x512_000_02400_000 h_S_) bitsLt_bf16_f32

theorem res_stages : res_out0 m c = outT (rv m c) (pT (exT (scT (rq m c) (rk m c) (rf m c)))) := rfl

set_option maxRecDepth 65536
set_option maxHeartbeats 4000000

theorem max_apply {t : Shape} (x y : FVec Ideal t .f32) (i : t.Idx) : (maximumf x y i : EReal) = max (x i : EReal) (y i) := rfl

theorem fill_apply {t : Shape} (h : S_.BroadcastsInDim t (![] : Fin 0 → Fin t.rank)) (w : BitVec 32) (i : t.Idx) :
    (broadcastInDim t ![] h (constant (F := Ideal) S_ .f32 w) i : EReal) = Ideal.ofBits .f32 w := rfl

/-- The greatest of a row, at any sizes. -/
theorem rows_max {n0 n1 n2 n3 : ℕ} {u : Shape} (s : (⟨4, ![n0, n1, n2, n3]⟩ : Shape).Idx → EReal) (w : u.Idx → EReal)
    (h : (⟨4, ![n0, n1, n2, n3]⟩ : Shape).ReducesTo [3] ⟨3, ![n0, n1, n2]⟩) (hu : 0 < u.numel) (hw : w (Shape.Idx.first hu) = ⊥)
    (i0 : Fin n0) (i1 : Fin n1) (i2 : Fin n2) :
    Host.reduce (FloatOps.maximumf (F := Ideal) (φ := .f32)) s w h hu (ix3 i0 i1 i2)
      = Finset.univ.fold max ⊥ fun y : Fin n3 => s (ix4 i0 i1 i2 y) := by
  rw [Host.reduce_eq_fold, Shape.ReducesTo.fold_fiber_r4_a3]
  rw [hw]
  rfl

theorem scT_at (q k : S2x8208x8x64.Idx → EReal) (f : S2x8208x8.Idx → EReal) (b : Fin 2) (h : Fin 8) (r j : Fin 8208) :
    (scT q k f (ix4 b h r j) : EReal) = if j.val ≤ r.val then
      (∑ e : Fin 64, q (ix4 b r h e) * k (ix4 b j h e)) * Ideal.ofBits .f32 0x3E000000#32 + (f (ix3 b r h) - f (ix3 b j h)) else ⊥ := by
  rw [← causal j r]
  unfold scT
  pointwise

theorem mxT_at (s : S2x8x8208x8208.Idx → EReal) (b : Fin 2) (h : Fin 8) (r : Fin 8208) :
    (mxT s (ix3 b h r) : EReal) = max ⊥ (Finset.univ.fold max ⊥ fun y : Fin 8208 => s (ix4 b h r y)) := by
  unfold mxT
  rw [max_apply, fill_apply, lowest]
  exact congrArg (max ⊥) (rows_max s _ _ _ lowest b h r)

theorem exT_at (s : S2x8x8208x8208.Idx → EReal) (b : Fin 2) (h : Fin 8) (r j : Fin 8208) :
    (exT s (ix4 b h r j) : EReal) = Ideal.exp (s (ix4 b h r j) - (mxT s (ix3 b h r) : EReal)) := by
  unfold exT
  generalize mxT s = t
  pointwise

theorem smT_at (e : S2x8x8208x8208.Idx → EReal) (b : Fin 2) (h : Fin 8) (r : Fin 8208) :
    (smT e (ix3 b h r) : EReal) = ∑ y : Fin 8208, e (ix4 b h r y) := by
  unfold smT
  pointwise

theorem pT_at (e : S2x8x8208x8208.Idx → EReal) (b : Fin 2) (h : Fin 8) (r j : Fin 8208) :
    (pT e (ix4 b h r j) : EReal) = Ideal.div (e (ix4 b h r j)) (smT e (ix3 b h r) : EReal) := by
  unfold pT
  generalize smT e = t
  pointwise

theorem outT_at (v : S2x8208x8x64.Idx → EReal) (p : S2x8x8208x8208.Idx → EReal) (b : Fin 2) (r : Fin 8448) (hr : r.val < 8208) (l : Fin 512) :
    (outT v p (ix3 b r l) : EReal) = ∑ x : Fin 8208, v (ix4 b x ⟨l.val / 64, by omega⟩ ⟨l.val % 64, by omega⟩)
      * p (ix4 b ⟨l.val / 64, by omega⟩ ⟨r.val, hr⟩ x) := by
  unfold outT
  pointwise
  rw [dif_pos hr]

theorem peak_fin (s : ℕ → EReal) (n : ℕ) : max ⊥ (Finset.univ.fold max ⊥ fun j : Fin n => s j.val) = peak s n := by
  have h := peak_add s 0 n
  rw [peak_zero] at h
  simp only [Nat.zero_add] at h
  exact h.symm

/-- The reference's result through scores and values numbered by the naturals. -/
theorem res_mean (b : Fin 2) (r : Fin 8448) (hr : r.val < 8208) (l : Fin 512) (s v : ℕ → EReal)
    (hs : ∀ x : Fin 8208, s x.val = rscore m c b ⟨l.val / 64, by omega⟩ ⟨r.val, hr⟩ x)
    (hv : ∀ x : Fin 8208, v x.val = rv m c (ix4 b x ⟨l.val / 64, by omega⟩ ⟨l.val % 64, by omega⟩))
    (ht : ∀ k, s k ≠ ⊤) (hb : ∀ k, s k ≠ ⊥) :
    (outT (rv m c) (pT (exT (scT (rq m c) (rk m c) (rf m c)))) (ix3 b r l) : EReal)
      = Ideal.div (mix s v (r.val + 1) (peak s (r.val + 1))) (mix s (fun _ => 1) (r.val + 1) (peak s (r.val + 1))) := by
  rw [outT_at _ _ b r hr l, mean_eq s v r.val ht hb]
  have e1 : ∀ x : Fin 8208, (scT (rq m c) (rk m c) (rf m c) (ix4 b ⟨l.val / 64, by omega⟩ ⟨r.val, hr⟩ x) : EReal) = upTo s r.val x.val := fun x => by
    rw [scT_at]
    unfold upTo
    rw [hs x]
    rfl
  generalize scT (rq m c) (rk m c) (rf m c) = sT at e1 ⊢
  have e2 : (mxT sT (ix3 b ⟨l.val / 64, by omega⟩ ⟨r.val, hr⟩) : EReal) = peak s (r.val + 1) := by
    rw [mxT_at, ← peak_upTo s hr, ← peak_fin]
    exact congrArg (max ⊥) (congrArg (fun g => Finset.fold max ⊥ g Finset.univ) (funext e1))
  generalize hM : peak s (r.val + 1) = M at e2 ⊢
  have e4 : ∀ x : Fin 8208, (exT sT (ix4 b ⟨l.val / 64, by omega⟩ ⟨r.val, hr⟩ x) : EReal) = Ideal.exp (upTo s r.val x.val - M) := fun x => by
    rw [exT_at, e1, e2]
  generalize exT sT = eT at e4 ⊢
  have e3 : (smT eT (ix3 b ⟨l.val / 64, by omega⟩ ⟨r.val, hr⟩) : EReal) = mix s (fun _ => 1) (r.val + 1) M := by
    rw [smT_at, ← mix_upTo s _ M hr]
    unfold mix
    simp only [mul_one]
    rw [Finset.sum_congr rfl fun x _ => e4 x]
    exact Fin.sum_univ_eq_sum_range (fun j => Ideal.exp (upTo s r.val j - M)) 8208
  obtain ⟨lr, hl, hle⟩ := mix_one_pos s r.val ht hb
  rw [hM] at hle
  rw [hle] at e3 ⊢
  have hd : ∀ x : EReal, Ideal.div x (lr : EReal) = x * ((lr : EReal))⁻¹ := fun x => by
    unfold Ideal.div
    have h0 : (lr : EReal) ≠ 0 := by exact_mod_cast hl.ne'
    exact if_neg h0
  simp only [hd]
  have e5 : ∀ x : Fin 8208, (rv m c (ix4 b x ⟨l.val / 64, by omega⟩ ⟨l.val % 64, by omega⟩) : EReal)
      * (pT eT (ix4 b ⟨l.val / 64, by omega⟩ ⟨r.val, hr⟩ x) : EReal) = v x.val * (Ideal.exp (upTo s r.val x.val - M) * ((lr : EReal))⁻¹) := fun x => by
    rw [pT_at, e3, e4, hd, hv]
  rw [Finset.sum_congr rfl fun x _ => e5 x]
  rw [Fin.sum_univ_eq_sum_range (fun j => v j * (Ideal.exp (upTo s r.val j - M) * ((lr : EReal))⁻¹)) 8208]
  obtain ⟨d, hd'⟩ : ∃ d, 8208 = (r.val + 1) + d := ⟨8208 - (r.val + 1), by omega⟩
  rw [hd', Finset.sum_range_add, Finset.sum_eq_zero (s := Finset.range d), add_zero]
  · refine Finset.sum_congr rfl fun k hk => ?_
    have hk' : k ≤ r.val := by have := Finset.mem_range.mp hk; omega
    unfold upTo
    rw [if_pos hk', mul_comm]
  · intro j _
    unfold upTo
    rw [if_neg (by omega), bot_sub', Ideal.exp_bot, zero_mul, mul_zero]

end Cert.ReferenceIdeal.Result

end
-- ==== Proof.Equal.lean ====
/- The kernel's output and the reference's result agree on the real rows. -/
module

public import proofs.«01_k».proof.Defs
public import proofs.«01_k».proof.Proof.Score
public import proofs.«01_k».proof.Proof.Ref
public import Idealize.ShloMosaic.Lib.ReduceAll

@[expose] public section

noncomputable section

namespace Cert.Equal

open Idealize.ShloMosaic
open Cert.KernelIdeal.Out Cert.KernelIdeal.Packed Cert.KernelIdeal.Score Cert.ReferenceIdeal.Result Cert.ReferenceIdeal.Value

/-- The side conditions of the precondition and of the mask. -/
theorem pre_facts : Cert.Pre_finite.Facts where
  bcast_S_S2x8208x8x64 := by decide
  reducesTo_S2x8208x8x64_S_d0_1_2_3 := by decide
  h_S_ := by decide
  bcast_S_S2x8208x8 := by decide
  reducesTo_S2x8208x8_S_d0_1_2 := by decide

theorem on_facts : Cert.On_real_rows.Facts where
  bcast_S_S2x8448x512 := by decide

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem equal (h0 : rq m' c = aq m c) (h1 : rk m' c = ak m c) (h2 : rv m' c = av m c) (h3 : rf m' c = af m c) (hR : Reals m c)
    (b : Fin 2) (r : Fin 8448) (hr : r.val < 8208) (l : Fin 512) :
    G m c b r l = (outT (rv m' c) (pT (exT (scT (rq m' c) (rk m' c) (rf m' c)))) (ix3 b r l) : EReal) := by
  rw [G_eq]
  refine (res_mean m' c b r hr l _ _ (fun x => ?_) (fun x => ?_) (S_ne_top m c hR b _ r) (S_ne_bot m c hR b _ r)).symm
  · have hx := x.isLt
    refine (score_both m c hR b _ r ⟨x.val, by omega⟩).1.trans ?_
    unfold score rscore padded padf
    simp only [dif_pos hr, dif_pos x.isLt]
    rw [h0, h1, h3]
  · have hx := x.isLt
    unfold val padded
    rw [dif_pos (show x.val < 8448 by omega), dif_pos hx, h2]

end

theorem real_of_lt (x : EReal) (h : FloatOps.cmpf (F := Ideal) (φ := .f32) .olt (FloatOps.absf (F := Ideal) (φ := .f32) x) (Ideal.ofBits .f32 0x7F800000#32) = 1#1) :
    ∃ y : ℝ, x = (y : EReal) := by
  have ht : Ideal.ofBits .f32 0x7F800000#32 = ⊤ := by simp [Ideal.ofBits, Ideal.ieee]
  rw [ht] at h
  have h' : max x (-x) < ⊤ := by
    by_contra hc
    have : Ideal.cmp .olt (max x (-x)) ⊤ = 1#1 := h
    unfold Ideal.cmp at this
    simp [hc] at this
  induction x with
  | bot => simp at h'
  | top => simp at h'
  | coe y => exact ⟨y, rfl⟩

theorem reals_of_pre (m : (ℓ : Loc Cert.KernelIdeal.nD Cert.KernelIdeal.τ Cert.KernelIdeal.sig) → Buf (Elt Ideal) ℓ)
    (h : Pre_KernelIdeal_finite (hPre_finite := pre_facts) m) (c : Dev Cert.KernelIdeal.nD) : Reals m c := by
  have e := congrFun (h c) ix0
  dsimp only [Cert.Pre_finite.fn] at e
  have e' : IntOp.andi (IntOp.andi _ _) _ = 1#1 := e
  obtain ⟨e12, e3⟩ := IntOp.andi_eq_one.1 e'
  obtain ⟨e1, e2⟩ := IntOp.andi_eq_one.1 e12
  haveI : Subsingleton Cert.Pre_finite.S_.Idx := ⟨fun a b => funext fun i => i.elim0⟩
  exact ⟨fun i => real_of_lt _ (Host.reduce_andi_all _ _ _ _ _ e1 i), fun i => real_of_lt _ (Host.reduce_andi_all _ _ _ _ _ e2 i),
    fun i => real_of_lt _ (Host.reduce_andi_all _ _ _ _ _ e3 i)⟩

theorem row_of_on [Cert.On_real_rows.Facts] {F : FTy → Type} [FloatOps F] (q k v : FVec F Cert.On_real_rows.S2x8208x8x64 .f32) (f : FVec F Cert.On_real_rows.S2x8208x8 .f32)
    (b : Fin 2) (r : Fin 8448) (l : Fin 512)
    (h : Cert.On_real_rows.fn (F := F) q k v f (ix3 b r l) = 1#1) : r.val < 8208 := by
  have h' : IntOp.cmpi .slt (BitVec.ofNat 32 r.val) (BitVec.ofNat 32 8208) = 1#1 := h
  exact (WordCmp.cmpi_slt_ofNat_eq_one_iff (w := 32) (by omega) (by omega)).1 h'

end Cert.Equal

end
-- ==== Proof.KernelRunA.lean ====
/- The kernel's body with numbers as the machine holds them, run at an even query tile; nothing is said of what it stores. -/
module

public import proofs.«01_k».proof.Proof.Gen.Kernel.Frame.Runs

@[expose] public section

set_option maxRecDepth 16384

noncomputable section

namespace Cert.Kernel.Body

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body is lent and gives back: the operands' blocks at their contents, the output's block and the scratch buffers at any. -/
def Lent (c : Dev nD) (arg3 : Memref sig .tc .vmem S1x2x768x128 .bf16) (arg4 : Memref sig .tc .vmem S1x2x8448x128 .bf16) (arg5 : Memref sig .tc .vmem S1x2x128x8448 .bf16) (arg6 : Memref sig .tc .vmem S1x768x128 .bf16) (arg7 : Memref sig .tc .vmem S2x768x768 .f32) (arg8 : Memref sig .tc .vmem S2x768x768 .f32) (arg9 : Memref sig .tc .vmem S2x1x768 .f32) (arg10 : Memref sig .tc .vmem S2x128x768 .f32)
    (x0 : Vec F S1x2x768x128 .bf16) (x1 : Vec F S1x2x8448x128 .bf16) (x2 : Vec F S1x2x128x8448 .bf16) : sProp 𝕄 :=
  iprop(owns (c : Thread nD τ) arg3 fullShare x0 ∗ owns (c : Thread nD τ) arg4 fullShare x1 ∗ owns (c : Thread nD τ) arg5 fullShare x2
      ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d))

set_option maxHeartbeats 2000000 in
/-- The body at an even query tile gives back what it was lent. -/
theorem runA (c : Dev nD) (i : grid0.Coords) (arg3 : Memref sig .tc .vmem S1x2x768x128 .bf16) (harg3 : arg3.IsWhole) (arg4 : Memref sig .tc .vmem S1x2x8448x128 .bf16) (harg4 : arg4.IsWhole) (arg5 : Memref sig .tc .vmem S1x2x128x8448 .bf16) (harg5 : arg5.IsWhole) (arg6 : Memref sig .tc .vmem S1x768x128 .bf16) (harg6 : arg6.IsWhole) (arg7 : Memref sig .tc .vmem S2x768x768 .f32) (harg7 : arg7.IsWhole) (arg8 : Memref sig .tc .vmem S2x768x768 .f32) (harg8 : arg8.IsWhole) (arg9 : Memref sig .tc .vmem S2x1x768 .f32) (harg9 : arg9.IsWhole) (arg10 : Memref sig .tc .vmem S2x128x768 .f32) (harg10 : arg10.IsWhole) (hc0 : cond0_0 i) (hc1 : ¬cond0_1 i)
    (x0 : Vec F S1x2x768x128 .bf16) (x1 : Vec F S1x2x8448x128 .bf16) (x2 : Vec F S1x2x128x8448 .bf16) (E : Set ℕ) (K : PUnit → sProp 𝕄) :
    iprop(Lent c arg3 arg4 arg5 arg6 arg7 arg8 arg9 arg10 x0 x1 x2 ∗ (Lent c arg3 arg4 arg5 arg6 arg7 arg8 arg9 arg10 x0 x1 x2 -∗ K ⟨⟩))
      ⊢ wp frame (wpE (defs₀ (F := F)) Variants.none c none) E (cc0_prompt_attn i arg3 harg3 arg4 harg4 arg5 harg5 arg6 harg6 arg7 harg7 arg8 harg8 arg9 harg9 arg10 harg10) K := by
  simp only [cc0_prompt_attn_eq_skeleton]; unfold cc0_prompt_attn_skel
  simp only [k0_part25_eq_skeleton, k0_part26_eq_skeleton, k0_part16_eq_skeleton, k0_part11_eq_skeleton, k0_part12_eq_skeleton, k0_part13_eq_skeleton, k0_part14_eq_skeleton, k0_part15_eq_skeleton]
  unfold Lent owns
  iintro ⟨⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩⟩, Hk⟩
  obtain rfl := harg3.eq_unread hf0; obtain rfl := harg4.eq_unread hf1; obtain rfl := harg5.eq_unread hf2
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

end Cert.Kernel.Body

end
-- ==== Proof.KernelRunB.lean ====
/- The kernel's body with numbers as the machine holds them, run at an odd query tile; nothing is said of what it stores. -/
module

public import proofs.«01_k».proof.Proof.KernelRunA

@[expose] public section

set_option maxRecDepth 16384

noncomputable section

namespace Cert.Kernel.Body

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- The body at an odd query tile gives back what it was lent. -/
theorem runB (c : Dev nD) (i : grid0.Coords) (arg3 : Memref sig .tc .vmem S1x2x768x128 .bf16) (harg3 : arg3.IsWhole) (arg4 : Memref sig .tc .vmem S1x2x8448x128 .bf16) (harg4 : arg4.IsWhole) (arg5 : Memref sig .tc .vmem S1x2x128x8448 .bf16) (harg5 : arg5.IsWhole) (arg6 : Memref sig .tc .vmem S1x768x128 .bf16) (harg6 : arg6.IsWhole) (arg7 : Memref sig .tc .vmem S2x768x768 .f32) (harg7 : arg7.IsWhole) (arg8 : Memref sig .tc .vmem S2x768x768 .f32) (harg8 : arg8.IsWhole) (arg9 : Memref sig .tc .vmem S2x1x768 .f32) (harg9 : arg9.IsWhole) (arg10 : Memref sig .tc .vmem S2x128x768 .f32) (harg10 : arg10.IsWhole) (hc0 : ¬cond0_0 i) (hc1 : cond0_1 i)
    (x0 : Vec F S1x2x768x128 .bf16) (x1 : Vec F S1x2x8448x128 .bf16) (x2 : Vec F S1x2x128x8448 .bf16) (E : Set ℕ) (K : PUnit → sProp 𝕄) :
    iprop(Lent c arg3 arg4 arg5 arg6 arg7 arg8 arg9 arg10 x0 x1 x2 ∗ (Lent c arg3 arg4 arg5 arg6 arg7 arg8 arg9 arg10 x0 x1 x2 -∗ K ⟨⟩))
      ⊢ wp frame (wpE (defs₀ (F := F)) Variants.none c none) E (cc0_prompt_attn i arg3 harg3 arg4 harg4 arg5 harg5 arg6 harg6 arg7 harg7 arg8 harg8 arg9 harg9 arg10 harg10) K := by
  simp only [cc0_prompt_attn_eq_skeleton]; unfold cc0_prompt_attn_skel
  simp only [k0_part25_eq_skeleton, k0_part26_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold Lent owns
  iintro ⟨⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩⟩, Hk⟩
  obtain rfl := harg3.eq_unread hf0; obtain rfl := harg4.eq_unread hf1; obtain rfl := harg5.eq_unread hf2
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

end Cert.Kernel.Body

end
-- ==== Proof.KernelFrame.lean ====
/- The kernel's run with numbers as the machine holds them: the arguments end as they began and every counter ends at zero. -/
module

public import proofs.«01_k».proof.Proof.KernelRunB
public import Idealize.ShloMosaic.Lib.Claim
public import Idealize.ShloMosaic.Lib.Pipeline.DatRel
public import Idealize.ShloMosaic.Lib.Pipeline.ArrRel

@[expose] public section

set_option maxRecDepth 16384

noncomputable section

namespace Cert.Kernel.Body

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Nothing is said of the output's window. -/
def unsaid : Fin 4 → Bool := fun w => w.val == 3

/-- The pipeline's data: inputs stay at their blocks. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dat m c).A w = V m c (Pipeline.arrRef spec0 w) := by dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d

/-- What the body finds at point `t`. -/
def found (c : Dev nD) (t : Fin cfg0.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare d))

/-- What it leaves. -/
def left (c : Dev nD) (t : Fin cfg0.N) : sProp 𝕄 :=
  iprop((dat m c).Φ t.succ ∗ (dat m c).owesAt () t.succ
    ∗ owns (c : Thread nD τ) (ms0_0 t) fullShare ((dat m c).after 0 t)
    ∗ owns (c : Thread nD τ) (ms0_1 t) fullShare ((dat m c).after 1 t)
    ∗ owns (c : Thread nD τ) (ms0_2 t) fullShare ((dat m c).after 2 t)
    ∗ (∃ d, owns (c : Thread nD τ) (ms0_3 t) fullShare d))

set_option maxHeartbeats 1600000 in
theorem sound (c : Dev nD) (t : Fin cfg0.N) :
    found m c t ⊢ wp frame (wpE (defs₀ (F := F)) Variants.none c none) Set.univ (bodyAt0 t) (fun _ => left m c t) := by
  unfold found left bodyAt0
  simp only [before_0, before_1, before_2]
  rw [show (dat m c).Φ t.succ = (dat m c).Φ t.castSucc from rfl,
    show (dat m c).owesAt () t.succ = (dat m c).owesAt () t.castSucc from rfl, after_0, after_1, after_2]
  rw [show (dat m c).Φ t.castSucc = Pipeline.ΦA spec0 c from rfl, PhiA0_eq]
  by_cases h : t.val % 11 = 1 ∨ t.val % 11 = 3 ∨ t.val % 11 = 5 ∨ t.val % 11 = 7 ∨ t.val % 11 = 9
  · iintro ⟨⟨⟨HS0, HS1, HS2, HS3⟩, Hg⟩, Ho, ⟨%d0, H0⟩, ⟨%d1, H1⟩, ⟨%d2, H2⟩, ⟨%d3, H3⟩⟩
    iapply (runB c (grid0.coords t) _ (hs0_0 t) _ (hs0_1 t) _ (hs0_2 t) _ (hs0_3 t) _ (Memref.isWhole_whole _) _ (Memref.isWhole_whole _) _ (Memref.isWhole_whole _) _ (Memref.isWhole_whole _) (fun h' => (hcond0_0 t).mp h' h) ((hcond0_1 t).mpr h) (iblk m c 0 t) (iblk m c 1 t) (iblk m c 2 t) Set.univ _)
    unfold Lent
    isplitl [H0 H1 H2 H3 HS0 HS1 HS2 HS3]
    · isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iexact HS3
    iintro ⟨H0, H1, H2, H3, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    iexact H3
  · iintro ⟨⟨⟨HS0, HS1, HS2, HS3⟩, Hg⟩, Ho, ⟨%d0, H0⟩, ⟨%d1, H1⟩, ⟨%d2, H2⟩, ⟨%d3, H3⟩⟩
    iapply (runA c (grid0.coords t) _ (hs0_0 t) _ (hs0_1 t) _ (hs0_2 t) _ (hs0_3 t) _ (Memref.isWhole_whole _) _ (Memref.isWhole_whole _) _ (Memref.isWhole_whole _) _ (Memref.isWhole_whole _) ((hcond0_0 t).mpr h) (fun h' => h ((hcond0_1 t).mp h')) (iblk m c 0 t) (iblk m c 1 t) (iblk m c 2 t) Set.univ _)
    unfold Lent
    isplitl [H0 H1 H2 H3 HS0 HS1 HS2 HS3]
    · isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iexact HS3
    iintro ⟨H0, H1, H2, H3, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    iexact H3

theorem row (t : Fin cfg0.N) : defs₀ (F := F) .tc cfg0.body (cfg0.bodyArgs t (cfg0.slots t)) = bodyAt0 t := by
  unfold defs₀; rw [Defs.onTc_tc]

theorem obligation (c : Dev nD) :
    Pipeline.BodyObligation (dat (F := F) m c) (defs₀ (F := F)) Variants.none () Set.univ unsaid := fun t => by
  rw [bigSep_W0, bigSep_W0, row]
  exact triple_restated (sound m c t) rfl .rfl fun _ => .rfl

set_option backward.isDefEq.respectTransparency.types false in
/-- The run of the whole call. -/
theorem launched : θ_run defs (onTc (τ := τ) (main (F := F))) (s₀ m ρ)
    (fun r => Pipeline.RDat.FramePost (cfgs 0) (fun c => (dat m c).toRForget unsaid) (V m) r ∧ r.2.sem = fun _ => 0) :=
  Pipeline.θ_run_frame_forget (Q' := _) cfgs (fun _ => dat m) (0 : Fin 1) launch0 defs₀ Variants.none unsaid m ρ main
    (hbody := fun c => (obligation m c).loose) (hshare := fun c => (dat m c).share_full fun _ => rfl)
    (howed := fun _ _ => rfl) (V := V m) (hmain := hmain m Variants.none) (hA := A_eq m) (hΦ := fun _ _ => rfl)

/-- The arguments end as they began, and every counter at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => by
    refine ⟨fun c => ⟨?_, ?_, ?_, ?_⟩, h.2⟩
    · exact ((h.1 c).2 main_arg0 (Pipeline.mem_restRefs_of main_arg0 (by decide) (by decide))).trans (V_main_arg0 m c)
    · exact ((h.1 c).2 main_arg1 (Pipeline.mem_restRefs_of main_arg1 (by decide) (by decide))).trans (V_main_arg1 m c)
    · exact ((h.1 c).2 main_arg2 (Pipeline.mem_restRefs_of main_arg2 (by decide) (by decide))).trans (V_main_arg2 m c)
    · exact ((h.1 c).2 main_arg3 (Pipeline.mem_restRefs_of main_arg3 (by decide) (by decide))).trans (V_main_arg3 m c)) (launched m ρ)

end Cert.Kernel.Body

end
-- ==== Proof.Ffn.lean ====
/- One row of the feed-forward block, over exact numbers: the mathematics both programs are read as. -/
module

public import Mathlib.Data.EReal.Operations
public import Mathlib.Algebra.BigOperators.Fin
public import Idealize.ShloMosaic.Lib.IdealHost

@[expose] public section

noncomputable section

namespace Cert.Ffn

open Idealize.ShloMosaic

/-- A row over its root mean square, times the gains. -/
def rmsRow (v g : Fin 1024 → EReal) (l : Fin 1024) : EReal :=
  v l * Ideal.rsqrt (Ideal.div (∑ k, v k * v k) (Ideal.ofBits .f32 0x44800000#32) + Ideal.ofBits .f32 0x358637BD#32) * g l

/-- The gate's activation: the gate times its logistic value, times the other product. -/
def act (g u : EReal) : EReal :=
  g * Ideal.div (Ideal.ofBits .f32 0x3F800000#32) (Ideal.ofBits .f32 0x3F800000#32 + Ideal.exp (-g)) * u

/-- A row times a matrix. -/
def rowMul {n p : ℕ} (v : Fin n → EReal) (w : Fin n → Fin p → EReal) (j : Fin p) : EReal := ∑ k, v k * w k j

/-- The row after the mix of both heads' outputs is normalized and added. -/
def midRow (x : Fin 1024 → EReal) (a c : Fin 512 → EReal) (wa wc : Fin 512 → Fin 1024 → EReal) (g : Fin 1024 → EReal) (l : Fin 1024) : EReal :=
  x l + rmsRow (fun j => rowMul a wa j + rowMul c wc j) g l

/-- The hidden row's value at unit `n`. -/
def unit (h : Fin 1024 → EReal) (wg wu : Fin 1024 → Fin 2816 → EReal) (n : Fin 2816) : EReal :=
  act (rowMul h wg n) (rowMul h wu n)

/-- The row the feed-forward block leaves. -/
def ffnRow (x1 gpf gqf : Fin 1024 → EReal) (wg wu : Fin 1024 → Fin 2816 → EReal) (wd : Fin 2816 → Fin 1024 → EReal) (l : Fin 1024) : EReal :=
  x1 l + rmsRow (fun j => rowMul (unit (rmsRow x1 gpf) wg wu) wd j) gqf l

/-- A sum over the units in runs of 256. -/
theorem sum_runs (f : Fin 2816 → EReal) :
    ∑ n, f n = ∑ c : Fin 11, ∑ n : Fin 256, f ⟨c.val * 256 + n.val, by have := c.isLt; have := n.isLt; omega⟩ := by
  rw [← Fintype.sum_prod_type' (f := fun (c : Fin 11) (n : Fin 256) => f ⟨c.val * 256 + n.val, by have := c.isLt; have := n.isLt; omega⟩)]
  refine (Fintype.sum_equiv (finProdFinEquiv (m := 11) (n := 256)) _ f fun p => ?_).symm
  refine congrArg f (Fin.ext ?_)
  simp only [finProdFinEquiv, Equiv.coe_fn_mk]
  omega

/-- A sum over 1024 columns in halves. -/
theorem sum_halves (f : Fin 1024 → EReal) :
    ∑ n, f n = (∑ n : Fin 512, f ⟨n.val, by omega⟩) + ∑ n : Fin 512, f ⟨512 + n.val, by omega⟩ :=
  Fin.sum_univ_add (a := 512) (b := 512) f

end Cert.Ffn

end
-- ==== Proof.FfnTile.lean ====
/- The feed-forward kernel's vector expressions, read at an index. -/
module

public import proofs.«01_k».proof.Proof.Gen.Kernel2Ideal.Value
public import proofs.«01_k».proof.Proof.Ffn
public import Idealize.ShloMosaic.Lib.Pointwise

@[expose] public section

set_option maxRecDepth 16384

noncomputable section

namespace Cert.Kernel2Ideal.Tile

open Cert.Ffn Cert.Kernel2Ideal Cert.Kernel2Ideal.Gen Idealize.ShloMosaic Idealize.ShloMosaic.TcCoe

/-- One run of 256 units. -/
theorem run_apply (H : Vec Ideal S768x1024 .bf16) (G U : Vec Ideal S1x1024x256 .bf16) (D : Vec Ideal S1x256x1024 .bf16)
    (q : Fin 768) (l : Fin 1024) :
    k0_pay9 H G U D (ix2 q l) = ∑ n : Fin 256, act (∑ k : Fin 1024, H (ix2 q k) * G (ix3 0 k n)) (∑ k : Fin 1024, H (ix2 q k) * U (ix3 0 k n))
      * D (ix3 0 n l) := by
  unfold act
  pointwise [k0_pay9]
  simp only [zero_sub]

/-- The row with the mix added. -/
theorem mid_apply (a c : Vec Ideal S1x768x512 .bf16) (wa wc : Vec Ideal S1x512x1024 .bf16) (x : Vec Ideal S1x768x1024 .f32) (g : Vec Ideal S1x1x1024 .f32)
    (q : Fin 768) (l : Fin 1024) :
    k0_pay2 a wa c wc x g (ix2 q l) = midRow (fun j => x (ix3 0 q j)) (fun j => a (ix3 0 q j)) (fun j => c (ix3 0 q j))
      (fun k j => wa (ix3 0 k j)) (fun k j => wc (ix3 0 k j)) (fun j => g (ix3 0 0 j)) l := by
  unfold midRow rmsRow rowMul
  pointwise [k0_pay2]

/-- The normalized row. -/
theorem norm_apply (X : Vec Ideal S768x1024 .f32) (g : Vec Ideal S1x1x1024 .f32) (q : Fin 768) (l : Fin 1024) :
    k0_pay5 X (k0_pay3 g) (mulf X X) (ix2 q l) = rmsRow (fun j => X (ix2 q j)) (fun j => g (ix3 0 0 j)) l := by
  unfold rmsRow
  pointwise [k0_pay5, k0_pay3]

/-- The sum of eleven runs, in the kernel's order. -/
def runs (H : FVec Ideal S768x1024 .bf16) (G U : Fin 11 → Vec Ideal S1x1024x256 .bf16) (D : Fin 11 → Vec Ideal S1x256x1024 .bf16) : FVec Ideal S768x1024 .f32 :=
  addf (addf (addf (addf (addf (addf (addf (addf (addf (addf (addf (broadcast S768x1024 (Scalar.ofBits .f32 0x00000000#32))
    (k0_pay9 H (G 0) (U 0) (D 0))) (k0_pay9 H (G 1) (U 1) (D 1))) (k0_pay9 H (G 2) (U 2) (D 2))) (k0_pay9 H (G 3) (U 3) (D 3)))
    (k0_pay9 H (G 4) (U 4) (D 4))) (k0_pay9 H (G 5) (U 5) (D 5))) (k0_pay9 H (G 6) (U 6) (D 6))) (k0_pay9 H (G 7) (U 7) (D 7)))
    (k0_pay9 H (G 8) (U 8) (D 8))) (k0_pay9 H (G 9) (U 9) (D 9))) (k0_pay9 H (G 10) (U 10) (D 10))

theorem add_apply {t : Shape} (x y : FVec Ideal t .f32) (i : t.Idx) : (addf x y i : EReal) = (x i : EReal) + (y i : EReal) := rfl

theorem zero_apply (i : S768x1024.Idx) : (broadcast S768x1024 (Scalar.ofBits (F := Ideal) .f32 0x00000000#32) i : EReal) = 0 := by
  pointwise

theorem runs_apply (H : FVec Ideal S768x1024 .bf16) (G U : Fin 11 → Vec Ideal S1x1024x256 .bf16) (D : Fin 11 → Vec Ideal S1x256x1024 .bf16) (i : S768x1024.Idx) :
    (runs H G U D i : EReal) = ∑ c : Fin 11, (k0_pay9 H (G c) (U c) (D c) i : EReal) := by
  unfold runs
  simp only [add_apply, zero_apply, zero_add]
  simp only [Fin.sum_univ_succ, Fin.sum_univ_zero, add_zero, add_assoc]
  rfl

/-- The block's last step: the second row normalized and added to the first. -/
def close (X Y : FVec Ideal S768x1024 .f32) (g : Vec Ideal S1x1x1024 .f32) : FVec Ideal S1x768x1024 .f32 :=
  k0_pay1 X (mulf Y (broadcastTo S768x1024 (rsqrt (addf (divf (shapeCast S768x1 (multiReduction .add [1] S768 (mulf Y Y) 0x00000000#32
    reduces_S768x1024_S768 (.inl rfl) rfl) shapeCasts_S768_S768x1) (broadcast S768x1 (Scalar.ofBits .f32 0x44800000#32)))
    (broadcast S768x1 (Scalar.ofBits .f32 0x358637BD#32)))) broadcasts_S768x1_S768x1024)) (k0_pay21 g)

theorem close_apply (X Y : FVec Ideal S768x1024 .f32) (g : Vec Ideal S1x1x1024 .f32) (q : Fin 768) (l : Fin 1024) :
    (close X Y g (ix3 0 q l) : EReal) = (X (ix2 q l) : EReal) + rmsRow (fun j => (Y (ix2 q j) : EReal)) (fun j => g (ix3 0 0 j)) l := by
  unfold rmsRow close
  pointwise [k0_pay1, k0_pay21]

end Cert.Kernel2Ideal.Tile

end
-- ==== Proof.FfnBlock.lean ====
/- What the feed-forward kernel leaves in its output block, row by row. -/
module

public import proofs.«01_k».proof.Proof.FfnTile
public import Idealize.ShloMosaic.Lib.Pipeline.ValueKit

@[expose] public section

set_option maxRecDepth 16384

noncomputable section

namespace Cert.Kernel2Ideal.Block

open Cert.Ffn Cert.Kernel2Ideal Cert.Kernel2Ideal.Gen Cert.Kernel2Ideal.Tile Idealize.ShloMosaic Idealize.ShloMosaic.TcCoe

variable (x0 : Vec Ideal S1x768x1024 .f32) (x1 x2 : Vec Ideal S1x768x512 .bf16) (x3 x4 : Vec Ideal S1x512x1024 .bf16)
  (x5 x6 x7 : Vec Ideal S1x1x1024 .f32) (x8 x9 : Vec Ideal S1x1024x2816 .bf16) (x10 : Vec Ideal S1x2816x1024 .bf16)

/-- The columns of run `c`, and the rows of run `c`. -/
def colRun (x : Vec Ideal S1x1024x2816 .bf16) : Fin 11 → Vec Ideal S1x1024x256 .bf16 :=
  ![View.ld x r0_4, View.ld x r0_6, View.ld x r0_8, View.ld x r0_10, View.ld x r0_12, View.ld x r0_14, View.ld x r0_16,
    View.ld x r0_18, View.ld x r0_20, View.ld x r0_22, View.ld x r0_24]
def rowRun (x : Vec Ideal S1x2816x1024 .bf16) : Fin 11 → Vec Ideal S1x256x1024 .bf16 :=
  ![View.ld x r0_5, View.ld x r0_7, View.ld x r0_9, View.ld x r0_11, View.ld x r0_13, View.ld x r0_15, View.ld x r0_17,
    View.ld x r0_19, View.ld x r0_21, View.ld x r0_23, View.ld x r0_25]

theorem col_at (x : Vec Ideal S1x1024x2816 .bf16) (o : ℕ) (inb : ∀ a, (![0, 0, o] : Fin 3 → ℕ) a + S1x1024x256.size a ≤ S1x1024x2816.size a)
    (k : Fin 1024) (n : Fin 256) (j : Fin 2816) (hj : j.val = o + n.val) :
    (View.ld x (Rect.unit (s := S1x1024x2816) ![0, 0, o] S1x1024x256.size inb) : Vec Ideal S1x1024x256 .bf16) (ix3 0 k n) = x (ix3 0 k j) := by
  refine View.ld_unit_apply_of x _ _ inb _ _ fun a => ?_
  match a with
  | ⟨0, _⟩ => rfl
  | ⟨1, _⟩ => exact (Nat.zero_add k.val).symm
  | ⟨2, _⟩ => exact hj

theorem row_at (x : Vec Ideal S1x2816x1024 .bf16) (o : ℕ) (inb : ∀ a, (![0, o, 0] : Fin 3 → ℕ) a + S1x256x1024.size a ≤ S1x2816x1024.size a)
    (n : Fin 256) (l : Fin 1024) (j : Fin 2816) (hj : j.val = o + n.val) :
    (View.ld x (Rect.unit (s := S1x2816x1024) ![0, o, 0] S1x256x1024.size inb) : Vec Ideal S1x256x1024 .bf16) (ix3 0 n l) = x (ix3 0 j l) := by
  refine View.ld_unit_apply_of x _ _ inb _ _ fun a => ?_
  match a with
  | ⟨0, _⟩ => rfl
  | ⟨1, _⟩ => exact hj
  | ⟨2, _⟩ => exact (Nat.zero_add l.val).symm

theorem colRun_at (x : Vec Ideal S1x1024x2816 .bf16) (c : Fin 11) (k : Fin 1024) (n : Fin 256) (j : Fin 2816) (hj : j.val = c.val * 256 + n.val) :
    colRun x c (ix3 0 k n) = x (ix3 0 k j) := by
  unfold colRun
  fin_cases c <;> exact col_at x _ _ k n j hj

theorem rowRun_at (x : Vec Ideal S1x2816x1024 .bf16) (c : Fin 11) (n : Fin 256) (l : Fin 1024) (j : Fin 2816) (hj : j.val = c.val * 256 + n.val) :
    rowRun x c (ix3 0 n l) = x (ix3 0 j l) := by
  unfold rowRun
  fin_cases c <;> exact row_at x _ _ n l j hj

/-- Loads of a whole block. -/
theorem ld_heads (x : Vec Ideal S1x768x512 .bf16) : View.ld x r0_0 = x := View.ld_unit_lit (S := S1x768x512) _ _ (by decide)
theorem ld_mix (x : Vec Ideal S1x512x1024 .bf16) : View.ld x r0_1 = x := View.ld_unit_lit (S := S1x512x1024) _ _ (by decide)
theorem ld_rows (x : Vec Ideal S1x768x1024 .f32) : View.ld x r0_2 = x := View.ld_unit_lit (S := S1x768x1024) _ _ (by decide)
theorem ld_gain (x : Vec Ideal S1x1x1024 .f32) : View.ld x r0_3 = x := View.ld_unit_lit (S := S1x1x1024) _ _ (by decide)

/-- The block's first and normalized rows. -/
def mid : FVec Ideal S768x1024 .f32 :=
  k0_pay2 (View.ld x1 r0_0) (View.ld x3 r0_1) (View.ld x2 r0_0) (View.ld x4 r0_1) (View.ld x0 r0_2) (View.ld x5 r0_3)
def nrm (X : FVec Ideal S768x1024 .f32) : FVec Ideal S768x1024 .bf16 := k0_pay5 X (k0_pay3 (View.ld x6 r0_3)) (mulf X X)

theorem out_eq : out0_11 x0 x1 x2 x3 x4 x5 x6 x7 x8 x9 x10
    = View.canon [⟨r0_2, close (mid x0 x1 x2 x3 x4 x5) (runs (nrm x6 (mid x0 x1 x2 x3 x4 x5)) (colRun x8) (colRun x9) (rowRun x10)) (View.ld x7 r0_3)⟩] := rfl

/-- Row `q` of the block with the mix added. -/
def midOf (q : Fin 768) : Fin 1024 → EReal :=
  midRow (fun j => x0 (ix3 0 q j)) (fun j => x1 (ix3 0 q j)) (fun j => x2 (ix3 0 q j))
    (fun k j => x3 (ix3 0 k j)) (fun k j => x4 (ix3 0 k j)) (fun j => x5 (ix3 0 0 j))

theorem mid_at (q : Fin 768) (l : Fin 1024) : (mid x0 x1 x2 x3 x4 x5 (ix2 q l) : EReal) = midOf x0 x1 x2 x3 x4 x5 q l := by
  unfold mid midOf
  rw [mid_apply, ld_heads x1, ld_heads x2, ld_mix x3, ld_mix x4, ld_rows x0, ld_gain x5]

theorem out_apply (q : Fin 768) (l : Fin 1024) :
    (out0_11 x0 x1 x2 x3 x4 x5 x6 x7 x8 x9 x10 (ix3 0 q l) : EReal)
      = ffnRow (midOf x0 x1 x2 x3 x4 x5 q) (fun j => x6 (ix3 0 0 j)) (fun j => x7 (ix3 0 0 j)) (fun k n => x8 (ix3 0 k n)) (fun k n => x9 (ix3 0 k n))
        (fun n j => x10 (ix3 0 n j)) l := by
  rw [out_eq, View.canon_cons_unit_lit (S := S1x768x1024) _ _ _ (by decide), close_apply]
  have hm : ∀ j, (mid x0 x1 x2 x3 x4 x5 (ix2 q j) : EReal) = midOf x0 x1 x2 x3 x4 x5 q j := mid_at x0 x1 x2 x3 x4 x5 q
  generalize mid x0 x1 x2 x3 x4 x5 = X at hm ⊢
  have hn : ∀ j, (nrm x6 X (ix2 q j) : EReal) = rmsRow (midOf x0 x1 x2 x3 x4 x5 q) (fun j => x6 (ix3 0 0 j)) j := fun j => by
    unfold nrm
    rw [norm_apply, ld_gain]
    exact congrArg (fun v => rmsRow v _ j) (funext hm)
  generalize nrm x6 X = H at hn ⊢
  have hf : ∀ j, (runs H (colRun x8) (colRun x9) (rowRun x10) (ix2 q j) : EReal)
      = rowMul (unit (rmsRow (midOf x0 x1 x2 x3 x4 x5 q) (fun j => x6 (ix3 0 0 j))) (fun k n => x8 (ix3 0 k n)) (fun k n => x9 (ix3 0 k n)))
        (fun n j => x10 (ix3 0 n j)) j := fun j => by
    rw [runs_apply]
    unfold rowMul
    rw [sum_runs]
    refine Finset.sum_congr rfl fun c _ => ?_
    rw [run_apply]
    refine Finset.sum_congr rfl fun n _ => ?_
    unfold unit rowMul
    rw [rowRun_at x10 c n j ⟨c.val * 256 + n.val, by have := c.isLt; have := n.isLt; omega⟩ rfl]
    simp only [hn, fun k => colRun_at x8 c k n ⟨c.val * 256 + n.val, by have := c.isLt; have := n.isLt; omega⟩ rfl,
      fun k => colRun_at x9 c k n ⟨c.val * 256 + n.val, by have := c.isLt; have := n.isLt; omega⟩ rfl]
  unfold ffnRow
  rw [hm, ld_gain]
  exact congrArg (fun v => midOf x0 x1 x2 x3 x4 x5 q l + rmsRow v _ l) (funext hf)

end Cert.Kernel2Ideal.Block

end
-- ==== Proof.FfnOut.lean ====
/- What the feed-forward kernel's output array holds at the end of a run, from the arguments. -/
module

public import proofs.«01_k».proof.Proof.FfnBlock

@[expose] public section

noncomputable section

namespace Cert.Kernel2Ideal.Out

open Idealize.ShloMosaic
open Idealize.ShloMosaic.Pipeline
open Cert.Ffn Cert.Kernel2Ideal Cert.Kernel2Ideal.Gen Cert.Kernel2Ideal.Block

variable (m : (ℓ : Loc nD τ sig) → Buf (Elt Ideal) ℓ) (c : Dev nD)

/-- The arguments. -/
abbrev ax : S2x8208x1024.Idx → EReal := m ((c.tc : Thread nD τ).loc main_arg0)
abbrev aa : S2x8208x512.Idx → EReal := m ((c.tc : Thread nD τ).loc main_arg1)
abbrev ac : S2x8208x512.Idx → EReal := m ((c.tc : Thread nD τ).loc main_arg2)
abbrev awo : S4x1024x1024.Idx → EReal := m ((c.tc : Thread nD τ).loc main_arg3)
abbrev agm : S4x1024.Idx → EReal := m ((c.tc : Thread nD τ).loc main_arg4)
abbrev agf : S4x1024.Idx → EReal := m ((c.tc : Thread nD τ).loc main_arg5)
abbrev agq : S4x1024.Idx → EReal := m ((c.tc : Thread nD τ).loc main_arg6)
abbrev awg : S4x1024x2816.Idx → EReal := m ((c.tc : Thread nD τ).loc main_arg7)
abbrev awu : S4x1024x2816.Idx → EReal := m ((c.tc : Thread nD τ).loc main_arg8)
abbrev awd : S4x2816x1024.Idx → EReal := m ((c.tc : Thread nD τ).loc main_arg9)

/-! ## The operands, as the call finds them -/

abbrev oX : S2x8448x1024.Idx → EReal := V m c main_v10
abbrev oA : S2x8448x512.Idx → EReal := V m c main_v12
abbrev oC : S2x8448x512.Idx → EReal := V m c main_v14
abbrev oWa : S4x512x1024.Idx → EReal := V m c main_v1
abbrev oWc : S4x512x1024.Idx → EReal := V m c main_v3
abbrev oGm : S4x1x1024.Idx → EReal := V m c main_v4
abbrev oGf : S4x1x1024.Idx → EReal := V m c main_v5
abbrev oGq : S4x1x1024.Idx → EReal := V m c main_v6
abbrev oWg : S4x1024x2816.Idx → EReal := V m c main_v7
abbrev oWu : S4x1024x2816.Idx → EReal := V m c main_v8
abbrev oWd : S4x2816x1024.Idx → EReal := V m c main_v9

set_option maxRecDepth 65536
set_option maxHeartbeats 4000000

theorem oX_at (b : Fin 2) (r : Fin 8448) (hr : r.val < 8208) (l : Fin 1024) : oX m c (ix3 b r l) = ax m c (ix3 b ⟨r.val, hr⟩ l) := by
  simp only [oX, V, hostOps0, hostOps0_1, hostOps0_2, hostOps0_3, hostOps0_4, hostOps0_5, hostOps0_6, List.flatten_cons, List.flatten_nil,
    List.append_nil, List.cons_append, List.nil_append]
  simp only [StableHlo.TRef.binary, StableHlo.TRef.unary, StableHlo.TRef.toBuf, StableHlo.TRef.ofBuf, cast_eq]
  after_results_simp
  pointwise
  rw [dif_pos hr]

theorem oA_at (b : Fin 2) (r : Fin 8448) (hr : r.val < 8208) (l : Fin 512) : oA m c (ix3 b r l) = aa m c (ix3 b ⟨r.val, hr⟩ l) := by
  simp only [oA, V, hostOps0, hostOps0_1, hostOps0_2, hostOps0_3, hostOps0_4, hostOps0_5, hostOps0_6, List.flatten_cons, List.flatten_nil,
    List.append_nil, List.cons_append, List.nil_append]
  simp only [StableHlo.TRef.binary, StableHlo.TRef.unary, StableHlo.TRef.toBuf, StableHlo.TRef.ofBuf, cast_eq]
  after_results_simp
  pointwise
  rw [dif_pos hr]

theorem oC_at (b : Fin 2) (r : Fin 8448) (hr : r.val < 8208) (l : Fin 512) : oC m c (ix3 b r l) = ac m c (ix3 b ⟨r.val, hr⟩ l) := by
  simp only [oC, V, hostOps0, hostOps0_1, hostOps0_2, hostOps0_3, hostOps0_4, hostOps0_5, hostOps0_6, List.flatten_cons, List.flatten_nil,
    List.append_nil, List.cons_append, List.nil_append]
  simp only [StableHlo.TRef.binary, StableHlo.TRef.unary, StableHlo.TRef.toBuf, StableHlo.TRef.ofBuf, cast_eq]
  after_results_simp
  pointwise
  rw [dif_pos hr]

theorem oWa_at (k : Fin 512) (l : Fin 1024) : oWa m c (ix3 3 k l) = awo m c (ix3 3 ⟨k.val, by omega⟩ l) := by
  simp only [oWa, V, hostOps0, hostOps0_1, hostOps0_2, hostOps0_3, hostOps0_4, hostOps0_5, hostOps0_6, List.flatten_cons, List.flatten_nil,
    List.append_nil, List.cons_append, List.nil_append]
  simp only [StableHlo.TRef.binary, StableHlo.TRef.unary, StableHlo.TRef.toBuf, StableHlo.TRef.ofBuf, cast_eq]
  after_results_simp
  pointwise

theorem oWc_at (k : Fin 512) (l : Fin 1024) : oWc m c (ix3 3 k l) = awo m c (ix3 3 ⟨512 + k.val, by omega⟩ l) := by
  simp only [oWc, V, hostOps0, hostOps0_1, hostOps0_2, hostOps0_3, hostOps0_4, hostOps0_5, hostOps0_6, List.flatten_cons, List.flatten_nil,
    List.append_nil, List.cons_append, List.nil_append]
  simp only [StableHlo.TRef.binary, StableHlo.TRef.unary, StableHlo.TRef.toBuf, StableHlo.TRef.ofBuf, cast_eq]
  after_results_simp
  pointwise

theorem oGm_at (l : Fin 1024) : oGm m c (ix3 3 0 l) = agm m c (ix2 3 l) := by
  simp only [oGm, V, hostOps0, hostOps0_1, hostOps0_2, hostOps0_3, hostOps0_4, hostOps0_5, hostOps0_6, List.flatten_cons, List.flatten_nil,
    List.append_nil, List.cons_append, List.nil_append]
  simp only [StableHlo.TRef.binary, StableHlo.TRef.unary, StableHlo.TRef.toBuf, StableHlo.TRef.ofBuf, cast_eq]
  after_results_simp
  pointwise

theorem oGf_at (l : Fin 1024) : oGf m c (ix3 3 0 l) = agf m c (ix2 3 l) := by
  simp only [oGf, V, hostOps0, hostOps0_1, hostOps0_2, hostOps0_3, hostOps0_4, hostOps0_5, hostOps0_6, List.flatten_cons, List.flatten_nil,
    List.append_nil, List.cons_append, List.nil_append]
  simp only [StableHlo.TRef.binary, StableHlo.TRef.unary, StableHlo.TRef.toBuf, StableHlo.TRef.ofBuf, cast_eq]
  after_results_simp
  pointwise

theorem oGq_at (l : Fin 1024) : oGq m c (ix3 3 0 l) = agq m c (ix2 3 l) := by
  simp only [oGq, V, hostOps0, hostOps0_1, hostOps0_2, hostOps0_3, hostOps0_4, hostOps0_5, hostOps0_6, List.flatten_cons, List.flatten_nil,
    List.append_nil, List.cons_append, List.nil_append]
  simp only [StableHlo.TRef.binary, StableHlo.TRef.unary, StableHlo.TRef.toBuf, StableHlo.TRef.ofBuf, cast_eq]
  after_results_simp
  pointwise

theorem oWg_at (k : Fin 1024) (n : Fin 2816) : oWg m c (ix3 3 k n) = awg m c (ix3 3 k n) := by
  simp only [oWg, V, hostOps0, hostOps0_1, hostOps0_2, hostOps0_3, hostOps0_4, hostOps0_5, hostOps0_6, List.flatten_cons, List.flatten_nil,
    List.append_nil, List.cons_append, List.nil_append]
  simp only [StableHlo.TRef.binary, StableHlo.TRef.unary, StableHlo.TRef.toBuf, StableHlo.TRef.ofBuf, cast_eq]
  after_results_simp
  pointwise

theorem oWu_at (k : Fin 1024) (n : Fin 2816) : oWu m c (ix3 3 k n) = awu m c (ix3 3 k n) := by
  simp only [oWu, V, hostOps0, hostOps0_1, hostOps0_2, hostOps0_3, hostOps0_4, hostOps0_5, hostOps0_6, List.flatten_cons, List.flatten_nil,
    List.append_nil, List.cons_append, List.nil_append]
  simp only [StableHlo.TRef.binary, StableHlo.TRef.unary, StableHlo.TRef.toBuf, StableHlo.TRef.ofBuf, cast_eq]
  after_results_simp
  pointwise

theorem oWd_at (n : Fin 2816) (l : Fin 1024) : oWd m c (ix3 3 n l) = awd m c (ix3 3 n l) := by
  simp only [oWd, V, hostOps0, hostOps0_1, hostOps0_2, hostOps0_3, hostOps0_4, hostOps0_5, hostOps0_6, List.flatten_cons, List.flatten_nil,
    List.append_nil, List.cons_append, List.nil_append]
  simp only [StableHlo.TRef.binary, StableHlo.TRef.unary, StableHlo.TRef.toBuf, StableHlo.TRef.ofBuf, cast_eq]
  after_results_simp
  pointwise

end Cert.Kernel2Ideal.Out

end
-- ==== Proof.FfnArray.lean ====
/- The feed-forward kernel's output array, block by block. -/
module

public import proofs.«01_k».proof.Proof.FfnOut

@[expose] public section

noncomputable section

namespace Cert.Kernel2Ideal.Array

open Idealize.ShloMosaic
open Idealize.ShloMosaic.Pipeline
open Cert.Ffn Cert.Kernel2Ideal Cert.Kernel2Ideal.Gen Cert.Kernel2Ideal.Block Cert.Kernel2Ideal.Out

variable (m : (ℓ : Loc nD τ sig) → Buf (Elt Ideal) ℓ) (c : Dev nD)

/-- The output at row `r`, column `l`, from the operands. -/
def G (b : Fin 2) (r : Fin 8448) (l : Fin 1024) : EReal :=
  ffnRow (midRow (fun j => oX m c (ix3 b r j)) (fun j => oA m c (ix3 b r j)) (fun j => oC m c (ix3 b r j))
    (fun k j => oWa m c (ix3 3 k j)) (fun k j => oWc m c (ix3 3 k j)) (fun j => oGm m c (ix3 3 0 j)))
    (fun j => oGf m c (ix3 3 0 j)) (fun j => oGq m c (ix3 3 0 j)) (fun k n => oWg m c (ix3 3 k n)) (fun k n => oWu m c (ix3 3 k n))
    (fun n j => oWd m c (ix3 3 n j)) l

theorem idx (t : Fin cfg0.N) :
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_11.index t = ![(grid0.coords t 0).val, (grid0.coords t 1).val, 0] := by
  revert t; decide +kernel

theorem idxW (t : Fin cfg0.N) :
    (win0_3.index t = ![3, 0, 0] ∧ win0_4.index t = ![3, 0, 0] ∧ win0_5.index t = ![3, 0, 0] ∧ win0_6.index t = ![3, 0, 0])
    ∧ win0_7.index t = ![3, 0, 0] ∧ win0_8.index t = ![3, 0, 0] ∧ win0_9.index t = ![3, 0, 0] ∧ win0_10.index t = ![3, 0, 0] := by
  revert t; decide +kernel

theorem coords_lt (t : Fin cfg0.N) : (grid0.coords t 0).val < 2 ∧ (grid0.coords t 1).val < 11 := by
  revert t; decide +kernel

section reads

variable (t : Fin cfg0.N) (b : Fin 2) (r : Fin 8448) (q : Fin 768)
    (hb : (grid0.coords t 0).val = b.val) (hr : (grid0.coords t 1).val * 768 + q.val = r.val)

include hb hr in
theorem x_read (l : Fin 1024) : iblk m c 0 t (ix3 (0 : Fin 1) q l) = oX m c (ix3 b r l) := by
  unfold oX
  blk_ext [iblk, (idx t).1]

include hb hr in
theorem a_read (l : Fin 512) : iblk m c 1 t (ix3 (0 : Fin 1) q l) = oA m c (ix3 b r l) := by
  unfold oA
  blk_ext [iblk, (idx t).2.1]

include hb hr in
theorem c_read (l : Fin 512) : iblk m c 2 t (ix3 (0 : Fin 1) q l) = oC m c (ix3 b r l) := by
  unfold oC
  blk_ext [iblk, (idx t).2.2.1]

theorem wa_read (k : Fin 512) (l : Fin 1024) : iblk m c 3 t (ix3 (0 : Fin 1) k l) = oWa m c (ix3 3 k l) := by
  unfold oWa
  blk_ext [iblk, (idxW t).1.1]

theorem wc_read (k : Fin 512) (l : Fin 1024) : iblk m c 4 t (ix3 (0 : Fin 1) k l) = oWc m c (ix3 3 k l) := by
  unfold oWc
  blk_ext [iblk, (idxW t).1.2.1]

theorem gm_read (l : Fin 1024) : iblk m c 5 t (ix3 (0 : Fin 1) (0 : Fin 1) l) = oGm m c (ix3 3 0 l) := by
  unfold oGm
  blk_ext [iblk, (idxW t).1.2.2.1]

theorem gf_read (l : Fin 1024) : iblk m c 6 t (ix3 (0 : Fin 1) (0 : Fin 1) l) = oGf m c (ix3 3 0 l) := by
  unfold oGf
  blk_ext [iblk, (idxW t).1.2.2.2]

theorem gq_read (l : Fin 1024) : iblk m c 7 t (ix3 (0 : Fin 1) (0 : Fin 1) l) = oGq m c (ix3 3 0 l) := by
  unfold oGq
  blk_ext [iblk, (idxW t).2.1]

theorem wg_read (k : Fin 1024) (n : Fin 2816) : iblk m c 8 t (ix3 (0 : Fin 1) k n) = oWg m c (ix3 3 k n) := by
  unfold oWg
  blk_ext [iblk, (idxW t).2.2.1]

theorem wu_read (k : Fin 1024) (n : Fin 2816) : iblk m c 9 t (ix3 (0 : Fin 1) k n) = oWu m c (ix3 3 k n) := by
  unfold oWu
  blk_ext [iblk, (idxW t).2.2.2.1]

theorem wd_read (n : Fin 2816) (l : Fin 1024) : iblk m c 10 t (ix3 (0 : Fin 1) n l) = oWd m c (ix3 3 n l) := by
  unfold oWd
  blk_ext [iblk, (idxW t).2.2.2.2]

include hb hr in
theorem block_eq (l : Fin 1024) :
    (out0_11 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (ix3 0 q l) : EReal) = G m c b r l := by
  refine (out_apply _ _ _ _ _ _ _ _ _ _ _ q l).trans ?_
  unfold G midOf
  have e0 := funext (x_read m c t b r q hb hr)
  have e1 := funext (a_read m c t b r q hb hr)
  have e2 := funext (c_read m c t b r q hb hr)
  have e3 := funext fun k => funext (wa_read m c t k)
  have e4 := funext fun k => funext (wc_read m c t k)
  have e5 := funext (gm_read m c t)
  have e6 := funext (gf_read m c t)
  have e7 := funext (gq_read m c t)
  have e8 := funext fun k => funext (wg_read m c t k)
  have e9 := funext fun k => funext (wu_read m c t k)
  have e10 := funext fun n => funext (wd_read m c t n)
  exact congr (congr (congr (congr (congr (congr (congrArg ffnRow
    (congr (congr (congr (congr (congr (congrArg midRow e0) e1) e2) e3) e4) e5)) e6) e7) e8) e9) e10) rfl

end reads

theorem G_congr {b b' : Fin 2} {r r' : Fin 8448} {l l' : Fin 1024} (h0 : b.val = b'.val) (h1 : r.val = r'.val) (h2 : l.val = l'.val) :
    G m c b r l = G m c b' r' l' := by
  obtain rfl := Fin.ext h0
  obtain rfl := Fin.ext h1
  obtain rfl := Fin.ext h2
  rfl

theorem emb0 (t : Fin cfg0.N) (y : ((cfg0.win 11).xblock (cfg0.grid.coords t)).Idx) :
    ((win0_11.blk t).view.emb y 0).val = (grid0.coords t 0).val := by
  blk_simp [(idx t).2.2.2]
theorem emb1 (t : Fin cfg0.N) (y : ((cfg0.win 11).xblock (cfg0.grid.coords t)).Idx) :
    ((win0_11.blk t).view.emb y 1).val = (grid0.coords t 1).val * 768 + (y 1).val := by
  blk_simp [(idx t).2.2.2]
theorem emb2 (t : Fin cfg0.N) (y : ((cfg0.win 11).xblock (cfg0.grid.coords t)).Idx) :
    ((win0_11.blk t).view.emb y 2).val = (y 2).val := by
  blk_simp [(idx t).2.2.2]

theorem arr_eq (j0 : Fin 2) (j1 : Fin 8448) (j2 : Fin 1024) :
    ((dats m 0 c).arrAt 11 cfg0.N (ix3 j0 j1 j2) : EReal) = G m c j0 j1 j2 := by
  have key : (dats m 0 c).arrAt 11 cfg0.N = fun j : S2x8448x1024.Idx => G m c (j 0) (j 1) (j 2) := by
    refine Dat.arrAt_eq_of_covers _ 11 _ (by decide +kernel) fun t hf y => ?_
    obtain ⟨h0, h1⟩ := coords_lt t
    have hy0 : (y 0).val < 1 := (y 0).isLt
    have hy1 : (y 1).val < 768 := (y 1).isLt
    have hy2 : (y 2).val < 1024 := (y 2).isLt
    have ey : y = ix3 (0 : Fin 1) ⟨(y 1).val, hy1⟩ ⟨(y 2).val, hy2⟩ := by
      funext a
      match a with
      | ⟨0, _⟩ => exact Fin.ext (Nat.lt_one_iff.mp hy0)
      | ⟨1, _⟩ => rfl
      | ⟨2, _⟩ => rfl
    have hv := block_eq m c t ⟨_, h0⟩ ⟨(grid0.coords t 1).val * 768 + (y 1).val, by omega⟩ ⟨(y 1).val, hy1⟩ rfl rfl ⟨(y 2).val, hy2⟩
    blk_simp [(idx t).2.2.2]
    rw [after0_11]
    exact ((congrArg _ ey).trans hv).trans (G_congr m c (emb0 t y).symm (emb1 t y).symm (emb2 t y).symm)
  rw [key]
  rfl

/-- The output at a real row, from the arguments. -/
theorem G_at (b : Fin 2) (r : Fin 8448) (hr : r.val < 8208) (l : Fin 1024) :
    G m c b r l = ffnRow (midRow (fun j => ax m c (ix3 b ⟨r.val, hr⟩ j)) (fun j => aa m c (ix3 b ⟨r.val, hr⟩ j))
      (fun j => ac m c (ix3 b ⟨r.val, hr⟩ j)) (fun k j => awo m c (ix3 3 ⟨k.val, by omega⟩ j)) (fun k j => awo m c (ix3 3 ⟨512 + k.val, by omega⟩ j))
      (fun j => agm m c (ix2 3 j))) (fun j => agf m c (ix2 3 j)) (fun j => agq m c (ix2 3 j))
      (fun k n => awg m c (ix3 3 k n)) (fun k n => awu m c (ix3 3 k n)) (fun n j => awd m c (ix3 3 n j)) l := by
  unfold G
  have e0 := funext (oX_at m c b r hr)
  have e1 := funext (oA_at m c b r hr)
  have e2 := funext (oC_at m c b r hr)
  have e3 := funext fun k => funext (oWa_at m c k)
  have e4 := funext fun k => funext (oWc_at m c k)
  have e5 := funext (oGm_at m c)
  have e6 := funext (oGf_at m c)
  have e7 := funext (oGq_at m c)
  have e8 := funext fun k => funext (oWg_at m c k)
  have e9 := funext fun k => funext (oWu_at m c k)
  have e10 := funext fun n => funext (oWd_at m c n)
  exact congr (congr (congr (congr (congr (congr (congrArg ffnRow
    (congr (congr (congr (congr (congr (congrArg midRow e0) e1) e2) e3) e4) e5)) e6) e7) e8) e9) e10) rfl

end Cert.Kernel2Ideal.Array

end
-- ==== Proof.FfnRef.lean ====
/- The feed-forward reference's result read at an index. -/
module

public import proofs.«01_k».proof.Proof.Gen.Reference2Ideal.Run
public import proofs.«01_k».proof.Proof.Ffn
public import Idealize.ShloMosaic.Lib.Pointwise

@[expose] public section

set_option maxRecDepth 65536

noncomputable section

namespace Cert.Reference2Ideal.Result

open Idealize.ShloMosaic
open Cert.Reference2Ideal Cert.Reference2Ideal.Gen Cert.Reference2Ideal.Value Cert.Ffn

variable (m : (ℓ : Loc nD τ sig) → Buf (Elt Ideal) ℓ) (c : Dev nD)

/-- The arguments. -/
abbrev rx : S2x8208x1024.Idx → EReal := m ((c.tc : Thread nD τ).loc main_arg0)
abbrev ra : S2x8208x512.Idx → EReal := m ((c.tc : Thread nD τ).loc main_arg1)
abbrev rc : S2x8208x512.Idx → EReal := m ((c.tc : Thread nD τ).loc main_arg2)
abbrev rwo : S4x1024x1024.Idx → EReal := m ((c.tc : Thread nD τ).loc main_arg3)
abbrev rgm : S4x1024.Idx → EReal := m ((c.tc : Thread nD τ).loc main_arg4)
abbrev rgf : S4x1024.Idx → EReal := m ((c.tc : Thread nD τ).loc main_arg5)
abbrev rgq : S4x1024.Idx → EReal := m ((c.tc : Thread nD τ).loc main_arg6)
abbrev rwg : S4x1024x2816.Idx → EReal := m ((c.tc : Thread nD τ).loc main_arg7)
abbrev rwu : S4x1024x2816.Idx → EReal := m ((c.tc : Thread nD τ).loc main_arg8)
abbrev rwd : S4x2816x1024.Idx → EReal := m ((c.tc : Thread nD τ).loc main_arg9)

/-- The reference's arrays by name: a normalized array, the mix, the array with the mix added, a product with the gate's or
    the other matrix, the hidden array, its product with the last matrix, the result. -/
def rmsT (X : FVec Ideal S2x8208x1024 .f32) (g : FVec Ideal S4x1024 .f32) : FVec Ideal S2x8208x1024 .f32 :=
  mulf (mulf X (broadcastInDim S2x8208x1024 ![0, 1, 2] bcast_S2x8208x1_S2x8208x1024_0_1_2 (Host.rsqrt (addf (Host.divf
    (broadcastInDim S2x8208x1 ![0, 1] bcast_S2x8208_S2x8208x1_0_1 (Host.reduceAdd (mulf X X) (constant S_ .f32 0x00000000#32)
    reducesTo_S2x8208x1024_S2x8208_d2 h_S_)) (broadcastInDim S2x8208x1 ![] bcast_S_S2x8208x1 (constant S_ .f32 0x44800000#32)))
    (broadcastInDim S2x8208x1 ![] bcast_S_S2x8208x1 (constant S_ .f32 0x358637BD#32))))))
    (broadcastInDim S2x8208x1024 ![0, 1, 2] bcast_S1x1x1024_S2x8208x1024_0_1_2 (broadcastInDim S1x1x1024 ![2] bcast_S1024_S1x1x1024_2
      (shapeCast _ (extractStridedSlice S1x1024 ![3, 0] g slices_S4x1024_S1x1024_3_0) shapeCasts_S1x1024_S1024)))
def mulT (C : FVec Ideal S2x8208x1024 .f32) (w : FVec Ideal S4x1024x1024 .f32) : FVec Ideal S2x8208x1024 .f32 :=
  Host.dotGeneral dot_S2x8208x1024_S1024x1024_S2x8208x1024_2_0_01_1_n_n none C (shapeCast S1024x1024 (extractStridedSlice S1x1024x1024 ![3, 0, 0] w
    slices_S4x1024x1024_S1x1024x1024_3_0_0) shapeCasts_S1x1024x1024_S1024x1024)
def mixT (a k : FVec Ideal S2x8208x512 .f32) (w : FVec Ideal S4x1024x1024 .f32) : FVec Ideal S2x8208x1024 .f32 :=
  mulT (concatenate S2x8208x1024 2 [⟨S2x8208x512, a⟩, ⟨S2x8208x512, k⟩] concatenates_S2x8208x512_S2x8208x512_S2x8208x1024_d2) w
def midT (x M : FVec Ideal S2x8208x1024 .f32) (g : FVec Ideal S4x1024 .f32) : FVec Ideal S2x8208x1024 .f32 := addf x (rmsT M g)
def upT (H : FVec Ideal S2x8208x1024 .f32) (w : FVec Ideal S4x1024x2816 .f32) : FVec Ideal S2x8208x2816 .f32 :=
  Host.dotGeneral dot_S2x8208x1024_S1024x2816_S2x8208x2816_2_0_01_1_n_n none H (shapeCast S1024x2816 (extractStridedSlice S1x1024x2816 ![3, 0, 0] w
    slices_S4x1024x2816_S1x1024x2816_3_0_0) shapeCasts_S1x1024x2816_S1024x2816)
def actT (G U : FVec Ideal S2x8208x2816 .f32) : FVec Ideal S2x8208x2816 .f32 :=
  mulf (mulf G (Host.divf (broadcastInDim S2x8208x2816 ![] bcast_S_S2x8208x2816 (constant S_ .f32 0x3F800000#32))
    (addf (broadcastInDim S2x8208x2816 ![] bcast_S_S2x8208x2816 (constant S_ .f32 0x3F800000#32)) (Host.exp (Host.negf G))))) U
def downT (A : FVec Ideal S2x8208x2816 .f32) (w : FVec Ideal S4x2816x1024 .f32) : FVec Ideal S2x8208x1024 .f32 :=
  Host.dotGeneral dot_S2x8208x2816_S2816x1024_S2x8208x1024_2_0_01_1_n_n none A (shapeCast S2816x1024 (extractStridedSlice S1x2816x1024 ![3, 0, 0] w
    slices_S4x2816x1024_S1x2816x1024_3_0_0) shapeCasts_S1x2816x1024_S2816x1024)
def ffT (H : FVec Ideal S2x8208x1024 .f32) (wg wu : FVec Ideal S4x1024x2816 .f32) (wd : FVec Ideal S4x2816x1024 .f32) : FVec Ideal S2x8208x1024 .f32 :=
  downT (actT (upT H wg) (upT H wu)) wd
def endT (X : FVec Ideal S2x8208x1024 .f32) (gf gq : FVec Ideal S4x1024 .f32) (wg wu : FVec Ideal S4x1024x2816 .f32) (wd : FVec Ideal S4x2816x1024 .f32) :
    FVec Ideal S2x8208x1024 .f32 := midT X (ffT (rmsT X gf) wg wu wd) gq
def padT (Y : FVec Ideal S2x8208x1024 .f32) : FVec Ideal S2x8448x1024 .f32 :=
  pad S2x8448x1024 ![0, 0, 0] ![0, 240, 0] ![0, 0, 0] Y (sitofp .f32 (constantI S_ 32 0#32)) pads_S2x8208x1024_S2x8448x1024_000_02400_000 h_S_

set_option maxHeartbeats 4000000

theorem res_stages : res_out0 m c
    = padT (endT (midT (rx m c) (mixT (ra m c) (rc m c) (rwo m c)) (rgm m c)) (rgf m c) (rgq m c) (rwg m c) (rwu m c) (rwd m c)) := rfl

theorem rmsT_at (X : S2x8208x1024.Idx → EReal) (g : S4x1024.Idx → EReal) (b : Fin 2) (r : Fin 8208) (l : Fin 1024) :
    (rmsT X g (ix3 b r l) : EReal) = rmsRow (fun j => X (ix3 b r j)) (fun j => g (ix2 3 j)) l := by
  unfold rmsT rmsRow
  pointwise

theorem cat_lo (a k : S2x8208x512.Idx → EReal) (b : Fin 2) (r : Fin 8208) (n : Fin 512) :
    (concatenate S2x8208x1024 2 [⟨S2x8208x512, a⟩, ⟨S2x8208x512, k⟩] concatenates_S2x8208x512_S2x8208x512_S2x8208x1024_d2
      (ix3 b r ⟨n.val, by omega⟩) : EReal) = a (ix3 b r n) := by
  pointwise

theorem cat_hi (a k : S2x8208x512.Idx → EReal) (b : Fin 2) (r : Fin 8208) (n : Fin 512) :
    (concatenate S2x8208x1024 2 [⟨S2x8208x512, a⟩, ⟨S2x8208x512, k⟩] concatenates_S2x8208x512_S2x8208x512_S2x8208x1024_d2
      (ix3 b r ⟨512 + n.val, by omega⟩) : EReal) = k (ix3 b r n) := by
  pointwise

theorem mulT_at (C : S2x8208x1024.Idx → EReal) (w : S4x1024x1024.Idx → EReal) (b : Fin 2) (r : Fin 8208) (l : Fin 1024) :
    (mulT C w (ix3 b r l) : EReal) = ∑ n : Fin 1024, C (ix3 b r n) * w (ix3 3 n l) := by
  unfold mulT
  pointwise

theorem mixT_at (a k : S2x8208x512.Idx → EReal) (w : S4x1024x1024.Idx → EReal) (b : Fin 2) (r : Fin 8208) (l : Fin 1024) :
    (mixT a k w (ix3 b r l) : EReal) = rowMul (fun n : Fin 512 => a (ix3 b r n)) (fun n j => w (ix3 3 ⟨n.val, by omega⟩ j)) l
      + rowMul (fun n : Fin 512 => k (ix3 b r n)) (fun n j => w (ix3 3 ⟨512 + n.val, by omega⟩ j)) l := by
  unfold mixT rowMul
  rw [mulT_at, sum_halves]
  simp only [cat_lo, cat_hi]

theorem midT_at (x M : S2x8208x1024.Idx → EReal) (g : S4x1024.Idx → EReal) (b : Fin 2) (r : Fin 8208) (l : Fin 1024) :
    (midT x M g (ix3 b r l) : EReal) = x (ix3 b r l) + rmsRow (fun j => M (ix3 b r j)) (fun j => g (ix2 3 j)) l := by
  rw [← rmsT_at]
  rfl

theorem upT_at (H : S2x8208x1024.Idx → EReal) (w : S4x1024x2816.Idx → EReal) (b : Fin 2) (r : Fin 8208) (n : Fin 2816) :
    (upT H w (ix3 b r n) : EReal) = rowMul (fun k : Fin 1024 => H (ix3 b r k)) (fun k j => w (ix3 3 k j)) n := by
  unfold upT rowMul
  pointwise

theorem actT_at (G U : S2x8208x2816.Idx → EReal) (b : Fin 2) (r : Fin 8208) (n : Fin 2816) :
    (actT G U (ix3 b r n) : EReal) = act (G (ix3 b r n)) (U (ix3 b r n)) := by
  unfold actT act
  pointwise

theorem downT_at (A : S2x8208x2816.Idx → EReal) (w : S4x2816x1024.Idx → EReal) (b : Fin 2) (r : Fin 8208) (l : Fin 1024) :
    (downT A w (ix3 b r l) : EReal) = rowMul (fun n : Fin 2816 => A (ix3 b r n)) (fun n j => w (ix3 3 n j)) l := by
  unfold downT rowMul
  pointwise

theorem ffT_at (H : S2x8208x1024.Idx → EReal) (wg wu : S4x1024x2816.Idx → EReal) (wd : S4x2816x1024.Idx → EReal) (b : Fin 2) (r : Fin 8208) (l : Fin 1024) :
    (ffT H wg wu wd (ix3 b r l) : EReal) = rowMul (unit (fun k => H (ix3 b r k)) (fun k n => wg (ix3 3 k n)) (fun k n => wu (ix3 3 k n)))
      (fun n j => wd (ix3 3 n j)) l := by
  unfold ffT unit
  rw [downT_at]
  simp only [actT_at, upT_at]

theorem endT_at (X : S2x8208x1024.Idx → EReal) (gf gq : S4x1024.Idx → EReal) (wg wu : S4x1024x2816.Idx → EReal) (wd : S4x2816x1024.Idx → EReal)
    (b : Fin 2) (r : Fin 8208) (l : Fin 1024) :
    (endT X gf gq wg wu wd (ix3 b r l) : EReal) = ffnRow (fun j => X (ix3 b r j)) (fun j => gf (ix2 3 j)) (fun j => gq (ix2 3 j))
      (fun k n => wg (ix3 3 k n)) (fun k n => wu (ix3 3 k n)) (fun n j => wd (ix3 3 n j)) l := by
  unfold endT ffnRow
  rw [midT_at]
  simp only [ffT_at, rmsT_at]

theorem padT_at (Y : S2x8208x1024.Idx → EReal) (b : Fin 2) (r : Fin 8448) (hr : r.val < 8208) (l : Fin 1024) :
    (padT Y (ix3 b r l) : EReal) = Y (ix3 b ⟨r.val, hr⟩ l) := by
  unfold padT
  pointwise
  rw [dif_pos hr]

/-- The reference's result at a real row. -/
theorem res_at (b : Fin 2) (r : Fin 8448) (hr : r.val < 8208) (l : Fin 1024) :
    (res_out0 m c (ix3 b r l) : EReal) = ffnRow (midRow (fun j => rx m c (ix3 b ⟨r.val, hr⟩ j)) (fun j => ra m c (ix3 b ⟨r.val, hr⟩ j))
      (fun j => rc m c (ix3 b ⟨r.val, hr⟩ j)) (fun k j => rwo m c (ix3 3 ⟨k.val, by omega⟩ j)) (fun k j => rwo m c (ix3 3 ⟨512 + k.val, by omega⟩ j))
      (fun j => rgm m c (ix2 3 j))) (fun j => rgf m c (ix2 3 j)) (fun j => rgq m c (ix2 3 j))
      (fun k n => rwg m c (ix3 3 k n)) (fun k n => rwu m c (ix3 3 k n)) (fun n j => rwd m c (ix3 3 n j)) l := by
  rw [res_stages, padT_at _ b r hr l, endT_at]
  refine congrArg (fun v => ffnRow v _ _ _ _ _ l) (funext fun j => ?_)
  unfold midRow
  rw [midT_at]
  simp only [mixT_at]

end Cert.Reference2Ideal.Result

end
-- ==== Proof.lean ====
/-
  The forgetting attention of the prompt and the block after it (output projection and feed-forward), each with its kernel
  and its reference.

  The kernel's runs and what its output array holds are in Proof/Out.lean (through Trip, Tile, Diag, Loop, Reads, RunA, RunB,
  Start, BlockA, BlockB and Region), the packed operands read from the arguments in Proof/Packed.lean, the scores in
  Proof/Score.lean, the reference's result in Proof/Ref.lean and the equality of both in Proof/Equal.lean.
  The run with rounded numbers, where only the frame is claimed, is in Proof/KernelFrame.lean.

  Of the block after it: one row's mathematics is in Proof/Ffn.lean, the kernel's expressions in Proof/FfnTile.lean, its output
  block in Proof/FfnBlock.lean, its operands in Proof/FfnOut.lean, its output array in Proof/FfnArray.lean and the reference's
  result in Proof/FfnRef.lean.
-/
module

public import proofs.«01_k».proof.Defs
public import proofs.«01_k».proof.Proof.Equal
public import proofs.«01_k».proof.Proof.KernelFrame
public import proofs.«01_k».proof.Proof.FfnArray
public import proofs.«01_k».proof.Proof.FfnRef
public import proofs.«01_k».proof.Proof.Gen.Kernel2.Frame
public import Idealize.ShloMosaic.Adequacy
public import Idealize.ShloMosaic.Init

@[expose] public section

noncomputable section

namespace Cert.Proof

open Idealize.ShloMosaic Idealize.SL.Sem

/-- The kernel with exact numbers ends with its arguments as they were and its counters at zero. -/
theorem frame_ideal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => Cert.KernelIdeal.Out.Kept m r.2.mem ∧ r.2.sem = fun _ => 0) :=
  (θ_run _ _ _).mono (fun _ h => h.1) (Cert.KernelIdeal.Out.run_out m g)

/-- The reference's run: its result, its arguments as they were and its counters at zero. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

theorem algebraic : Cert.algebraic_KernelIdeal_ReferenceIdeal_on_real_rows_pre_finite (hKernelIdeal := Cert.KernelIdeal.Gen.facts)
    (hReferenceIdeal := Cert.ReferenceIdeal.Gen.facts) (hPre_finite := Cert.Equal.pre_facts) (hOn_real_rows := Cert.Equal.on_facts) := by
  haveI := Cert.Equal.on_facts
  intro m g m' g' hpre hargs
  refine ⟨fun c => Cert.ReferenceIdeal.Value.res_out0 m' c, ?_, ?_⟩
  · refine (θ_run _ _ _).mono (fun r h c => ⟨fun i hi => ?_, h.1.1 c⟩) (Cert.KernelIdeal.Out.run_out m g)
    idx_vars i
    have hr := Cert.Equal.row_of_on _ _ _ _ _ _ _ hi
    have hR := Cert.Equal.reals_of_pre m hpre c
    refine (h.2 c (Cert.KernelIdeal.Score.below m c hR) _ _ _).trans ?_
    refine (Cert.Equal.equal m m' c (hargs c).1 (hargs c).2.1 (hargs c).2.2.1 (hargs c).2.2.2 hR _ _ hr _).trans ?_
    exact congrFun (Cert.ReferenceIdeal.Result.res_stages m' c).symm _
  · exact (θ_run _ _ _).mono (fun r h c => ⟨fun i _ => congrFun (h c).1 i, (h c).2⟩) (Cert.ReferenceIdeal.Value.run (F := Ideal) m' g')

/-- The second kernel's run: its arguments as they were and its counters at zero, first with rounded numbers and then with
    exact ones. -/
theorem frame_kernel2 : Cert.quiescent_Kernel2 (hKernel2 := Cert.Kernel2.Gen.facts) := fun m g _ =>
  Cert.Kernel2.Gen.frame (F := Bits) m g

theorem frame_ideal2 : Cert.quiescent_Kernel2Ideal (hKernel2Ideal := Cert.Kernel2Ideal.Gen.facts) := fun m g _ =>
  Cert.Kernel2Ideal.Gen.frame (F := Ideal) m g

theorem frame_reference2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

/-- The side condition of the second mask, and the rows it keeps. -/
theorem on_facts2 : Cert.On_real_rows2.Facts where
  bcast_S_S2x8448x1024 := by decide

theorem row_of_on2 [Cert.On_real_rows2.Facts] {F : FTy → Type} [FloatOps F] (x : FVec F Cert.On_real_rows2.S2x8208x1024 .f32)
    (a k : FVec F Cert.On_real_rows2.S2x8208x512 .f32) (wo : FVec F Cert.On_real_rows2.S4x1024x1024 .f32)
    (gm gf gq : FVec F Cert.On_real_rows2.S4x1024 .f32) (wg wu : FVec F Cert.On_real_rows2.S4x1024x2816 .f32)
    (wd : FVec F Cert.On_real_rows2.S4x2816x1024 .f32) (b : Fin 2) (r : Fin 8448) (l : Fin 1024)
    (h : Cert.On_real_rows2.fn (F := F) x a k wo gm gf gq wg wu wd (ix3 b r l) = 1#1) : r.val < 8208 := by
  have h' : IntOp.cmpi .slt (BitVec.ofNat 32 r.val) (BitVec.ofNat 32 8208) = 1#1 := h
  exact (WordCmp.cmpi_slt_ofNat_eq_one_iff (w := 32) (by omega) (by omega)).1 h'

theorem algebraic2 : Cert.algebraic_Kernel2Ideal_Reference2Ideal_on_real_rows2 (hKernel2Ideal := Cert.Kernel2Ideal.Gen.facts)
    (hReference2Ideal := Cert.Reference2Ideal.Gen.facts) (hOn_real_rows2 := on_facts2) := by
  haveI := on_facts2
  intro m g m' g' _ hargs
  refine ⟨fun c => Cert.Reference2Ideal.Value.res_out0 m' c, ?_, ?_⟩
  · refine (θ_run _ _ _).mono (fun r h c => ⟨fun i hi => ?_, (h c).2⟩) (Cert.Kernel2Ideal.Value.run_blocks (F := Ideal) m g)
    idx_vars i
    have hr := row_of_on2 _ _ _ _ _ _ _ _ _ _ _ _ _ hi
    refine (congrFun (h c).1 _).trans ((Cert.Kernel2Ideal.Array.arr_eq m c _ _ _).trans ?_)
    refine (Cert.Kernel2Ideal.Array.G_at m c _ _ hr _).trans ?_
    refine Eq.trans ?_ (Cert.Reference2Ideal.Result.res_at m' c _ _ hr _).symm
    obtain ⟨h0, h1, h2, h3, h4, h5, h6, h7, h8, h9⟩ := hargs c
    have e0 : Cert.Reference2Ideal.Result.rx m' c = Cert.Kernel2Ideal.Out.ax m c := h0
    have e1 : Cert.Reference2Ideal.Result.ra m' c = Cert.Kernel2Ideal.Out.aa m c := h1
    have e2 : Cert.Reference2Ideal.Result.rc m' c = Cert.Kernel2Ideal.Out.ac m c := h2
    have e3 : Cert.Reference2Ideal.Result.rwo m' c = Cert.Kernel2Ideal.Out.awo m c := h3
    have e4 : Cert.Reference2Ideal.Result.rgm m' c = Cert.Kernel2Ideal.Out.agm m c := h4
    have e5 : Cert.Reference2Ideal.Result.rgf m' c = Cert.Kernel2Ideal.Out.agf m c := h5
    have e6 : Cert.Reference2Ideal.Result.rgq m' c = Cert.Kernel2Ideal.Out.agq m c := h6
    have e7 : Cert.Reference2Ideal.Result.rwg m' c = Cert.Kernel2Ideal.Out.awg m c := h7
    have e8 : Cert.Reference2Ideal.Result.rwu m' c = Cert.Kernel2Ideal.Out.awu m c := h8
    have e9 : Cert.Reference2Ideal.Result.rwd m' c = Cert.Kernel2Ideal.Out.awd m c := h9
    rw [e0, e1, e2, e3, e4, e5, e6, e7, e8, e9]
  · exact (θ_run _ _ _).mono (fun r h c => ⟨fun i _ => congrFun (h c).1 i, (h c).2⟩) (Cert.Reference2Ideal.Value.run (F := Ideal) m' g')

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Equal.pre_facts, Cert.Equal.on_facts, on_facts2,
    fun m g _ => Cert.Kernel.Body.kept m g, fun m g _ => frame_ideal m g, fun m g _ => frame_ideal m g,
    frame_reference, fun m g _ => frame_reference m g trivial, frame_kernel2, frame_ideal2, frame_reference2,
    IdealRules.named_const.statement Cert.KernelIdeal.κ "mask" .f32 0xF149F2CA#32 ⊥ rfl, algebraic, trivial, algebraic2⟩

end Cert.Proof

end
